-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_encoder_inputs_finite [hPre_encoder_inputs_finite : Cert.Pre_encoder_inputs_finite.Facts] (m : (ℓ : Loc Cert.KernelIdeal.nD Cert.KernelIdeal.τ Cert.KernelIdeal.sig) → Buf (Elt Ideal) ℓ) : Prop :=
  ∀ c : Dev Cert.KernelIdeal.nD,
    (Cert.Pre_encoder_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_encoder_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_encoder_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 = (fun _ => 1#1)
    ∧ (Cert.Pre_encoder_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 = (fun _ => 1#1)
    ∧ (Cert.Pre_encoder_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.1 = (fun _ => 1#1)
    ∧ (Cert.Pre_encoder_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.1 = (fun _ => 1#1)
    ∧ (Cert.Pre_encoder_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_encoder_inputs_finite [hPre_encoder_inputs_finite : Cert.Pre_encoder_inputs_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_encoder_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_encoder_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_encoder_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.1 = (fun _ => 1#1)
    ∧ (Cert.Pre_encoder_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.1 = (fun _ => 1#1)
    ∧ (Cert.Pre_encoder_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.1 = (fun _ => 1#1)
    ∧ (Cert.Pre_encoder_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.1 = (fun _ => 1#1)
    ∧ (Cert.Pre_encoder_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_encoder_inputs_finite [hKernelIdeal : Cert.KernelIdeal.Facts] [hPre_encoder_inputs_finite : Cert.Pre_encoder_inputs_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_encoder_inputs_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_encoder_inputs_finite [hReferenceIdeal : Cert.ReferenceIdeal.Facts] [hPre_encoder_inputs_finite : Cert.Pre_encoder_inputs_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_encoder_inputs_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_encoder_inputs_finite [hKernelIdeal : Cert.KernelIdeal.Facts] [hReferenceIdeal : Cert.ReferenceIdeal.Facts] [hPre_encoder_inputs_finite : Cert.Pre_encoder_inputs_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_encoder_inputs_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v244)) (v1 : (c : Dev Cert.KernelIdeal.nD) → Buf (Elt Ideal) ((c.tc : Thread Cert.KernelIdeal.nD Cert.KernelIdeal.τ).loc Cert.KernelIdeal.main_v111)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v244) = v0 c
          ∧ r.2.mem ((c.tc : Thread Cert.KernelIdeal.nD Cert.KernelIdeal.τ).loc Cert.KernelIdeal.main_v111) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_encoder_inputs_finite : Cert.Pre_encoder_inputs_finite.Facts),
    quiescent_Kernel (hKernel := hKernel)
    ∧ quiescent_KernelIdeal (hKernelIdeal := hKernelIdeal)
    ∧ quiescent_KernelIdeal_pre_encoder_inputs_finite (hKernelIdeal := hKernelIdeal) (hPre_encoder_inputs_finite := hPre_encoder_inputs_finite)
    ∧ quiescent_ReferenceIdeal (hReferenceIdeal := hReferenceIdeal)
    ∧ quiescent_ReferenceIdeal_pre_encoder_inputs_finite (hReferenceIdeal := hReferenceIdeal) (hPre_encoder_inputs_finite := hPre_encoder_inputs_finite)
    ∧ preserves_Kernel_KernelIdeal
    ∧ algebraic_KernelIdeal_ReferenceIdeal_pre_encoder_inputs_finite (hKernelIdeal := hKernelIdeal) (hReferenceIdeal := hReferenceIdeal) (hPre_encoder_inputs_finite := hPre_encoder_inputs_finite)
-- ==== Pre_encoder_inputs_finite.lean ====
abbrev S8x224x224x3 : Shape := ⟨4, ![8, 224, 224, 3]⟩
abbrev S4x4x3x128 : Shape := ⟨4, ![4, 4, 3, 128]⟩
abbrev S128 : Shape := ⟨1, ![128]⟩
abbrev S4x4x128x256 : Shape := ⟨4, ![4, 4, 128, 256]⟩
abbrev S256 : Shape := ⟨1, ![256]⟩
abbrev S1x1x256x64 : Shape := ⟨4, ![1, 1, 256, 64]⟩
abbrev S64 : Shape := ⟨1, ![64]⟩
abbrev S512x64 : Shape := ⟨2, ![512, 64]⟩
abbrev S4x4x64x256 : Shape := ⟨4, ![4, 4, 64, 256]⟩
abbrev S4x4x256x3 : Shape := ⟨4, ![4, 4, 256, 3]⟩
abbrev S3 : Shape := ⟨1, ![3]⟩
abbrev S_ : Shape := ⟨0, ![]⟩

class Facts : Prop where
  bcast_S_S8x224x224x3 : S_.BroadcastsInDim S8x224x224x3 (![] : Fin 0 → Fin S8x224x224x3.rank)
  bcast_S_S4x4x3x128 : S_.BroadcastsInDim S4x4x3x128 (![] : Fin 0 → Fin S4x4x3x128.rank)
  bcast_S_S128 : S_.BroadcastsInDim S128 (![] : Fin 0 → Fin S128.rank)
  bcast_S_S4x4x128x256 : S_.BroadcastsInDim S4x4x128x256 (![] : Fin 0 → Fin S4x4x128x256.rank)
  bcast_S_S256 : S_.BroadcastsInDim S256 (![] : Fin 0 → Fin S256.rank)
  bcast_S_S1x1x256x64 : S_.BroadcastsInDim S1x1x256x64 (![] : Fin 0 → Fin S1x1x256x64.rank)
  bcast_S_S64 : S_.BroadcastsInDim S64 (![] : Fin 0 → Fin S64.rank)

variable [Facts]

def fn_part1 {F : FTy → Type} [FloatOps F] (main_arg6 : FVec F S64 .f32) (main_v2 : IVec S8x224x224x3 1) (main_v5 : IVec S4x4x3x128 1) (main_v8 : IVec S128 1) (main_v11 : IVec S4x4x128x256 1) (main_v14 : IVec S256 1) (main_v17 : IVec S1x1x256x64 1) : IVec S8x224x224x3 1 × IVec S4x4x3x128 1 × IVec S128 1 × IVec S4x4x128x256 1 × IVec S256 1 × IVec S1x1x256x64 1 × IVec S64 1 :=
  let main_v18 : FVec F S64 .f32 := Host.absf main_arg6
  let main_cst_5 : FVec F S_ .f32 := constant S_ .f32 0x7F800000#32
  let main_v19 : FVec F S64 .f32 := broadcastInDim S64 ![] bcast_S_S64 main_cst_5
  let main_v20 : IVec S64 1 := cmpf .olt main_v18 main_v19
  (main_v2, main_v5, main_v8, main_v11, main_v14, main_v17, main_v20)

def fn {F : FTy → Type} [FloatOps F] (main_arg0 : FVec F S8x224x224x3 .f32) (main_arg1 : FVec F S4x4x3x128 .f32) (main_arg2 : FVec F S128 .f32) (main_arg3 : FVec F S4x4x128x256 .f32) (main_arg4 : FVec F S256 .f32) (main_arg5 : FVec F S1x1x256x64 .f32) (main_arg6 : FVec F S64 .f32) (main_arg7 : FVec F S512x64 .f32) (main_arg8 : FVec F S4x4x64x256 .f32) (main_arg9 : FVec F S256 .f32) (main_arg10 : FVec F S4x4x256x3 .f32) (main_arg11 : FVec F S3 .f32) : IVec S8x224x224x3 1 × IVec S4x4x3x128 1 × IVec S128 1 × IVec S4x4x128x256 1 × IVec S256 1 × IVec S1x1x256x64 1 × IVec S64 1 :=
  let main_v0 : FVec F S8x224x224x3 .f32 := Host.absf main_arg0
  let main_cst : FVec F S_ .f32 := constant S_ .f32 0x7F800000#32
  let main_v1 : FVec F S8x224x224x3 .f32 := broadcastInDim S8x224x224x3 ![] bcast_S_S8x224x224x3 main_cst
  let main_v2 : IVec S8x224x224x3 1 := cmpf .olt main_v0 main_v1
  let main_v3 : FVec F S4x4x3x128 .f32 := Host.absf main_arg1
  let main_cst_0 : FVec F S_ .f32 := constant S_ .f32 0x7F800000#32
  let main_v4 : FVec F S4x4x3x128 .f32 := broadcastInDim S4x4x3x128 ![] bcast_S_S4x4x3x128 main_cst_0
  let main_v5 : IVec S4x4x3x128 1 := cmpf .olt main_v3 main_v4
  let main_v6 : FVec F S128 .f32 := Host.absf main_arg2
  let main_cst_1 : FVec F S_ .f32 := constant S_ .f32 0x7F800000#32
  let main_v7 : FVec F S128 .f32 := broadcastInDim S128 ![] bcast_S_S128 main_cst_1
  let main_v8 : IVec S128 1 := cmpf .olt main_v6 main_v7
  let main_v9 : FVec F S4x4x128x256 .f32 := Host.absf main_arg3
  let main_cst_2 : FVec F S_ .f32 := constant S_ .f32 0x7F800000#32
  let main_v10 : FVec F S4x4x128x256 .f32 := broadcastInDim S4x4x128x256 ![] bcast_S_S4x4x128x256 main_cst_2
  let main_v11 : IVec S4x4x128x256 1 := cmpf .olt main_v9 main_v10
  let main_v12 : FVec F S256 .f32 := Host.absf main_arg4
  let main_cst_3 : FVec F S_ .f32 := constant S_ .f32 0x7F800000#32
  let main_v13 : FVec F S256 .f32 := broadcastInDim S256 ![] bcast_S_S256 main_cst_3
  let main_v14 : IVec S256 1 := cmpf .olt main_v12 main_v13
  let main_v15 : FVec F S1x1x256x64 .f32 := Host.absf main_arg5
  let main_cst_4 : FVec F S_ .f32 := constant S_ .f32 0x7F800000#32
  let main_v16 : FVec F S1x1x256x64 .f32 := broadcastInDim S1x1x256x64 ![] bcast_S_S1x1x256x64 main_cst_4
  let main_v17 : IVec S1x1x256x64 1 := cmpf .olt main_v15 main_v16
  fn_part1 (F := F) main_arg6 main_v2 main_v5 main_v8 main_v11 main_v14 main_v17
-- ==== Kernel.lean ====
abbrev S8x224x224x3 : Shape := ⟨4, ![8, 224, 224, 3]⟩
abbrev S4x4x3x128 : Shape := ⟨4, ![4, 4, 3, 128]⟩
abbrev S128 : Shape := ⟨1, ![128]⟩
abbrev S4x4x128x256 : Shape := ⟨4, ![4, 4, 128, 256]⟩
abbrev S256 : Shape := ⟨1, ![256]⟩
abbrev S1x1x256x64 : Shape := ⟨4, ![1, 1, 256, 64]⟩
abbrev S64 : Shape := ⟨1, ![64]⟩
abbrev S512x64 : Shape := ⟨2, ![512, 64]⟩
abbrev S4x4x64x256 : Shape := ⟨4, ![4, 4, 64, 256]⟩
abbrev S4x4x256x3 : Shape := ⟨4, ![4, 4, 256, 3]⟩
abbrev S3 : Shape := ⟨1, ![3]⟩
abbrev S_ : Shape := ⟨0, ![]⟩
abbrev S8x226x226x3 : Shape := ⟨4, ![8, 226, 226, 3]⟩
abbrev S8x113x113x3 : Shape := ⟨4, ![8, 113, 113, 3]⟩
abbrev S8x112x112x3 : Shape := ⟨4, ![8, 112, 112, 3]⟩
abbrev S8x113x112x3 : Shape := ⟨4, ![8, 113, 112, 3]⟩
abbrev S8x112x113x3 : Shape := ⟨4, ![8, 112, 113, 3]⟩
abbrev S8x112x112x1x3 : Shape := ⟨5, ![8, 112, 112, 1, 3]⟩
abbrev S8x112x112x16x3 : Shape := ⟨5, ![8, 112, 112, 16, 3]⟩
abbrev S100352x48 : Shape := ⟨2, ![100352, 48]⟩
abbrev S48x128 : Shape := ⟨2, ![48, 128]⟩
abbrev S1x128 : Shape := ⟨2, ![1, 128]⟩
abbrev S100352x128 : Shape := ⟨2, ![100352, 128]⟩
abbrev S1024x48 : Shape := ⟨2, ![1024, 48]⟩
abbrev S1024x128 : Shape := ⟨2, ![1024, 128]⟩
abbrev S8x112x112x128 : Shape := ⟨4, ![8, 112, 112, 128]⟩
abbrev S8x114x114x128 : Shape := ⟨4, ![8, 114, 114, 128]⟩
abbrev S8x57x57x128 : Shape := ⟨4, ![8, 57, 57, 128]⟩
abbrev S8x56x56x128 : Shape := ⟨4, ![8, 56, 56, 128]⟩
abbrev S8x57x56x128 : Shape := ⟨4, ![8, 57, 56, 128]⟩
abbrev S8x56x57x128 : Shape := ⟨4, ![8, 56, 57, 128]⟩
abbrev S8x56x56x1x128 : Shape := ⟨5, ![8, 56, 56, 1, 128]⟩
abbrev S8x56x56x16x128 : Shape := ⟨5, ![8, 56, 56, 16, 128]⟩
abbrev S25088x2048 : Shape := ⟨2, ![25088, 2048]⟩
abbrev S2048x256 : Shape := ⟨2, ![2048, 256]⟩
abbrev S1x256 : Shape := ⟨2, ![1, 256]⟩
abbrev S25088x256 : Shape := ⟨2, ![25088, 256]⟩
abbrev S512x2048 : Shape := ⟨2, ![512, 2048]⟩
abbrev S512x256 : Shape := ⟨2, ![512, 256]⟩
abbrev S256x64 : Shape := ⟨2, ![256, 64]⟩
abbrev S1x64 : Shape := ⟨2, ![1, 64]⟩
abbrev S25088x64 : Shape := ⟨2, ![25088, 64]⟩
abbrev S3584x256 : Shape := ⟨2, ![3584, 256]⟩
abbrev S3584x64 : Shape := ⟨2, ![3584, 64]⟩
abbrev S8x56x56x64 : Shape := ⟨4, ![8, 56, 56, 64]⟩
abbrev S8x56x64x56 : Shape := ⟨4, ![8, 56, 64, 56]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S64x512 : Shape := ⟨2, ![64, 512]⟩
abbrev S1x512x64 : Shape := ⟨3, ![1, 512, 64]⟩
abbrev S1 : Shape := ⟨1, ![1]⟩
abbrev S1x1x1 : Shape := ⟨3, ![1, 1, 1]⟩
abbrev S1x1 : Shape := ⟨2, ![1, 1]⟩
abbrev S8x58x58x64 : Shape := ⟨4, ![8, 58, 58, 64]⟩
abbrev S8x56x56x1x64 : Shape := ⟨5, ![8, 56, 56, 1, 64]⟩
abbrev S8x56x56x4x64 : Shape := ⟨5, ![8, 56, 56, 4, 64]⟩
abbrev S1x25088x256 : Shape := ⟨3, ![1, 25088, 256]⟩
abbrev S4x25088x256 : Shape := ⟨3, ![4, 25088, 256]⟩
abbrev S2x2x64x256 : Shape := ⟨4, ![2, 2, 64, 256]⟩
abbrev S256x256 : Shape := ⟨2, ![256, 256]⟩
abbrev S1x256x256 : Shape := ⟨3, ![1, 256, 256]⟩
abbrev S4x256x256 : Shape := ⟨3, ![4, 256, 256]⟩
abbrev S1x512x256 : Shape := ⟨3, ![1, 512, 256]⟩
abbrev S2x2x8x56x56x256 : Shape := ⟨6, ![2, 2, 8, 56, 56, 256]⟩
abbrev S8x56x2x56x2x256 : Shape := ⟨6, ![8, 56, 2, 56, 2, 256]⟩
abbrev S8x112x112x256 : Shape := ⟨4, ![8, 112, 112, 256]⟩
abbrev S8x114x114x256 : Shape := ⟨4, ![8, 114, 114, 256]⟩
abbrev S8x112x112x1x256 : Shape := ⟨5, ![8, 112, 112, 1, 256]⟩
abbrev S8x112x112x4x256 : Shape := ⟨5, ![8, 112, 112, 4, 256]⟩
abbrev S100352x1024 : Shape := ⟨2, ![100352, 1024]⟩
abbrev S1x100352x1024 : Shape := ⟨3, ![1, 100352, 1024]⟩
abbrev S4x100352x1024 : Shape := ⟨3, ![4, 100352, 1024]⟩
abbrev S2x2x256x3 : Shape := ⟨4, ![2, 2, 256, 3]⟩
abbrev S1024x3 : Shape := ⟨2, ![1024, 3]⟩
abbrev S1x1024x3 : Shape := ⟨3, ![1, 1024, 3]⟩
abbrev S4x1024x3 : Shape := ⟨3, ![4, 1024, 3]⟩
abbrev S4x1024x128 : Shape := ⟨3, ![4, 1024, 128]⟩
abbrev S4x100352x128 : Shape := ⟨3, ![4, 100352, 128]⟩
abbrev S1x512x1024 : Shape := ⟨3, ![1, 512, 1024]⟩
abbrev S1x1024x128 : Shape := ⟨3, ![1, 1024, 128]⟩
abbrev S1x512x128 : Shape := ⟨3, ![1, 512, 128]⟩
abbrev S512x1024 : Shape := ⟨2, ![512, 1024]⟩
abbrev S512x128 : Shape := ⟨2, ![512, 128]⟩
abbrev S2x2x8x112x112x128 : Shape := ⟨6, ![2, 2, 8, 112, 112, 128]⟩
abbrev S8x112x2x112x2x128 : Shape := ⟨6, ![8, 112, 2, 112, 2, 128]⟩
abbrev S8x224x224x128 : Shape := ⟨4, ![8, 224, 224, 128]⟩

abbrev nBuf : Space → Nat
  | .hbm => 272
  | .vmem => 38
  | .smem => 0
  | _ => 0

abbrev hbmTy0_0 (i : Nat) : BufTy := match i % 128 with
  | 0 => ⟨S8x224x224x3, .f32⟩
  | 1 => ⟨S4x4x3x128, .f32⟩
  | 2 => ⟨S128, .f32⟩
  | 3 => ⟨S4x4x128x256, .f32⟩
  | 4 => ⟨S256, .f32⟩
  | 5 => ⟨S1x1x256x64, .f32⟩
  | 6 => ⟨S64, .f32⟩
  | 7 => ⟨S512x64, .f32⟩
  | 8 => ⟨S4x4x64x256, .f32⟩
  | 9 => ⟨S256, .f32⟩
  | 10 => ⟨S4x4x256x3, .f32⟩
  | 11 => ⟨S3, .f32⟩
  | 12 => ⟨S_, .i32⟩
  | 13 => ⟨S_, .f32⟩
  | 14 => ⟨S8x226x226x3, .f32⟩
  | 15 => ⟨S8x113x113x3, .f32⟩
  | 16 => ⟨S8x112x112x3, .f32⟩
  | 17 => ⟨S8x113x113x3, .f32⟩
  | 18 => ⟨S8x112x112x3, .f32⟩
  | 19 => ⟨S8x113x112x3, .f32⟩
  | 20 => ⟨S8x112x112x3, .f32⟩
  | 21 => ⟨S8x113x112x3, .f32⟩
  | 22 => ⟨S8x112x112x3, .f32⟩
  | 23 => ⟨S8x113x113x3, .f32⟩
  | 24 => ⟨S8x112x112x3, .f32⟩
  | 25 => ⟨S8x113x113x3, .f32⟩
  | 26 => ⟨S8x112x112x3, .f32⟩
  | 27 => ⟨S8x113x112x3, .f32⟩
  | 28 => ⟨S8x112x112x3, .f32⟩
  | 29 => ⟨S8x113x112x3, .f32⟩
  | 30 => ⟨S8x112x112x3, .f32⟩
  | 31 => ⟨S8x112x113x3, .f32⟩
  | 32 => ⟨S8x112x112x3, .f32⟩
  | 33 => ⟨S8x112x113x3, .f32⟩
  | 34 => ⟨S8x112x112x3, .f32⟩
  | 35 => ⟨S8x112x112x3, .f32⟩
  | 36 => ⟨S8x112x112x3, .f32⟩
  | 37 => ⟨S8x112x113x3, .f32⟩
  | 38 => ⟨S8x112x112x3, .f32⟩
  | 39 => ⟨S8x112x113x3, .f32⟩
  | 40 => ⟨S8x112x112x3, .f32⟩
  | 41 => ⟨S8x112x112x3, .f32⟩
  | 42 => ⟨S8x112x112x3, .f32⟩
  | 43 => ⟨S8x112x112x1x3, .f32⟩
  | 44 => ⟨S8x112x112x1x3, .f32⟩
  | 45 => ⟨S8x112x112x1x3, .f32⟩
  | 46 => ⟨S8x112x112x1x3, .f32⟩
  | 47 => ⟨S8x112x112x1x3, .f32⟩
  | 48 => ⟨S8x112x112x1x3, .f32⟩
  | 49 => ⟨S8x112x112x1x3, .f32⟩
  | 50 => ⟨S8x112x112x1x3, .f32⟩
  | 51 => ⟨S8x112x112x1x3, .f32⟩
  | 52 => ⟨S8x112x112x1x3, .f32⟩
  | 53 => ⟨S8x112x112x1x3, .f32⟩
  | 54 => ⟨S8x112x112x1x3, .f32⟩
  | 55 => ⟨S8x112x112x1x3, .f32⟩
  | 56 => ⟨S8x112x112x1x3, .f32⟩
  | 57 => ⟨S8x112x112x1x3, .f32⟩
  | 58 => ⟨S8x112x112x1x3, .f32⟩
  | 59 => ⟨S8x112x112x16x3, .f32⟩
  | 60 => ⟨S100352x48, .f32⟩
  | 61 => ⟨S48x128, .f32⟩
  | 62 => ⟨S1x128, .f32⟩
  | 63 => ⟨S100352x128, .f32⟩
  | 64 => ⟨S8x112x112x128, .f32⟩
  | 65 => ⟨S_, .i32⟩
  | 66 => ⟨S_, .f32⟩
  | 67 => ⟨S8x114x114x128, .f32⟩
  | 68 => ⟨S8x57x57x128, .f32⟩
  | 69 => ⟨S8x56x56x128, .f32⟩
  | 70 => ⟨S8x57x57x128, .f32⟩
  | 71 => ⟨S8x56x56x128, .f32⟩
  | 72 => ⟨S8x57x56x128, .f32⟩
  | 73 => ⟨S8x56x56x128, .f32⟩
  | 74 => ⟨S8x57x56x128, .f32⟩
  | 75 => ⟨S8x56x56x128, .f32⟩
  | 76 => ⟨S8x57x57x128, .f32⟩
  | 77 => ⟨S8x56x56x128, .f32⟩
  | 78 => ⟨S8x57x57x128, .f32⟩
  | 79 => ⟨S8x56x56x128, .f32⟩
  | 80 => ⟨S8x57x56x128, .f32⟩
  | 81 => ⟨S8x56x56x128, .f32⟩
  | 82 => ⟨S8x57x56x128, .f32⟩
  | 83 => ⟨S8x56x56x128, .f32⟩
  | 84 => ⟨S8x56x57x128, .f32⟩
  | 85 => ⟨S8x56x56x128, .f32⟩
  | 86 => ⟨S8x56x57x128, .f32⟩
  | 87 => ⟨S8x56x56x128, .f32⟩
  | 88 => ⟨S8x56x56x128, .f32⟩
  | 89 => ⟨S8x56x56x128, .f32⟩
  | 90 => ⟨S8x56x57x128, .f32⟩
  | 91 => ⟨S8x56x56x128, .f32⟩
  | 92 => ⟨S8x56x57x128, .f32⟩
  | 93 => ⟨S8x56x56x128, .f32⟩
  | 94 => ⟨S8x56x56x128, .f32⟩
  | 95 => ⟨S8x56x56x128, .f32⟩
  | 96 => ⟨S8x56x56x1x128, .f32⟩
  | 97 => ⟨S8x56x56x1x128, .f32⟩
  | 98 => ⟨S8x56x56x1x128, .f32⟩
  | 99 => ⟨S8x56x56x1x128, .f32⟩
  | 100 => ⟨S8x56x56x1x128, .f32⟩
  | 101 => ⟨S8x56x56x1x128, .f32⟩
  | 102 => ⟨S8x56x56x1x128, .f32⟩
  | 103 => ⟨S8x56x56x1x128, .f32⟩
  | 104 => ⟨S8x56x56x1x128, .f32⟩
  | 105 => ⟨S8x56x56x1x128, .f32⟩
  | 106 => ⟨S8x56x56x1x128, .f32⟩
  | 107 => ⟨S8x56x56x1x128, .f32⟩
  | 108 => ⟨S8x56x56x1x128, .f32⟩
  | 109 => ⟨S8x56x56x1x128, .f32⟩
  | 110 => ⟨S8x56x56x1x128, .f32⟩
  | 111 => ⟨S8x56x56x1x128, .f32⟩
  | 112 => ⟨S8x56x56x16x128, .f32⟩
  | 113 => ⟨S25088x2048, .f32⟩
  | 114 => ⟨S2048x256, .f32⟩
  | 115 => ⟨S1x256, .f32⟩
  | 116 => ⟨S25088x256, .f32⟩
  | 117 => ⟨S256x64, .f32⟩
  | 118 => ⟨S1x64, .f32⟩
  | 119 => ⟨S25088x64, .f32⟩
  | 120 => ⟨S8x56x56x64, .f32⟩
  | 121 => ⟨S8x56x64x56, .f32⟩
  | 122 => ⟨S25088x64, .f32⟩
  | 123 => ⟨S25088x64, .f32⟩
  | 124 => ⟨S1x128, .f32⟩
  | 125 => ⟨S1x1, .f32⟩
  | 126 => ⟨S_, .f32⟩
  | 127 => ⟨S_, .f32⟩
  | _ => ⟨S8x224x224x3, .f32⟩

abbrev hbmTy0_1 (i : Nat) : BufTy := match i % 128 with
  | 0 => ⟨S_, .f32⟩
  | 1 => ⟨S_, .f32⟩
  | 2 => ⟨S_, .f32⟩
  | 3 => ⟨S8x56x64x56, .f32⟩
  | 4 => ⟨S8x56x56x64, .f32⟩
  | 5 => ⟨S_, .i32⟩
  | 6 => ⟨S_, .f32⟩
  | 7 => ⟨S8x58x58x64, .f32⟩
  | 8 => ⟨S8x56x56x64, .f32⟩
  | 9 => ⟨S8x56x56x64, .f32⟩
  | 10 => ⟨S8x56x56x64, .f32⟩
  | 11 => ⟨S8x56x56x64, .f32⟩
  | 12 => ⟨S8x56x56x1x64, .f32⟩
  | 13 => ⟨S8x56x56x1x64, .f32⟩
  | 14 => ⟨S8x56x56x1x64, .f32⟩
  | 15 => ⟨S8x56x56x1x64, .f32⟩
  | 16 => ⟨S8x56x56x4x64, .f32⟩
  | 17 => ⟨S25088x256, .f32⟩
  | 18 => ⟨S8x56x56x64, .f32⟩
  | 19 => ⟨S8x56x56x64, .f32⟩
  | 20 => ⟨S8x56x56x64, .f32⟩
  | 21 => ⟨S8x56x56x64, .f32⟩
  | 22 => ⟨S8x56x56x1x64, .f32⟩
  | 23 => ⟨S8x56x56x1x64, .f32⟩
  | 24 => ⟨S8x56x56x1x64, .f32⟩
  | 25 => ⟨S8x56x56x1x64, .f32⟩
  | 26 => ⟨S8x56x56x4x64, .f32⟩
  | 27 => ⟨S25088x256, .f32⟩
  | 28 => ⟨S8x56x56x64, .f32⟩
  | 29 => ⟨S8x56x56x64, .f32⟩
  | 30 => ⟨S8x56x56x64, .f32⟩
  | 31 => ⟨S8x56x56x64, .f32⟩
  | 32 => ⟨S8x56x56x1x64, .f32⟩
  | 33 => ⟨S8x56x56x1x64, .f32⟩
  | 34 => ⟨S8x56x56x1x64, .f32⟩
  | 35 => ⟨S8x56x56x1x64, .f32⟩
  | 36 => ⟨S8x56x56x4x64, .f32⟩
  | 37 => ⟨S25088x256, .f32⟩
  | 38 => ⟨S8x56x56x64, .f32⟩
  | 39 => ⟨S8x56x56x64, .f32⟩
  | 40 => ⟨S8x56x56x64, .f32⟩
  | 41 => ⟨S8x56x56x64, .f32⟩
  | 42 => ⟨S8x56x56x1x64, .f32⟩
  | 43 => ⟨S8x56x56x1x64, .f32⟩
  | 44 => ⟨S8x56x56x1x64, .f32⟩
  | 45 => ⟨S8x56x56x1x64, .f32⟩
  | 46 => ⟨S8x56x56x4x64, .f32⟩
  | 47 => ⟨S25088x256, .f32⟩
  | 48 => ⟨S1x25088x256, .f32⟩
  | 49 => ⟨S1x25088x256, .f32⟩
  | 50 => ⟨S1x25088x256, .f32⟩
  | 51 => ⟨S1x25088x256, .f32⟩
  | 52 => ⟨S4x25088x256, .f32⟩
  | 53 => ⟨S2x2x64x256, .f32⟩
  | 54 => ⟨S256x256, .f32⟩
  | 55 => ⟨S2x2x64x256, .f32⟩
  | 56 => ⟨S256x256, .f32⟩
  | 57 => ⟨S2x2x64x256, .f32⟩
  | 58 => ⟨S256x256, .f32⟩
  | 59 => ⟨S2x2x64x256, .f32⟩
  | 60 => ⟨S256x256, .f32⟩
  | 61 => ⟨S1x256x256, .f32⟩
  | 62 => ⟨S1x256x256, .f32⟩
  | 63 => ⟨S1x256x256, .f32⟩
  | 64 => ⟨S1x256x256, .f32⟩
  | 65 => ⟨S4x256x256, .f32⟩
  | 66 => ⟨S1x256, .f32⟩
  | 67 => ⟨S4x25088x256, .f32⟩
  | 68 => ⟨S2x2x8x56x56x256, .f32⟩
  | 69 => ⟨S8x56x2x56x2x256, .f32⟩
  | 70 => ⟨S8x112x112x256, .f32⟩
  | 71 => ⟨S_, .i32⟩
  | 72 => ⟨S_, .f32⟩
  | 73 => ⟨S8x114x114x256, .f32⟩
  | 74 => ⟨S8x112x112x256, .f32⟩
  | 75 => ⟨S8x112x112x256, .f32⟩
  | 76 => ⟨S8x112x112x256, .f32⟩
  | 77 => ⟨S8x112x112x256, .f32⟩
  | 78 => ⟨S8x112x112x1x256, .f32⟩
  | 79 => ⟨S8x112x112x1x256, .f32⟩
  | 80 => ⟨S8x112x112x1x256, .f32⟩
  | 81 => ⟨S8x112x112x1x256, .f32⟩
  | 82 => ⟨S8x112x112x4x256, .f32⟩
  | 83 => ⟨S100352x1024, .f32⟩
  | 84 => ⟨S8x112x112x256, .f32⟩
  | 85 => ⟨S8x112x112x256, .f32⟩
  | 86 => ⟨S8x112x112x256, .f32⟩
  | 87 => ⟨S8x112x112x256, .f32⟩
  | 88 => ⟨S8x112x112x1x256, .f32⟩
  | 89 => ⟨S8x112x112x1x256, .f32⟩
  | 90 => ⟨S8x112x112x1x256, .f32⟩
  | 91 => ⟨S8x112x112x1x256, .f32⟩
  | 92 => ⟨S8x112x112x4x256, .f32⟩
  | 93 => ⟨S100352x1024, .f32⟩
  | 94 => ⟨S8x112x112x256, .f32⟩
  | 95 => ⟨S8x112x112x256, .f32⟩
  | 96 => ⟨S8x112x112x256, .f32⟩
  | 97 => ⟨S8x112x112x256, .f32⟩
  | 98 => ⟨S8x112x112x1x256, .f32⟩
  | 99 => ⟨S8x112x112x1x256, .f32⟩
  | 100 => ⟨S8x112x112x1x256, .f32⟩
  | 101 => ⟨S8x112x112x1x256, .f32⟩
  | 102 => ⟨S8x112x112x4x256, .f32⟩
  | 103 => ⟨S100352x1024, .f32⟩
  | 104 => ⟨S8x112x112x256, .f32⟩
  | 105 => ⟨S8x112x112x256, .f32⟩
  | 106 => ⟨S8x112x112x256, .f32⟩
  | 107 => ⟨S8x112x112x256, .f32⟩
  | 108 => ⟨S8x112x112x1x256, .f32⟩
  | 109 => ⟨S8x112x112x1x256, .f32⟩
  | 110 => ⟨S8x112x112x1x256, .f32⟩
  | 111 => ⟨S8x112x112x1x256, .f32⟩
  | 112 => ⟨S8x112x112x4x256, .f32⟩
  | 113 => ⟨S100352x1024, .f32⟩
  | 114 => ⟨S1x100352x1024, .f32⟩
  | 115 => ⟨S1x100352x1024, .f32⟩
  | 116 => ⟨S1x100352x1024, .f32⟩
  | 117 => ⟨S1x100352x1024, .f32⟩
  | 118 => ⟨S4x100352x1024, .f32⟩
  | 119 => ⟨S2x2x256x3, .f32⟩
  | 120 => ⟨S1024x3, .f32⟩
  | 121 => ⟨S2x2x256x3, .f32⟩
  | 122 => ⟨S1024x3, .f32⟩
  | 123 => ⟨S2x2x256x3, .f32⟩
  | 124 => ⟨S1024x3, .f32⟩
  | 125 => ⟨S2x2x256x3, .f32⟩
  | 126 => ⟨S1024x3, .f32⟩
  | 127 => ⟨S1x1024x3, .f32⟩
  | _ => ⟨S8x224x224x3, .f32⟩

abbrev hbmTy0_2 (i : Nat) : BufTy := match i % 128 with
  | 0 => ⟨S1x1024x3, .f32⟩
  | 1 => ⟨S1x1024x3, .f32⟩
  | 2 => ⟨S1x1024x3, .f32⟩
  | 3 => ⟨S4x1024x3, .f32⟩
  | 4 => ⟨S_, .i32⟩
  | 5 => ⟨S_, .f32⟩
  | 6 => ⟨S4x1024x128, .f32⟩
  | 7 => ⟨S_, .i32⟩
  | 8 => ⟨S_, .f32⟩
  | 9 => ⟨S128, .f32⟩
  | 10 => ⟨S1x128, .f32⟩
  | 11 => ⟨S4x100352x128, .f32⟩
  | 12 => ⟨S2x2x8x112x112x128, .f32⟩
  | 13 => ⟨S8x112x2x112x2x128, .f32⟩
  | 14 => ⟨S8x224x224x128, .f32⟩
  | 15 => ⟨S8x224x224x3, .f32⟩
  | _ => ⟨S8x224x224x3, .f32⟩

abbrev hbmTy (i : Nat) : BufTy := match i / 128 with
  | 0 => hbmTy0_0 i
  | 1 => hbmTy0_1 i
  | 2 => hbmTy0_2 i
  | _ => ⟨S8x224x224x3, .f32⟩

abbrev bufTy : (tb : Table) → Fin (tcTables nBuf tb) → BufTy
  | .hbm, ⟨i, _⟩ => hbmTy i
  | .local _ .vmem, ⟨0, _⟩ => ⟨S1024x48, .f32⟩
  | .local _ .vmem, ⟨1, _⟩ => ⟨S1024x48, .f32⟩
  | .local _ .vmem, ⟨2, _⟩ => ⟨S48x128, .f32⟩
  | .local _ .vmem, ⟨3, _⟩ => ⟨S1x128, .f32⟩
  | .local _ .vmem, ⟨4, _⟩ => ⟨S1024x128, .f32⟩
  | .local _ .vmem, ⟨5, _⟩ => ⟨S1024x128, .f32⟩
  | .local _ .vmem, ⟨6, _⟩ => ⟨S512x2048, .f32⟩
  | .local _ .vmem, ⟨7, _⟩ => ⟨S512x2048, .f32⟩
  | .local _ .vmem, ⟨8, _⟩ => ⟨S2048x256, .f32⟩
  | .local _ .vmem, ⟨9, _⟩ => ⟨S1x256, .f32⟩
  | .local _ .vmem, ⟨10, _⟩ => ⟨S512x256, .f32⟩
  | .local _ .vmem, ⟨11, _⟩ => ⟨S512x256, .f32⟩
  | .local _ .vmem, ⟨12, _⟩ => ⟨S3584x256, .f32⟩
  | .local _ .vmem, ⟨13, _⟩ => ⟨S3584x256, .f32⟩
  | .local _ .vmem, ⟨14, _⟩ => ⟨S256x64, .f32⟩
  | .local _ .vmem, ⟨15, _⟩ => ⟨S1x64, .f32⟩
  | .local _ .vmem, ⟨16, _⟩ => ⟨S3584x64, .f32⟩
  | .local _ .vmem, ⟨17, _⟩ => ⟨S3584x64, .f32⟩
  | .local _ .vmem, ⟨18, _⟩ => ⟨S512x64, .f32⟩
  | .local _ .vmem, ⟨19, _⟩ => ⟨S512x64, .f32⟩
  | .local _ .vmem, ⟨20, _⟩ => ⟨S512x64, .f32⟩
  | .local _ .vmem, ⟨21, _⟩ => ⟨S512x64, .f32⟩
  | .local _ .vmem, ⟨22, _⟩ => ⟨S512x64, .f32⟩
  | .local _ .vmem, ⟨23, _⟩ => ⟨S1x128, .f32⟩
  | .local _ .vmem, ⟨24, _⟩ => ⟨S1x512x256, .f32⟩
  | .local _ .vmem, ⟨25, _⟩ => ⟨S1x512x256, .f32⟩
  | .local _ .vmem, ⟨26, _⟩ => ⟨S1x256x256, .f32⟩
  | .local _ .vmem, ⟨27, _⟩ => ⟨S1x256x256, .f32⟩
  | .local _ .vmem, ⟨28, _⟩ => ⟨S1x256, .f32⟩
  | .local _ .vmem, ⟨29, _⟩ => ⟨S1x512x256, .f32⟩
  | .local _ .vmem, ⟨30, _⟩ => ⟨S1x512x256, .f32⟩
  | .local _ .vmem, ⟨31, _⟩ => ⟨S1x512x1024, .f32⟩
  | .local _ .vmem, ⟨32, _⟩ => ⟨S1x512x1024, .f32⟩
  | .local _ .vmem, ⟨33, _⟩ => ⟨S1x1024x128, .f32⟩
  | .local _ .vmem, ⟨34, _⟩ => ⟨S1x1024x128, .f32⟩
  | .local _ .vmem, ⟨35, _⟩ => ⟨S1x128, .f32⟩
  | .local _ .vmem, ⟨36, _⟩ => ⟨S1x512x128, .f32⟩
  | .local _ .vmem, ⟨37, _⟩ => ⟨S1x512x128, .f32⟩
  | _, _ => ⟨S8x224x224x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_call0_v0 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_c_0 : Ref sig .tc := ⟨.hbm, 65, rfl⟩
abbrev main_call1_v0 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107_0 : Ref sig .tc := ⟨.hbm, 123, rfl⟩
abbrev main_v107_1 : Ref sig .tc := ⟨.hbm, 124, rfl⟩
abbrev main_v108 : Ref sig .tc := ⟨.hbm, 125, rfl⟩
abbrev main_v109 : Ref sig .tc := ⟨.hbm, 126, rfl⟩
abbrev main_cst : Ref sig .tc := ⟨.hbm, 127, rfl⟩
abbrev main_v110 : Ref sig .tc := ⟨.hbm, 128, rfl⟩
abbrev main_cst_1 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_c_2 : Ref sig .tc := ⟨.hbm, 133, rfl⟩
abbrev main_call2_v0 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_v145 : Ref sig .tc := ⟨.hbm, 166, rfl⟩
abbrev main_v146 : Ref sig .tc := ⟨.hbm, 167, rfl⟩
abbrev main_v147 : Ref sig .tc := ⟨.hbm, 168, rfl⟩
abbrev main_v148 : Ref sig .tc := ⟨.hbm, 169, rfl⟩
abbrev main_v149 : Ref sig .tc := ⟨.hbm, 170, rfl⟩
abbrev main_v150 : Ref sig .tc := ⟨.hbm, 171, rfl⟩
abbrev main_v151 : Ref sig .tc := ⟨.hbm, 172, rfl⟩
abbrev main_v152 : Ref sig .tc := ⟨.hbm, 173, rfl⟩
abbrev main_v153 : Ref sig .tc := ⟨.hbm, 174, rfl⟩
abbrev main_v154 : Ref sig .tc := ⟨.hbm, 175, rfl⟩
abbrev main_v155 : Ref sig .tc := ⟨.hbm, 176, rfl⟩
abbrev main_v156 : Ref sig .tc := ⟨.hbm, 177, rfl⟩
abbrev main_v157 : Ref sig .tc := ⟨.hbm, 178, rfl⟩
abbrev main_v158 : Ref sig .tc := ⟨.hbm, 179, rfl⟩
abbrev main_v159 : Ref sig .tc := ⟨.hbm, 180, rfl⟩
abbrev main_v160 : Ref sig .tc := ⟨.hbm, 181, rfl⟩
abbrev main_v161 : Ref sig .tc := ⟨.hbm, 182, rfl⟩
abbrev main_v162 : Ref sig .tc := ⟨.hbm, 183, rfl⟩
abbrev main_v163 : Ref sig .tc := ⟨.hbm, 184, rfl⟩
abbrev main_v164 : Ref sig .tc := ⟨.hbm, 185, rfl⟩
abbrev main_v165 : Ref sig .tc := ⟨.hbm, 186, rfl⟩
abbrev main_v166 : Ref sig .tc := ⟨.hbm, 187, rfl⟩
abbrev main_v167 : Ref sig .tc := ⟨.hbm, 188, rfl⟩
abbrev main_v168 : Ref sig .tc := ⟨.hbm, 189, rfl⟩
abbrev main_v169 : Ref sig .tc := ⟨.hbm, 190, rfl⟩
abbrev main_v170 : Ref sig .tc := ⟨.hbm, 191, rfl⟩
abbrev main_v171 : Ref sig .tc := ⟨.hbm, 192, rfl⟩
abbrev main_v172 : Ref sig .tc := ⟨.hbm, 193, rfl⟩
abbrev main_v173 : Ref sig .tc := ⟨.hbm, 194, rfl⟩
abbrev main_v174 : Ref sig .tc := ⟨.hbm, 195, rfl⟩
abbrev main_v175 : Ref sig .tc := ⟨.hbm, 196, rfl⟩
abbrev main_v176 : Ref sig .tc := ⟨.hbm, 197, rfl⟩
abbrev main_v177 : Ref sig .tc := ⟨.hbm, 198, rfl⟩
abbrev main_c_3 : Ref sig .tc := ⟨.hbm, 199, rfl⟩
abbrev main_call3_v0 : Ref sig .tc := ⟨.hbm, 200, rfl⟩
abbrev main_v178 : Ref sig .tc := ⟨.hbm, 201, rfl⟩
abbrev main_v179 : Ref sig .tc := ⟨.hbm, 202, rfl⟩
abbrev main_v180 : Ref sig .tc := ⟨.hbm, 203, rfl⟩
abbrev main_v181 : Ref sig .tc := ⟨.hbm, 204, rfl⟩
abbrev main_v182 : Ref sig .tc := ⟨.hbm, 205, rfl⟩
abbrev main_v183 : Ref sig .tc := ⟨.hbm, 206, rfl⟩
abbrev main_v184 : Ref sig .tc := ⟨.hbm, 207, rfl⟩
abbrev main_v185 : Ref sig .tc := ⟨.hbm, 208, rfl⟩
abbrev main_v186 : Ref sig .tc := ⟨.hbm, 209, rfl⟩
abbrev main_v187 : Ref sig .tc := ⟨.hbm, 210, rfl⟩
abbrev main_v188 : Ref sig .tc := ⟨.hbm, 211, rfl⟩
abbrev main_v189 : Ref sig .tc := ⟨.hbm, 212, rfl⟩
abbrev main_v190 : Ref sig .tc := ⟨.hbm, 213, rfl⟩
abbrev main_v191 : Ref sig .tc := ⟨.hbm, 214, rfl⟩
abbrev main_v192 : Ref sig .tc := ⟨.hbm, 215, rfl⟩
abbrev main_v193 : Ref sig .tc := ⟨.hbm, 216, rfl⟩
abbrev main_v194 : Ref sig .tc := ⟨.hbm, 217, rfl⟩
abbrev main_v195 : Ref sig .tc := ⟨.hbm, 218, rfl⟩
abbrev main_v196 : Ref sig .tc := ⟨.hbm, 219, rfl⟩
abbrev main_v197 : Ref sig .tc := ⟨.hbm, 220, rfl⟩
abbrev main_v198 : Ref sig .tc := ⟨.hbm, 221, rfl⟩
abbrev main_v199 : Ref sig .tc := ⟨.hbm, 222, rfl⟩
abbrev main_v200 : Ref sig .tc := ⟨.hbm, 223, rfl⟩
abbrev main_v201 : Ref sig .tc := ⟨.hbm, 224, rfl⟩
abbrev main_v202 : Ref sig .tc := ⟨.hbm, 225, rfl⟩
abbrev main_v203 : Ref sig .tc := ⟨.hbm, 226, rfl⟩
abbrev main_v204 : Ref sig .tc := ⟨.hbm, 227, rfl⟩
abbrev main_v205 : Ref sig .tc := ⟨.hbm, 228, rfl⟩
abbrev main_v206 : Ref sig .tc := ⟨.hbm, 229, rfl⟩
abbrev main_v207 : Ref sig .tc := ⟨.hbm, 230, rfl⟩
abbrev main_v208 : Ref sig .tc := ⟨.hbm, 231, rfl⟩
abbrev main_v209 : Ref sig .tc := ⟨.hbm, 232, rfl⟩
abbrev main_v210 : Ref sig .tc := ⟨.hbm, 233, rfl⟩
abbrev main_v211 : Ref sig .tc := ⟨.hbm, 234, rfl⟩
abbrev main_v212 : Ref sig .tc := ⟨.hbm, 235, rfl⟩
abbrev main_v213 : Ref sig .tc := ⟨.hbm, 236, rfl⟩
abbrev main_v214 : Ref sig .tc := ⟨.hbm, 237, rfl⟩
abbrev main_v215 : Ref sig .tc := ⟨.hbm, 238, rfl⟩
abbrev main_v216 : Ref sig .tc := ⟨.hbm, 239, rfl⟩
abbrev main_v217 : Ref sig .tc := ⟨.hbm, 240, rfl⟩
abbrev main_v218 : Ref sig .tc := ⟨.hbm, 241, rfl⟩
abbrev main_v219 : Ref sig .tc := ⟨.hbm, 242, rfl⟩
abbrev main_v220 : Ref sig .tc := ⟨.hbm, 243, rfl⟩
abbrev main_v221 : Ref sig .tc := ⟨.hbm, 244, rfl⟩
abbrev main_v222 : Ref sig .tc := ⟨.hbm, 245, rfl⟩
abbrev main_v223 : Ref sig .tc := ⟨.hbm, 246, rfl⟩
abbrev main_v224 : Ref sig .tc := ⟨.hbm, 247, rfl⟩
abbrev main_v225 : Ref sig .tc := ⟨.hbm, 248, rfl⟩
abbrev main_v226 : Ref sig .tc := ⟨.hbm, 249, rfl⟩
abbrev main_v227 : Ref sig .tc := ⟨.hbm, 250, rfl⟩
abbrev main_v228 : Ref sig .tc := ⟨.hbm, 251, rfl⟩
abbrev main_v229 : Ref sig .tc := ⟨.hbm, 252, rfl⟩
abbrev main_v230 : Ref sig .tc := ⟨.hbm, 253, rfl⟩
abbrev main_v231 : Ref sig .tc := ⟨.hbm, 254, rfl⟩
abbrev main_v232 : Ref sig .tc := ⟨.hbm, 255, rfl⟩
abbrev main_v233 : Ref sig .tc := ⟨.hbm, 256, rfl⟩
abbrev main_v234 : Ref sig .tc := ⟨.hbm, 257, rfl⟩
abbrev main_v235 : Ref sig .tc := ⟨.hbm, 258, rfl⟩
abbrev main_v236 : Ref sig .tc := ⟨.hbm, 259, rfl⟩
abbrev main_c_4 : Ref sig .tc := ⟨.hbm, 260, rfl⟩
abbrev main_call4_v0 : Ref sig .tc := ⟨.hbm, 261, rfl⟩
abbrev main_v237 : Ref sig .tc := ⟨.hbm, 262, rfl⟩
abbrev main_c_5 : Ref sig .tc := ⟨.hbm, 263, rfl⟩
abbrev main_call5_v0 : Ref sig .tc := ⟨.hbm, 264, rfl⟩
abbrev main_v238 : Ref sig .tc := ⟨.hbm, 265, rfl⟩
abbrev main_v239 : Ref sig .tc := ⟨.hbm, 266, rfl⟩
abbrev main_v240 : Ref sig .tc := ⟨.hbm, 267, rfl⟩
abbrev main_v241 : Ref sig .tc := ⟨.hbm, 268, rfl⟩
abbrev main_v242 : Ref sig .tc := ⟨.hbm, 269, rfl⟩
abbrev main_v243 : Ref sig .tc := ⟨.hbm, 270, rfl⟩
abbrev main_v244 : Ref sig .tc := ⟨.hbm, 271, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg2_1 : Ref sig .tc := ⟨.vmem, 22, rfl⟩
abbrev cc3_stg3_0 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg3_0 : Ref sig .tc := ⟨.vmem, 29, rfl⟩
abbrev cc4_stg3_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg1_1 : Ref sig .tc := ⟨.vmem, 34, rfl⟩
abbrev cc5_stg2_0 : Ref sig .tc := ⟨.vmem, 35, rfl⟩
abbrev cc5_stg3_0 : Ref sig .tc := ⟨.vmem, 36, rfl⟩
abbrev cc5_stg3_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22
abbrev cc3_sem3_0 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem3_0 : DmaSem sig := 29
abbrev cc4_sem3_1 : DmaSem sig := 30
abbrev cc5_sem0_0 : DmaSem sig := 31
abbrev cc5_sem0_1 : DmaSem sig := 32
abbrev cc5_sem1_0 : DmaSem sig := 33
abbrev cc5_sem1_1 : DmaSem sig := 34
abbrev cc5_sem2_0 : DmaSem sig := 35
abbrev cc5_sem3_0 : DmaSem sig := 36
abbrev cc5_sem3_1 : DmaSem sig := 37

abbrev nD : Nat := 1
abbrev τ : Topo := Topo.v7x

variable {F : FTy → Type} [FloatOps F]

abbrev grid0 : Pipeline.Grid := ⟨1, ![98], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x48 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S48x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![49], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![7], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S3584x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S3584x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![49], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S512x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S512x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S512x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev grid4 : Pipeline.Grid := ⟨2, ![4, 49], ![false, false]⟩

def cc4_transform_0 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage4_0 : Fin 2 → Memref sig .tc .vmem S1x512x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1x256x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, false]

abbrev stage4_3 : Fin 2 → Memref sig .tc .vmem S1x512x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev grid5 : Pipeline.Grid := ⟨2, ![4, 196], ![false, false]⟩

def cc5_transform_0 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc5_transform_1 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage5_0 : Fin 2 → Memref sig .tc .vmem S1x512x1024 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S1x1024x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, false]

abbrev stage5_3 : Fin 2 → Memref sig .tc .vmem S1x512x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true]
-- ==== ReferenceIdeal.lean ====
abbrev S8x224x224x3 : Shape := ⟨4, ![8, 224, 224, 3]⟩
abbrev S4x4x3x128 : Shape := ⟨4, ![4, 4, 3, 128]⟩
abbrev S128 : Shape := ⟨1, ![128]⟩
abbrev S4x4x128x256 : Shape := ⟨4, ![4, 4, 128, 256]⟩
abbrev S256 : Shape := ⟨1, ![256]⟩
abbrev S1x1x256x64 : Shape := ⟨4, ![1, 1, 256, 64]⟩
abbrev S64 : Shape := ⟨1, ![64]⟩
abbrev S512x64 : Shape := ⟨2, ![512, 64]⟩
abbrev S4x4x64x256 : Shape := ⟨4, ![4, 4, 64, 256]⟩
abbrev S4x4x256x3 : Shape := ⟨4, ![4, 4, 256, 3]⟩
abbrev S3 : Shape := ⟨1, ![3]⟩
abbrev S_ : Shape := ⟨0, ![]⟩
abbrev S8x226x226x3 : Shape := ⟨4, ![8, 226, 226, 3]⟩
abbrev S8x1x1x226x226x3 : Shape := ⟨6, ![8, 1, 1, 226, 226, 3]⟩
abbrev S8x1x1x112x226x3 : Shape := ⟨6, ![8, 1, 1, 112, 226, 3]⟩
abbrev S8x4x1x112x226x3 : Shape := ⟨6, ![8, 4, 1, 112, 226, 3]⟩
abbrev S8x4x1x112x112x3 : Shape := ⟨6, ![8, 4, 1, 112, 112, 3]⟩
abbrev S8x4x4x112x112x3 : Shape := ⟨6, ![8, 4, 4, 112, 112, 3]⟩
abbrev S8x112x112x128 : Shape := ⟨4, ![8, 112, 112, 128]⟩
abbrev S8x114x114x128 : Shape := ⟨4, ![8, 114, 114, 128]⟩
abbrev S8x1x1x114x114x128 : Shape := ⟨6, ![8, 1, 1, 114, 114, 128]⟩
abbrev S8x1x1x56x114x128 : Shape := ⟨6, ![8, 1, 1, 56, 114, 128]⟩
abbrev S8x4x1x56x114x128 : Shape := ⟨6, ![8, 4, 1, 56, 114, 128]⟩
abbrev S8x4x1x56x56x128 : Shape := ⟨6, ![8, 4, 1, 56, 56, 128]⟩
abbrev S8x4x4x56x56x128 : Shape := ⟨6, ![8, 4, 4, 56, 56, 128]⟩
abbrev S8x56x56x256 : Shape := ⟨4, ![8, 56, 56, 256]⟩
abbrev S256x64 : Shape := ⟨2, ![256, 64]⟩
abbrev S8x56x56x64 : Shape := ⟨4, ![8, 56, 56, 64]⟩
abbrev S8x56x64x56 : Shape := ⟨4, ![8, 56, 64, 56]⟩
abbrev S25088x64 : Shape := ⟨2, ![25088, 64]⟩
abbrev S25088 : Shape := ⟨1, ![25088]⟩
abbrev S25088x512 : Shape := ⟨2, ![25088, 512]⟩
abbrev S512 : Shape := ⟨1, ![512]⟩
abbrev S8x115x115x64 : Shape := ⟨4, ![8, 115, 115, 64]⟩
abbrev S8x1x1x115x115x64 : Shape := ⟨6, ![8, 1, 1, 115, 115, 64]⟩
abbrev S8x1x1x112x115x64 : Shape := ⟨6, ![8, 1, 1, 112, 115, 64]⟩
abbrev S8x4x1x112x115x64 : Shape := ⟨6, ![8, 4, 1, 112, 115, 64]⟩
abbrev S8x4x1x112x112x64 : Shape := ⟨6, ![8, 4, 1, 112, 112, 64]⟩
abbrev S8x4x4x112x112x64 : Shape := ⟨6, ![8, 4, 4, 112, 112, 64]⟩
abbrev S8x112x112x256 : Shape := ⟨4, ![8, 112, 112, 256]⟩
abbrev S8x227x227x256 : Shape := ⟨4, ![8, 227, 227, 256]⟩
abbrev S8x1x1x227x227x256 : Shape := ⟨6, ![8, 1, 1, 227, 227, 256]⟩
abbrev S8x1x1x224x227x256 : Shape := ⟨6, ![8, 1, 1, 224, 227, 256]⟩
abbrev S8x4x1x224x227x256 : Shape := ⟨6, ![8, 4, 1, 224, 227, 256]⟩
abbrev S8x4x1x224x224x256 : Shape := ⟨6, ![8, 4, 1, 224, 224, 256]⟩
abbrev S8x4x4x224x224x256 : Shape := ⟨6, ![8, 4, 4, 224, 224, 256]⟩

abbrev nBuf : Space → Nat
  | .hbm => 127
  | .vmem => 0
  | .smem => 0
  | _ => 0

abbrev bufTy : (tb : Table) → Fin (tcTables nBuf tb) → BufTy
  | .hbm, ⟨0, _⟩ => ⟨S8x224x224x3, .f32⟩
  | .hbm, ⟨1, _⟩ => ⟨S4x4x3x128, .f32⟩
  | .hbm, ⟨2, _⟩ => ⟨S128, .f32⟩
  | .hbm, ⟨3, _⟩ => ⟨S4x4x128x256, .f32⟩
  | .hbm, ⟨4, _⟩ => ⟨S256, .f32⟩
  | .hbm, ⟨5, _⟩ => ⟨S1x1x256x64, .f32⟩
  | .hbm, ⟨6, _⟩ => ⟨S64, .f32⟩
  | .hbm, ⟨7, _⟩ => ⟨S512x64, .f32⟩
  | .hbm, ⟨8, _⟩ => ⟨S4x4x64x256, .f32⟩
  | .hbm, ⟨9, _⟩ => ⟨S256, .f32⟩
  | .hbm, ⟨10, _⟩ => ⟨S4x4x256x3, .f32⟩
  | .hbm, ⟨11, _⟩ => ⟨S3, .f32⟩
  | .hbm, ⟨12, _⟩ => ⟨S_, .f32⟩
  | .hbm, ⟨13, _⟩ => ⟨S8x226x226x3, .f32⟩
  | .hbm, ⟨14, _⟩ => ⟨S8x1x1x226x226x3, .f32⟩
  | .hbm, ⟨15, _⟩ => ⟨S8x1x1x112x226x3, .f32⟩
  | .hbm, ⟨16, _⟩ => ⟨S8x1x1x112x226x3, .f32⟩
  | .hbm, ⟨17, _⟩ => ⟨S8x1x1x112x226x3, .f32⟩
  | .hbm, ⟨18, _⟩ => ⟨S8x1x1x112x226x3, .f32⟩
  | .hbm, ⟨19, _⟩ => ⟨S8x4x1x112x226x3, .f32⟩
  | .hbm, ⟨20, _⟩ => ⟨S8x4x1x112x112x3, .f32⟩
  | .hbm, ⟨21, _⟩ => ⟨S8x4x1x112x112x3, .f32⟩
  | .hbm, ⟨22, _⟩ => ⟨S8x4x1x112x112x3, .f32⟩
  | .hbm, ⟨23, _⟩ => ⟨S8x4x1x112x112x3, .f32⟩
  | .hbm, ⟨24, _⟩ => ⟨S8x4x4x112x112x3, .f32⟩
  | .hbm, ⟨25, _⟩ => ⟨S8x112x112x128, .f32⟩
  | .hbm, ⟨26, _⟩ => ⟨S8x112x112x128, .f32⟩
  | .hbm, ⟨27, _⟩ => ⟨S8x112x112x128, .f32⟩
  | .hbm, ⟨28, _⟩ => ⟨S_, .f32⟩
  | .hbm, ⟨29, _⟩ => ⟨S8x112x112x128, .f32⟩
  | .hbm, ⟨30, _⟩ => ⟨S8x112x112x128, .f32⟩
  | .hbm, ⟨31, _⟩ => ⟨S8x112x112x128, .f32⟩
  | .hbm, ⟨32, _⟩ => ⟨S_, .f32⟩
  | .hbm, ⟨33, _⟩ => ⟨S8x114x114x128, .f32⟩
  | .hbm, ⟨34, _⟩ => ⟨S8x1x1x114x114x128, .f32⟩
  | .hbm, ⟨35, _⟩ => ⟨S8x1x1x56x114x128, .f32⟩
  | .hbm, ⟨36, _⟩ => ⟨S8x1x1x56x114x128, .f32⟩
  | .hbm, ⟨37, _⟩ => ⟨S8x1x1x56x114x128, .f32⟩
  | .hbm, ⟨38, _⟩ => ⟨S8x1x1x56x114x128, .f32⟩
  | .hbm, ⟨39, _⟩ => ⟨S8x4x1x56x114x128, .f32⟩
  | .hbm, ⟨40, _⟩ => ⟨S8x4x1x56x56x128, .f32⟩
  | .hbm, ⟨41, _⟩ => ⟨S8x4x1x56x56x128, .f32⟩
  | .hbm, ⟨42, _⟩ => ⟨S8x4x1x56x56x128, .f32⟩
  | .hbm, ⟨43, _⟩ => ⟨S8x4x1x56x56x128, .f32⟩
  | .hbm, ⟨44, _⟩ => ⟨S8x4x4x56x56x128, .f32⟩
  | .hbm, ⟨45, _⟩ => ⟨S8x56x56x256, .f32⟩
  | .hbm, ⟨46, _⟩ => ⟨S8x56x56x256, .f32⟩
  | .hbm, ⟨47, _⟩ => ⟨S8x56x56x256, .f32⟩
  | .hbm, ⟨48, _⟩ => ⟨S_, .f32⟩
  | .hbm, ⟨49, _⟩ => ⟨S8x56x56x256, .f32⟩
  | .hbm, ⟨50, _⟩ => ⟨S8x56x56x256, .f32⟩
  | .hbm, ⟨51, _⟩ => ⟨S8x56x56x256, .f32⟩
  | .hbm, ⟨52, _⟩ => ⟨S256x64, .f32⟩
  | .hbm, ⟨53, _⟩ => ⟨S8x56x56x64, .f32⟩
  | .hbm, ⟨54, _⟩ => ⟨S8x56x56x64, .f32⟩
  | .hbm, ⟨55, _⟩ => ⟨S8x56x56x64, .f32⟩
  | .hbm, ⟨56, _⟩ => ⟨S8x56x64x56, .f32⟩
  | .hbm, ⟨57, _⟩ => ⟨S25088x64, .f32⟩
  | .hbm, ⟨58, _⟩ => ⟨S25088, .f32⟩
  | .hbm, ⟨59, _⟩ => ⟨S25088x512, .f32⟩
  | .hbm, ⟨60, _⟩ => ⟨S512, .f32⟩
  | .hbm, ⟨61, _⟩ => ⟨S25088x512, .f32⟩
  | .hbm, ⟨62, _⟩ => ⟨S25088x512, .f32⟩
  | .hbm, ⟨63, _⟩ => ⟨S25088x512, .f32⟩
  | .hbm, ⟨64, _⟩ => ⟨S_, .f32⟩
  | .hbm, ⟨65, _⟩ => ⟨S25088x512, .f32⟩
  | .hbm, ⟨66, _⟩ => ⟨S25088x512, .f32⟩
  | .hbm, ⟨67, _⟩ => ⟨S25088x512, .f32⟩
  | .hbm, ⟨68, _⟩ => ⟨S25088x512, .i32⟩
  | .hbm, ⟨69, _⟩ => ⟨S_, .f32⟩
  | .hbm, ⟨70, _⟩ => ⟨S_, .i32⟩
  | .hbm, ⟨71, _⟩ => ⟨S25088, .f32⟩
  | .hbm, ⟨72, _⟩ => ⟨S25088, .i32⟩
  | .hbm, ⟨73, _⟩ => ⟨S25088x512, .i32⟩
  | .hbm, ⟨74, _⟩ => ⟨S25088x512, .i32⟩
  | .hbm, ⟨75, _⟩ => ⟨S25088x512, .i1⟩
  | .hbm, ⟨76, _⟩ => ⟨S25088x512, .f32⟩
  | .hbm, ⟨77, _⟩ => ⟨S25088x64, .f32⟩
  | .hbm, ⟨78, _⟩ => ⟨S8x56x64x56, .f32⟩
  | .hbm, ⟨79, _⟩ => ⟨S8x56x64x56, .f32⟩
  | .hbm, ⟨80, _⟩ => ⟨S8x56x64x56, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S8x56x64x56, .f32⟩
  | .hbm, ⟨89, _⟩ => ⟨S8x56x56x64, .f32⟩
  | .hbm, ⟨90, _⟩ => ⟨S_, .f32⟩
  | .hbm, ⟨91, _⟩ => ⟨S8x115x115x64, .f32⟩
  | .hbm, ⟨92, _⟩ => ⟨S8x1x1x115x115x64, .f32⟩
  | .hbm, ⟨93, _⟩ => ⟨S8x1x1x112x115x64, .f32⟩
  | .hbm, ⟨94, _⟩ => ⟨S8x1x1x112x115x64, .f32⟩
  | .hbm, ⟨95, _⟩ => ⟨S8x1x1x112x115x64, .f32⟩
  | .hbm, ⟨96, _⟩ => ⟨S8x1x1x112x115x64, .f32⟩
  | .hbm, ⟨97, _⟩ => ⟨S8x4x1x112x115x64, .f32⟩
  | .hbm, ⟨98, _⟩ => ⟨S8x4x1x112x112x64, .f32⟩
  | .hbm, ⟨99, _⟩ => ⟨S8x4x1x112x112x64, .f32⟩
  | .hbm, ⟨100, _⟩ => ⟨S8x4x1x112x112x64, .f32⟩
  | .hbm, ⟨101, _⟩ => ⟨S8x4x1x112x112x64, .f32⟩
  | .hbm, ⟨102, _⟩ => ⟨S8x4x4x112x112x64, .f32⟩
  | .hbm, ⟨103, _⟩ => ⟨S8x112x112x256, .f32⟩
  | .hbm, ⟨104, _⟩ => ⟨S8x112x112x256, .f32⟩
  | .hbm, ⟨105, _⟩ => ⟨S8x112x112x256, .f32⟩
  | .hbm, ⟨106, _⟩ => ⟨S_, .f32⟩
  | .hbm, ⟨107, _⟩ => ⟨S8x112x112x256, .f32⟩
  | .hbm, ⟨108, _⟩ => ⟨S8x112x112x256, .f32⟩
  | .hbm, ⟨109, _⟩ => ⟨S8x112x112x256, .f32⟩
  | .hbm, ⟨110, _⟩ => ⟨S_, .f32⟩
  | .hbm, ⟨111, _⟩ => ⟨S8x227x227x256, .f32⟩
  | .hbm, ⟨112, _⟩ => ⟨S8x1x1x227x227x256, .f32⟩
  | .hbm, ⟨113, _⟩ => ⟨S8x1x1x224x227x256, .f32⟩
  | .hbm, ⟨114, _⟩ => ⟨S8x1x1x224x227x256, .f32⟩
  | .hbm, ⟨115, _⟩ => ⟨S8x1x1x224x227x256, .f32⟩
  | .hbm, ⟨116, _⟩ => ⟨S8x1x1x224x227x256, .f32⟩
  | .hbm, ⟨117, _⟩ => ⟨S8x4x1x224x227x256, .f32⟩
  | .hbm, ⟨118, _⟩ => ⟨S8x4x1x224x224x256, .f32⟩
  | .hbm, ⟨119, _⟩ => ⟨S8x4x1x224x224x256, .f32⟩
  | .hbm, ⟨120, _⟩ => ⟨S8x4x1x224x224x256, .f32⟩
  | .hbm, ⟨121, _⟩ => ⟨S8x4x1x224x224x256, .f32⟩
  | .hbm, ⟨122, _⟩ => ⟨S8x4x4x224x224x256, .f32⟩
  | .hbm, ⟨123, _⟩ => ⟨S8x224x224x3, .f32⟩
  | .hbm, ⟨124, _⟩ => ⟨S8x224x224x3, .f32⟩
  | .hbm, ⟨125, _⟩ => ⟨S8x224x224x3, .f32⟩
  | .hbm, ⟨126, _⟩ => ⟨S8x224x224x3, .f32⟩
  | _, _ => ⟨S8x224x224x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_1 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_2 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_3 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_call0_v0 : Ref sig .tc := ⟨.hbm, 68, rfl⟩
abbrev main_call0_cst : Ref sig .tc := ⟨.hbm, 69, rfl⟩
abbrev main_call0_c : Ref sig .tc := ⟨.hbm, 70, rfl⟩
abbrev main_call0_v1_0 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_4 : Ref sig .tc := ⟨.hbm, 81, rfl⟩
abbrev main_v60 : Ref sig .tc := ⟨.hbm, 82, rfl⟩
abbrev main_cst_5 : Ref sig .tc := ⟨.hbm, 83, rfl⟩
abbrev main_v61 : Ref sig .tc := ⟨.hbm, 84, rfl⟩
abbrev main_cst_6 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_7 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_cst_8 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_cst_9 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩

abbrev nD : Nat := 1
abbrev τ : Topo := Topo.v7x

variable {F : FTy → Type} [FloatOps F]
-- ==== Proof.Ref.Ops.lean ====
/- The reference's @main as lists of host operations, cut at its stages, and its run read back from them. -/
module

public import proofs.«01_k».proof.Proof.Gen.ReferenceIdeal
public import Idealize.ShloMosaic.Lib.StableHlo.Run
public import Idealize.ShloMosaic.Lib.Pipeline.Frame
public import Idealize.ShloMosaic.PureOps.Ideal

@[expose] public section

set_option Elab.async false

noncomputable section

namespace Cert.Vq.Ref

open Cert.ReferenceIdeal Cert.ReferenceIdeal.Gen Idealize.ShloMosaic Idealize.ShloMosaic.TcCoe Idealize.SL.Sem Idealize.ShloMosaic.StableHlo

variable {F : FTy → Type} [FloatOps F]

/-- The reference's operations 1 to 7. -/
abbrev c0 : List (HloOp τ sig (Elt F)) :=
  [ nullary main_cst (constant S_ .f32 0x00000000#32),
    binary main_arg0 main_cst main_v0 ((fun x v => pad S8x226x226x3 ![0, 1, 1, 0] ![0, 1, 1, 0] ![0, 0, 0, 0] x v pads_S8x224x224x3_S8x226x226x3_000_110_110_000 h_S_) : (⟨S8x224x224x3, .f32⟩ : BufTy).Contents (Elt F) → (⟨S_, .f32⟩ : BufTy).Contents (Elt F) → (⟨S8x226x226x3, .f32⟩ : BufTy).Contents (Elt F)),
    reshape main_v0 main_v1 (rfl : (.f32 : EltTy) = .f32) shapeCasts_S8x226x226x3_S8x1x1x226x226x3,
    unary main_v1 main_v2 ((Host.slice S8x1x1x112x226x3 ![0, 0, 0, 0, 0, 0] ![1, 1, 1, 2, 1, 1] · slicesBy_S8x1x1x226x226x3_S8x1x1x112x226x3_0s1_0s1_0s1_0s2_0s1_0s1) : (⟨S8x1x1x226x226x3, .f32⟩ : BufTy).Contents (Elt F) → (⟨S8x1x1x112x226x3, .f32⟩ : BufTy).Contents (Elt F)),
    unary main_v1 main_v3 ((Host.slice S8x1x1x112x226x3 ![0, 0, 0, 1, 0, 0] ![1, 1, 1, 2, 1, 1] · slicesBy_S8x1x1x226x226x3_S8x1x1x112x226x3_0s1_0s1_0s1_1s2_0s1_0s1) : (⟨S8x1x1x226x226x3, .f32⟩ : BufTy).Contents (Elt F) → (⟨S8x1x1x112x226x3, .f32⟩ : BufTy).Contents (Elt F)),
    unary main_v1 main_v4 ((Host.slice S8x1x1x112x226x3 ![0, 0, 0, 2, 0, 0] ![1, 1, 1, 2, 1, 1] · slicesBy_S8x1x1x226x226x3_S8x1x1x112x226x3_0s1_0s1_0s1_2s2_0s1_0s1) : (⟨S8x1x1x226x226x3, .f32⟩ : BufTy).Contents (Elt F) → (⟨S8x1x1x112x226x3, .f32⟩ : BufTy).Contents (Elt F)),
    unary main_v1 main_v5 ((Host.slice S8x1x1x112x226x3 ![0, 0, 0, 3, 0, 0] ![1, 1, 1, 2, 1, 1] · slicesBy_S8x1x1x226x226x3_S8x1x1x112x226x3_0s1_0s1_0s1_3s2_0s1_0s1) : (⟨S8x1x1x226x226x3, .f32⟩ : BufTy).Contents (Elt F) → (⟨S8x1x1x112x226x3, .f32⟩ : BufTy).Contents (Elt F)) ]

/-- The reference's operations 8 to 8. -/
abbrev c1 : List (HloOp τ sig (Elt F)) :=
  [ nary ![main_v2, main_v3, main_v4, main_v5] main_v6 (fun u => (concatenate S8x4x1x112x226x3 1 [⟨S8x1x1x112x226x3, (u 0 : (⟨S8x1x1x112x226x3, .f32⟩ : BufTy).Contents (Elt F))⟩, ⟨S8x1x1x112x226x3, (u 1 : (⟨S8x1x1x112x226x3, .f32⟩ : BufTy).Contents (Elt F))⟩, ⟨S8x1x1x112x226x3, (u 2 : (⟨S8x1x1x112x226x3, .f32⟩ : BufTy).Contents (Elt F))⟩, ⟨S8x1x1x112x226x3, (u 3 : (⟨S8x1x1x112x226x3, .f32⟩ : BufTy).Contents (Elt F))⟩] concatenates_S8x1x1x112x226x3_S8x1x1x112x226x3_S8x1x1x112x226x3_S8x1x1x112x226x3_S8x4x1x112x226x3_d1 : (⟨S8x4x1x112x226x3, .f32⟩ : BufTy).Contents (Elt F))) ]

/-- The reference's operations 9 to 12. -/
abbrev c2 : List (HloOp τ sig (Elt F)) :=
  [ unary main_v6 main_v7 ((Host.slice S8x4x1x112x112x3 ![0, 0, 0, 0, 0, 0] ![1, 1, 1, 1, 2, 1] · slicesBy_S8x4x1x112x226x3_S8x4x1x112x112x3_0s1_0s1_0s1_0s1_0s2_0s1) : (⟨S8x4x1x112x226x3, .f32⟩ : BufTy).Contents (Elt F) → (⟨S8x4x1x112x112x3, .f32⟩ : BufTy).Contents (Elt F)),
    unary main_v6 main_v8 ((Host.slice S8x4x1x112x112x3 ![0, 0, 0, 0, 1, 0] ![1, 1, 1, 1, 2, 1] · slicesBy_S8x4x1x112x226x3_S8x4x1x112x112x3_0s1_0s1_0s1_0s1_1s2_0s1) : (⟨S8x4x1x112x226x3, .f32⟩ : BufTy).Contents (Elt F) → (⟨S8x4x1x112x112x3, .f32⟩ : BufTy).Contents (Elt F)),
    unary main_v6 main_v9 ((Host.slice S8x4x1x112x112x3 ![0, 0, 0, 0, 2, 0] ![1, 1, 1, 1, 2, 1] · slicesBy_S8x4x1x112x226x3_S8x4x1x112x112x3_0s1_0s1_0s1_0s1_2s2_0s1) : (⟨S8x4x1x112x226x3, .f32⟩ : BufTy).Contents (Elt F) → (⟨S8x4x1x112x112x3, .f32⟩ : BufTy).Contents (Elt F)),
    unary main_v6 main_v10 ((Host.slice S8x4x1x112x112x3 ![0, 0, 0, 0, 3, 0] ![1, 1, 1, 1, 2, 1] · slicesBy_S8x4x1x112x226x3_S8x4x1x112x112x3_0s1_0s1_0s1_0s1_3s2_0s1) : (⟨S8x4x1x112x226x3, .f32⟩ : BufTy).Contents (Elt F) → (⟨S8x4x1x112x112x3, .f32⟩ : BufTy).Contents (Elt F)) ]

/-- The reference's operations 13 to 13. -/
abbrev c3 : List (HloOp τ sig (Elt F)) :=
  [ nary ![main_v7, main_v8, main_v9, main_v10] main_v11 (fun u => (concatenate S8x4x4x112x112x3 2 [⟨S8x4x1x112x112x3, (u 0 : (⟨S8x4x1x112x112x3, .f32⟩ : BufTy).Contents (Elt F))⟩, ⟨S8x4x1x112x112x3, (u 1 : (⟨S8x4x1x112x112x3, .f32⟩ : BufTy).Contents (Elt F))⟩, ⟨S8x4x1x112x112x3, (u 2 : (⟨S8x4x1x112x112x3, .f32⟩ : BufTy).Contents (Elt F))⟩, ⟨S8x4x1x112x112x3, (u 3 : (⟨S8x4x1x112x112x3, .f32⟩ : BufTy).Contents (Elt F))⟩] concatenates_S8x4x1x112x112x3_S8x4x1x112x112x3_S8x4x1x112x112x3_S8x4x1x112x112x3_S8x4x4x112x112x3_d2 : (⟨S8x4x4x112x112x3, .f32⟩ : BufTy).Contents (Elt F))) ]

/-- The reference's operations 14 to 20. -/
abbrev c4 : List (HloOp τ sig (Elt F)) :=
  [ binary main_v11 main_arg1 main_v12 ((fun l r => Host.dotGeneral dot_S8x4x4x112x112x3_S4x4x3x128_S8x112x112x128_125_012_034_3_n_n none l r) : (⟨S8x4x4x112x112x3, .f32⟩ : BufTy).Contents (Elt F) → (⟨S4x4x3x128, .f32⟩ : BufTy).Contents (Elt F) → (⟨S8x112x112x128, .f32⟩ : BufTy).Contents (Elt F)),
    unary main_arg2 main_v13 (broadcastInDim S8x112x112x128 ![3] bcast_S128_S8x112x112x128_3 : (⟨S128, .f32⟩ : BufTy).Contents (Elt F) → (⟨S8x112x112x128, .f32⟩ : BufTy).Contents (Elt F)),
    binary main_v12 main_v13 main_v14 (addf : (⟨S8x112x112x128, .f32⟩ : BufTy).Contents (Elt F) → (⟨S8x112x112x128, .f32⟩ : BufTy).Contents (Elt F) → (⟨S8x112x112x128, .f32⟩ : BufTy).Contents (Elt F)),
    nullary main_cst_0 (constant S_ .f32 0x3C23D70A#32),
    unary main_cst_0 main_v15 (broadcastInDim S8x112x112x128 ![] bcast_S_S8x112x112x128 : (⟨S_, .f32⟩ : BufTy).Contents (Elt F) → (⟨S8x112x112x128, .f32⟩ : BufTy).Contents (Elt F)),
    binary main_v15 main_v14 main_v16 (mulf : (⟨S8x112x112x128, .f32⟩ : BufTy).Contents (Elt F) → (⟨S8x112x112x128, .f32⟩ : BufTy).Contents (Elt F) → (⟨S8x112x112x128, .f32⟩ : BufTy).Contents (Elt F)),
    binary main_v14 main_v16 main_v17 (maximumf : (⟨S8x112x112x128, .f32⟩ : BufTy).Contents (Elt F) → (⟨S8x112x112x128, .f32⟩ : BufTy).Contents (Elt F) → (⟨S8x112x112x128, .f32⟩ : BufTy).Contents (Elt F)) ]

/-- The reference's operations 21 to 27. -/
abbrev c5 : List (HloOp τ sig (Elt F)) :=
  [ nullary main_cst_1 (constant S_ .f32 0x00000000#32),
    binary main_v17 main_cst_1 main_v18 ((fun x v => pad S8x114x114x128 ![0, 1, 1, 0] ![0, 1, 1, 0] ![0, 0, 0, 0] x v pads_S8x112x112x128_S8x114x114x128_000_110_110_000 h_S_) : (⟨S8x112x112x128, .f32⟩ : BufTy).Contents (Elt F) → (⟨S_, .f32⟩ : BufTy).Contents (Elt F) → (⟨S8x114x114x128, .f32⟩ : BufTy).Contents (Elt F)),
    reshape main_v18 main_v19 (rfl : (.f32 : EltTy) = .f32) shapeCasts_S8x114x114x128_S8x1x1x114x114x128,
    unary main_v19 main_v20 ((Host.slice S8x1x1x56x114x128 ![0, 0, 0, 0, 0, 0] ![1, 1, 1, 2, 1, 1] · slicesBy_S8x1x1x114x114x128_S8x1x1x56x114x128_0s1_0s1_0s1_0s2_0s1_0s1) : (⟨S8x1x1x114x114x128, .f32⟩ : BufTy).Contents (Elt F) → (⟨S8x1x1x56x114x128, .f32⟩ : BufTy).Contents (Elt F)),
    unary main_v19 main_v21 ((Host.slice S8x1x1x56x114x128 ![0, 0, 0, 1, 0, 0] ![1, 1, 1, 2, 1, 1] · slicesBy_S8x1x1x114x114x128_S8x1x1x56x114x128_0s1_0s1_0s1_1s2_0s1_0s1) : (⟨S8x1x1x114x114x128, .f32⟩ : BufTy).Contents (Elt F) → (⟨S8x1x1x56x114x128, .f32⟩ : BufTy).Contents (Elt F)),
    unary main_v19 main_v22 ((Host.slice S8x1x1x56x114x128 ![0, 0, 0, 2, 0, 0] ![1, 1, 1, 2, 1, 1] · slicesBy_S8x1x1x114x114x128_S8x1x1x56x114x128_0s1_0s1_0s1_2s2_0s1_0s1) : (⟨S8x1x1x114x114x128, .f32⟩ : BufTy).Contents (Elt F) → (⟨S8x1x1x56x114x128, .f32⟩ : BufTy).Contents (Elt F)),
    unary main_v19 main_v23 ((Host.slice S8x1x1x56x114x128 ![0, 0, 0, 3, 0, 0] ![1, 1, 1, 2, 1, 1] · slicesBy_S8x1x1x114x114x128_S8x1x1x56x114x128_0s1_0s1_0s1_3s2_0s1_0s1) : (⟨S8x1x1x114x114x128, .f32⟩ : BufTy).Contents (Elt F) → (⟨S8x1x1x56x114x128, .f32⟩ : BufTy).Contents (Elt F)) ]

/-- The reference's operations 28 to 28. -/
abbrev c6 : List (HloOp τ sig (Elt F)) :=
  [ nary ![main_v20, main_v21, main_v22, main_v23] main_v24 (fun u => (concatenate S8x4x1x56x114x128 1 [⟨S8x1x1x56x114x128, (u 0 : (⟨S8x1x1x56x114x128, .f32⟩ : BufTy).Contents (Elt F))⟩, ⟨S8x1x1x56x114x128, (u 1 : (⟨S8x1x1x56x114x128, .f32⟩ : BufTy).Contents (Elt F))⟩, ⟨S8x1x1x56x114x128, (u 2 : (⟨S8x1x1x56x114x128, .f32⟩ : BufTy).Contents (Elt F))⟩, ⟨S8x1x1x56x114x128, (u 3 : (⟨S8x1x1x56x114x128, .f32⟩ : BufTy).Contents (Elt F))⟩] concatenates_S8x1x1x56x114x128_S8x1x1x56x114x128_S8x1x1x56x114x128_S8x1x1x56x114x128_S8x4x1x56x114x128_d1 : (⟨S8x4x1x56x114x128, .f32⟩ : BufTy).Contents (Elt F))) ]

/-- The reference's operations 29 to 32. -/
abbrev c7 : List (HloOp τ sig (Elt F)) :=
  [ unary main_v24 main_v25 ((Host.slice S8x4x1x56x56x128 ![0, 0, 0, 0, 0, 0] ![1, 1, 1, 1, 2, 1] · slicesBy_S8x4x1x56x114x128_S8x4x1x56x56x128_0s1_0s1_0s1_0s1_0s2_0s1) : (⟨S8x4x1x56x114x128, .f32⟩ : BufTy).Contents (Elt F) → (⟨S8x4x1x56x56x128, .f32⟩ : BufTy).Contents (Elt F)),
    unary main_v24 main_v26 ((Host.slice S8x4x1x56x56x128 ![0, 0, 0, 0, 1, 0] ![1, 1, 1, 1, 2, 1] · slicesBy_S8x4x1x56x114x128_S8x4x1x56x56x128_0s1_0s1_0s1_0s1_1s2_0s1) : (⟨S8x4x1x56x114x128, .f32⟩ : BufTy).Contents (Elt F) → (⟨S8x4x1x56x56x128, .f32⟩ : BufTy).Contents (Elt F)),
    unary main_v24 main_v27 ((Host.slice S8x4x1x56x56x128 ![0, 0, 0, 0, 2, 0] ![1, 1, 1, 1, 2, 1] · slicesBy_S8x4x1x56x114x128_S8x4x1x56x56x128_0s1_0s1_0s1_0s1_2s2_0s1) : (⟨S8x4x1x56x114x128, .f32⟩ : BufTy).Contents (Elt F) → (⟨S8x4x1x56x56x128, .f32⟩ : BufTy).Contents (Elt F)),
    unary main_v24 main_v28 ((Host.slice S8x4x1x56x56x128 ![0, 0, 0, 0, 3, 0] ![1, 1, 1, 1, 2, 1] · slicesBy_S8x4x1x56x114x128_S8x4x1x56x56x128_0s1_0s1_0s1_0s1_3s2_0s1) : (⟨S8x4x1x56x114x128, .f32⟩ : BufTy).Contents (Elt F) → (⟨S8x4x1x56x56x128, .f32⟩ : BufTy).Contents (Elt F)) ]

/-- The reference's operations 33 to 33. -/
abbrev c8 : List (HloOp τ sig (Elt F)) :=
  [ nary ![main_v25, main_v26, main_v27, main_v28] main_v29 (fun u => (concatenate S8x4x4x56x56x128 2 [⟨S8x4x1x56x56x128, (u 0 : (⟨S8x4x1x56x56x128, .f32⟩ : BufTy).Contents (Elt F))⟩, ⟨S8x4x1x56x56x128, (u 1 : (⟨S8x4x1x56x56x128, .f32⟩ : BufTy).Contents (Elt F))⟩, ⟨S8x4x1x56x56x128, (u 2 : (⟨S8x4x1x56x56x128, .f32⟩ : BufTy).Contents (Elt F))⟩, ⟨S8x4x1x56x56x128, (u 3 : (⟨S8x4x1x56x56x128, .f32⟩ : BufTy).Contents (Elt F))⟩] concatenates_S8x4x1x56x56x128_S8x4x1x56x56x128_S8x4x1x56x56x128_S8x4x1x56x56x128_S8x4x4x56x56x128_d2 : (⟨S8x4x4x56x56x128, .f32⟩ : BufTy).Contents (Elt F))) ]

/-- The reference's operations 34 to 40. -/
abbrev c9 : List (HloOp τ sig (Elt F)) :=
  [ binary main_v29 main_arg3 main_v30 ((fun l r => Host.dotGeneral dot_S8x4x4x56x56x128_S4x4x128x256_S8x56x56x256_125_012_034_3_n_n none l r) : (⟨S8x4x4x56x56x128, .f32⟩ : BufTy).Contents (Elt F) → (⟨S4x4x128x256, .f32⟩ : BufTy).Contents (Elt F) → (⟨S8x56x56x256, .f32⟩ : BufTy).Contents (Elt F)),
    unary main_arg4 main_v31 (broadcastInDim S8x56x56x256 ![3] bcast_S256_S8x56x56x256_3 : (⟨S256, .f32⟩ : BufTy).Contents (Elt F) → (⟨S8x56x56x256, .f32⟩ : BufTy).Contents (Elt F)),
    binary main_v30 main_v31 main_v32 (addf : (⟨S8x56x56x256, .f32⟩ : BufTy).Contents (Elt F) → (⟨S8x56x56x256, .f32⟩ : BufTy).Contents (Elt F) → (⟨S8x56x56x256, .f32⟩ : BufTy).Contents (Elt F)),
    nullary main_cst_2 (constant S_ .f32 0x3C23D70A#32),
    unary main_cst_2 main_v33 (broadcastInDim S8x56x56x256 ![] bcast_S_S8x56x56x256 : (⟨S_, .f32⟩ : BufTy).Contents (Elt F) → (⟨S8x56x56x256, .f32⟩ : BufTy).Contents (Elt F)),
    binary main_v33 main_v32 main_v34 (mulf : (⟨S8x56x56x256, .f32⟩ : BufTy).Contents (Elt F) → (⟨S8x56x56x256, .f32⟩ : BufTy).Contents (Elt F) → (⟨S8x56x56x256, .f32⟩ : BufTy).Contents (Elt F)),
    binary main_v32 main_v34 main_v35 (maximumf : (⟨S8x56x56x256, .f32⟩ : BufTy).Contents (Elt F) → (⟨S8x56x56x256, .f32⟩ : BufTy).Contents (Elt F) → (⟨S8x56x56x256, .f32⟩ : BufTy).Contents (Elt F)) ]

/-- The reference's operations 41 to 46. -/
abbrev c10 : List (HloOp τ sig (Elt F)) :=
  [ reshape main_arg5 main_v36 (rfl : (.f32 : EltTy) = .f32) shapeCasts_S1x1x256x64_S256x64,
    binary main_v35 main_v36 main_v37 ((fun l r => Host.dotGeneral dot_S8x56x56x256_S256x64_S8x56x56x64_3_0_012_1_n_n none l r) : (⟨S8x56x56x256, .f32⟩ : BufTy).Contents (Elt F) → (⟨S256x64, .f32⟩ : BufTy).Contents (Elt F) → (⟨S8x56x56x64, .f32⟩ : BufTy).Contents (Elt F)),
    unary main_arg6 main_v38 (broadcastInDim S8x56x56x64 ![3] bcast_S64_S8x56x56x64_3 : (⟨S64, .f32⟩ : BufTy).Contents (Elt F) → (⟨S8x56x56x64, .f32⟩ : BufTy).Contents (Elt F)),
    binary main_v37 main_v38 main_v39 (addf : (⟨S8x56x56x64, .f32⟩ : BufTy).Contents (Elt F) → (⟨S8x56x56x64, .f32⟩ : BufTy).Contents (Elt F) → (⟨S8x56x56x64, .f32⟩ : BufTy).Contents (Elt F)),
    unary main_v39 main_v40 ((transpose S8x56x64x56 [0, 2, 3, 1] · transposes_S8x56x56x64_S8x56x64x56_0_2_3_1) : (⟨S8x56x56x64, .f32⟩ : BufTy).Contents (Elt F) → (⟨S8x56x64x56, .f32⟩ : BufTy).Contents (Elt F)),
    reshape main_v40 main_v41 (rfl : (.f32 : EltTy) = .f32) shapeCasts_S8x56x64x56_S25088x64 ]

/-- The reference's operations 47 to 56. -/
abbrev c11 : List (HloOp τ sig (Elt F)) :=
  [ binary main_v41 main_v41 main_v42 ((fun l r => Host.dotGeneral dot_S25088x64_S25088x64_S25088_1_1_n_n_0_0 none l r) : (⟨S25088x64, .f32⟩ : BufTy).Contents (Elt F) → (⟨S25088x64, .f32⟩ : BufTy).Contents (Elt F) → (⟨S25088, .f32⟩ : BufTy).Contents (Elt F)),
    unary main_v42 main_v43 (broadcastInDim S25088x512 ![0] bcast_S25088_S25088x512_0 : (⟨S25088, .f32⟩ : BufTy).Contents (Elt F) → (⟨S25088x512, .f32⟩ : BufTy).Contents (Elt F)),
    binary main_arg7 main_arg7 main_v44 ((fun l r => Host.dotGeneral dot_S512x64_S512x64_S512_1_1_n_n_0_0 none l r) : (⟨S512x64, .f32⟩ : BufTy).Contents (Elt F) → (⟨S512x64, .f32⟩ : BufTy).Contents (Elt F) → (⟨S512, .f32⟩ : BufTy).Contents (Elt F)),
    unary main_v44 main_v45 (broadcastInDim S25088x512 ![1] bcast_S512_S25088x512_1 : (⟨S512, .f32⟩ : BufTy).Contents (Elt F) → (⟨S25088x512, .f32⟩ : BufTy).Contents (Elt F)),
    binary main_v43 main_v45 main_v46 (addf : (⟨S25088x512, .f32⟩ : BufTy).Contents (Elt F) → (⟨S25088x512, .f32⟩ : BufTy).Contents (Elt F) → (⟨S25088x512, .f32⟩ : BufTy).Contents (Elt F)),
    binary main_v41 main_arg7 main_v47 ((fun l r => Host.dotGeneral dot_S25088x64_S512x64_S25088x512_1_1_0_0_n_n none l r) : (⟨S25088x64, .f32⟩ : BufTy).Contents (Elt F) → (⟨S512x64, .f32⟩ : BufTy).Contents (Elt F) → (⟨S25088x512, .f32⟩ : BufTy).Contents (Elt F)),
    nullary main_cst_3 (constant S_ .f32 0x40000000#32),
    unary main_cst_3 main_v48 (broadcastInDim S25088x512 ![] bcast_S_S25088x512 : (⟨S_, .f32⟩ : BufTy).Contents (Elt F) → (⟨S25088x512, .f32⟩ : BufTy).Contents (Elt F)),
    binary main_v48 main_v47 main_v49 (mulf : (⟨S25088x512, .f32⟩ : BufTy).Contents (Elt F) → (⟨S25088x512, .f32⟩ : BufTy).Contents (Elt F) → (⟨S25088x512, .f32⟩ : BufTy).Contents (Elt F)),
    binary main_v46 main_v49 main_v50 (subf : (⟨S25088x512, .f32⟩ : BufTy).Contents (Elt F) → (⟨S25088x512, .f32⟩ : BufTy).Contents (Elt F) → (⟨S25088x512, .f32⟩ : BufTy).Contents (Elt F)) ]

/-- The reference's operations 57 to 61. -/
abbrev c12 : List (HloOp τ sig (Elt F)) :=
  [ TRef.nullary main_call0.v0 (iotaInDim S25088x512 32 1),
    TRef.nullary main_call0.cst (constant S_ .f32 0x7F800000#32),
    TRef.nullary main_call0.c (constantI S_ 32 0#32),
    TRef.quaternary (TRef.of (T := ⟨S25088x512, .f32⟩) main_v50) main_call0.v0 main_call0.cst main_call0.c main_call0.v1_0 (fun x y u v j => (Host.argReduce reducer_argmin_f32_i32 x y u v reducesTo_S25088x512_S25088_d1 h_S_ j).1),
    TRef.quaternary (TRef.of (T := ⟨S25088x512, .f32⟩) main_v50) main_call0.v0 main_call0.cst main_call0.c main_call0.v1_1 (fun x y u v j => (Host.argReduce reducer_argmin_f32_i32 x y u v reducesTo_S25088x512_S25088_d1 h_S_ j).2) ]

/-- The reference's operations 62 to 64. -/
abbrev c13 : List (HloOp τ sig (Elt F)) :=
  [ nullary main_v52 (iotaInDim S25088x512 32 1),
    unary main_v51 main_v53 (broadcastInDim S25088x512 ![0] bcast_S25088_S25088x512_0 : (⟨S25088, .i32⟩ : BufTy).Contents (Elt F) → (⟨S25088x512, .i32⟩ : BufTy).Contents (Elt F)),
    binary main_v52 main_v53 main_v54 (cmpi .eq : (⟨S25088x512, .i32⟩ : BufTy).Contents (Elt F) → (⟨S25088x512, .i32⟩ : BufTy).Contents (Elt F) → (⟨S25088x512, .i1⟩ : BufTy).Contents (Elt F)) ]

/-- The reference's operations 65 to 67. -/
abbrev c14 : List (HloOp τ sig (Elt F)) :=
  [ unary main_v54 main_v55 (uitofp .f32 : (⟨S25088x512, .i1⟩ : BufTy).Contents (Elt F) → (⟨S25088x512, .f32⟩ : BufTy).Contents (Elt F)),
    binary main_v55 main_arg7 main_v56 ((fun l r => Host.dotGeneral dot_S25088x512_S512x64_S25088x64_1_0_0_1_n_n none l r) : (⟨S25088x512, .f32⟩ : BufTy).Contents (Elt F) → (⟨S512x64, .f32⟩ : BufTy).Contents (Elt F) → (⟨S25088x64, .f32⟩ : BufTy).Contents (Elt F)),
    reshape main_v56 main_v57 (rfl : (.f32 : EltTy) = .f32) shapeCasts_S25088x64_S8x56x64x56 ]

/-- The reference's operations 68 to 76. -/
abbrev c15 : List (HloOp τ sig (Elt F)) :=
  [ binary main_v57 main_v40 main_v58 (subf : (⟨S8x56x64x56, .f32⟩ : BufTy).Contents (Elt F) → (⟨S8x56x64x56, .f32⟩ : BufTy).Contents (Elt F) → (⟨S8x56x64x56, .f32⟩ : BufTy).Contents (Elt F)),
    binary main_v58 main_v58 main_v59 (mulf : (⟨S8x56x64x56, .f32⟩ : BufTy).Contents (Elt F) → (⟨S8x56x64x56, .f32⟩ : BufTy).Contents (Elt F) → (⟨S8x56x64x56, .f32⟩ : BufTy).Contents (Elt F)),
    nullary main_cst_4 (constant S_ .f32 0x00000000#32),
    binary main_v59 main_cst_4 main_v60 ((fun x v => Host.reduceAdd x v reducesTo_S8x56x64x56_S_d0_1_2_3 h_S_) : (⟨S8x56x64x56, .f32⟩ : BufTy).Contents (Elt F) → (⟨S_, .f32⟩ : BufTy).Contents (Elt F) → (⟨S_, .f32⟩ : BufTy).Contents (Elt F)),
    nullary main_cst_5 (constant S_ .f32 0x49C40000#32),
    binary main_v60 main_cst_5 main_v61 (Host.divf : (⟨S_, .f32⟩ : BufTy).Contents (Elt F) → (⟨S_, .f32⟩ : BufTy).Contents (Elt F) → (⟨S_, .f32⟩ : BufTy).Contents (Elt F)),
    nullary main_cst_6 (constant S_ .f32 0x3E800000#32),
    binary main_cst_6 main_v61 main_v62 (mulf : (⟨S_, .f32⟩ : BufTy).Contents (Elt F) → (⟨S_, .f32⟩ : BufTy).Contents (Elt F) → (⟨S_, .f32⟩ : BufTy).Contents (Elt F)),
    binary main_v61 main_v62 main_v63 (addf : (⟨S_, .f32⟩ : BufTy).Contents (Elt F) → (⟨S_, .f32⟩ : BufTy).Contents (Elt F) → (⟨S_, .f32⟩ : BufTy).Contents (Elt F)) ]

/-- The reference's operations 77 to 78. -/
abbrev c16 : List (HloOp τ sig (Elt F)) :=
  [ binary main_v40 main_v58 main_v64 (addf : (⟨S8x56x64x56, .f32⟩ : BufTy).Contents (Elt F) → (⟨S8x56x64x56, .f32⟩ : BufTy).Contents (Elt F) → (⟨S8x56x64x56, .f32⟩ : BufTy).Contents (Elt F)),
    unary main_v64 main_v65 ((transpose S8x56x56x64 [0, 3, 1, 2] · transposes_S8x56x64x56_S8x56x56x64_0_3_1_2) : (⟨S8x56x64x56, .f32⟩ : BufTy).Contents (Elt F) → (⟨S8x56x56x64, .f32⟩ : BufTy).Contents (Elt F)) ]

/-- The reference's operations 79 to 85. -/
abbrev c17 : List (HloOp τ sig (Elt F)) :=
  [ nullary main_cst_7 (constant S_ .f32 0x00000000#32),
    binary main_v65 main_cst_7 main_v66 ((fun x v => pad S8x115x115x64 ![0, 2, 2, 0] ![0, 2, 2, 0] ![0, 1, 1, 0] x v pads_S8x56x56x64_S8x115x115x64_000_221_221_000 h_S_) : (⟨S8x56x56x64, .f32⟩ : BufTy).Contents (Elt F) → (⟨S_, .f32⟩ : BufTy).Contents (Elt F) → (⟨S8x115x115x64, .f32⟩ : BufTy).Contents (Elt F)),
    reshape main_v66 main_v67 (rfl : (.f32 : EltTy) = .f32) shapeCasts_S8x115x115x64_S8x1x1x115x115x64,
    unary main_v67 main_v68 ((extractStridedSlice S8x1x1x112x115x64 ![0, 0, 0, 0, 0, 0] · slices_S8x1x1x115x115x64_S8x1x1x112x115x64_0_0_0_0_0_0) : (⟨S8x1x1x115x115x64, .f32⟩ : BufTy).Contents (Elt F) → (⟨S8x1x1x112x115x64, .f32⟩ : BufTy).Contents (Elt F)),
    unary main_v67 main_v69 ((extractStridedSlice S8x1x1x112x115x64 ![0, 0, 0, 1, 0, 0] · slices_S8x1x1x115x115x64_S8x1x1x112x115x64_0_0_0_1_0_0) : (⟨S8x1x1x115x115x64, .f32⟩ : BufTy).Contents (Elt F) → (⟨S8x1x1x112x115x64, .f32⟩ : BufTy).Contents (Elt F)),
    unary main_v67 main_v70 ((extractStridedSlice S8x1x1x112x115x64 ![0, 0, 0, 2, 0, 0] · slices_S8x1x1x115x115x64_S8x1x1x112x115x64_0_0_0_2_0_0) : (⟨S8x1x1x115x115x64, .f32⟩ : BufTy).Contents (Elt F) → (⟨S8x1x1x112x115x64, .f32⟩ : BufTy).Contents (Elt F)),
    unary main_v67 main_v71 ((extractStridedSlice S8x1x1x112x115x64 ![0, 0, 0, 3, 0, 0] · slices_S8x1x1x115x115x64_S8x1x1x112x115x64_0_0_0_3_0_0) : (⟨S8x1x1x115x115x64, .f32⟩ : BufTy).Contents (Elt F) → (⟨S8x1x1x112x115x64, .f32⟩ : BufTy).Contents (Elt F)) ]

/-- The reference's operations 86 to 86. -/
abbrev c18 : List (HloOp τ sig (Elt F)) :=
  [ nary ![main_v68, main_v69, main_v70, main_v71] main_v72 (fun u => (concatenate S8x4x1x112x115x64 1 [⟨S8x1x1x112x115x64, (u 0 : (⟨S8x1x1x112x115x64, .f32⟩ : BufTy).Contents (Elt F))⟩, ⟨S8x1x1x112x115x64, (u 1 : (⟨S8x1x1x112x115x64, .f32⟩ : BufTy).Contents (Elt F))⟩, ⟨S8x1x1x112x115x64, (u 2 : (⟨S8x1x1x112x115x64, .f32⟩ : BufTy).Contents (Elt F))⟩, ⟨S8x1x1x112x115x64, (u 3 : (⟨S8x1x1x112x115x64, .f32⟩ : BufTy).Contents (Elt F))⟩] concatenates_S8x1x1x112x115x64_S8x1x1x112x115x64_S8x1x1x112x115x64_S8x1x1x112x115x64_S8x4x1x112x115x64_d1 : (⟨S8x4x1x112x115x64, .f32⟩ : BufTy).Contents (Elt F))) ]

/-- The reference's operations 87 to 90. -/
abbrev c19 : List (HloOp τ sig (Elt F)) :=
  [ unary main_v72 main_v73 ((extractStridedSlice S8x4x1x112x112x64 ![0, 0, 0, 0, 0, 0] · slices_S8x4x1x112x115x64_S8x4x1x112x112x64_0_0_0_0_0_0) : (⟨S8x4x1x112x115x64, .f32⟩ : BufTy).Contents (Elt F) → (⟨S8x4x1x112x112x64, .f32⟩ : BufTy).Contents (Elt F)),
    unary main_v72 main_v74 ((extractStridedSlice S8x4x1x112x112x64 ![0, 0, 0, 0, 1, 0] · slices_S8x4x1x112x115x64_S8x4x1x112x112x64_0_0_0_0_1_0) : (⟨S8x4x1x112x115x64, .f32⟩ : BufTy).Contents (Elt F) → (⟨S8x4x1x112x112x64, .f32⟩ : BufTy).Contents (Elt F)),
    unary main_v72 main_v75 ((extractStridedSlice S8x4x1x112x112x64 ![0, 0, 0, 0, 2, 0] · slices_S8x4x1x112x115x64_S8x4x1x112x112x64_0_0_0_0_2_0) : (⟨S8x4x1x112x115x64, .f32⟩ : BufTy).Contents (Elt F) → (⟨S8x4x1x112x112x64, .f32⟩ : BufTy).Contents (Elt F)),
    unary main_v72 main_v76 ((extractStridedSlice S8x4x1x112x112x64 ![0, 0, 0, 0, 3, 0] · slices_S8x4x1x112x115x64_S8x4x1x112x112x64_0_0_0_0_3_0) : (⟨S8x4x1x112x115x64, .f32⟩ : BufTy).Contents (Elt F) → (⟨S8x4x1x112x112x64, .f32⟩ : BufTy).Contents (Elt F)) ]

/-- The reference's operations 91 to 91. -/
abbrev c20 : List (HloOp τ sig (Elt F)) :=
  [ nary ![main_v73, main_v74, main_v75, main_v76] main_v77 (fun u => (concatenate S8x4x4x112x112x64 2 [⟨S8x4x1x112x112x64, (u 0 : (⟨S8x4x1x112x112x64, .f32⟩ : BufTy).Contents (Elt F))⟩, ⟨S8x4x1x112x112x64, (u 1 : (⟨S8x4x1x112x112x64, .f32⟩ : BufTy).Contents (Elt F))⟩, ⟨S8x4x1x112x112x64, (u 2 : (⟨S8x4x1x112x112x64, .f32⟩ : BufTy).Contents (Elt F))⟩, ⟨S8x4x1x112x112x64, (u 3 : (⟨S8x4x1x112x112x64, .f32⟩ : BufTy).Contents (Elt F))⟩] concatenates_S8x4x1x112x112x64_S8x4x1x112x112x64_S8x4x1x112x112x64_S8x4x1x112x112x64_S8x4x4x112x112x64_d2 : (⟨S8x4x4x112x112x64, .f32⟩ : BufTy).Contents (Elt F))) ]

/-- The reference's operations 92 to 98. -/
abbrev c21 : List (HloOp τ sig (Elt F)) :=
  [ binary main_v77 main_arg8 main_v78 ((fun l r => Host.dotGeneral dot_S8x4x4x112x112x64_S4x4x64x256_S8x112x112x256_125_012_034_3_n_n none l r) : (⟨S8x4x4x112x112x64, .f32⟩ : BufTy).Contents (Elt F) → (⟨S4x4x64x256, .f32⟩ : BufTy).Contents (Elt F) → (⟨S8x112x112x256, .f32⟩ : BufTy).Contents (Elt F)),
    unary main_arg9 main_v79 (broadcastInDim S8x112x112x256 ![3] bcast_S256_S8x112x112x256_3 : (⟨S256, .f32⟩ : BufTy).Contents (Elt F) → (⟨S8x112x112x256, .f32⟩ : BufTy).Contents (Elt F)),
    binary main_v78 main_v79 main_v80 (addf : (⟨S8x112x112x256, .f32⟩ : BufTy).Contents (Elt F) → (⟨S8x112x112x256, .f32⟩ : BufTy).Contents (Elt F) → (⟨S8x112x112x256, .f32⟩ : BufTy).Contents (Elt F)),
    nullary main_cst_8 (constant S_ .f32 0x3C23D70A#32),
    unary main_cst_8 main_v81 (broadcastInDim S8x112x112x256 ![] bcast_S_S8x112x112x256 : (⟨S_, .f32⟩ : BufTy).Contents (Elt F) → (⟨S8x112x112x256, .f32⟩ : BufTy).Contents (Elt F)),
    binary main_v81 main_v80 main_v82 (mulf : (⟨S8x112x112x256, .f32⟩ : BufTy).Contents (Elt F) → (⟨S8x112x112x256, .f32⟩ : BufTy).Contents (Elt F) → (⟨S8x112x112x256, .f32⟩ : BufTy).Contents (Elt F)),
    binary main_v80 main_v82 main_v83 (maximumf : (⟨S8x112x112x256, .f32⟩ : BufTy).Contents (Elt F) → (⟨S8x112x112x256, .f32⟩ : BufTy).Contents (Elt F) → (⟨S8x112x112x256, .f32⟩ : BufTy).Contents (Elt F)) ]

/-- The reference's operations 99 to 105. -/
abbrev c22 : List (HloOp τ sig (Elt F)) :=
  [ nullary main_cst_9 (constant S_ .f32 0x00000000#32),
    binary main_v83 main_cst_9 main_v84 ((fun x v => pad S8x227x227x256 ![0, 2, 2, 0] ![0, 2, 2, 0] ![0, 1, 1, 0] x v pads_S8x112x112x256_S8x227x227x256_000_221_221_000 h_S_) : (⟨S8x112x112x256, .f32⟩ : BufTy).Contents (Elt F) → (⟨S_, .f32⟩ : BufTy).Contents (Elt F) → (⟨S8x227x227x256, .f32⟩ : BufTy).Contents (Elt F)),
    reshape main_v84 main_v85 (rfl : (.f32 : EltTy) = .f32) shapeCasts_S8x227x227x256_S8x1x1x227x227x256,
    unary main_v85 main_v86 ((extractStridedSlice S8x1x1x224x227x256 ![0, 0, 0, 0, 0, 0] · slices_S8x1x1x227x227x256_S8x1x1x224x227x256_0_0_0_0_0_0) : (⟨S8x1x1x227x227x256, .f32⟩ : BufTy).Contents (Elt F) → (⟨S8x1x1x224x227x256, .f32⟩ : BufTy).Contents (Elt F)),
    unary main_v85 main_v87 ((extractStridedSlice S8x1x1x224x227x256 ![0, 0, 0, 1, 0, 0] · slices_S8x1x1x227x227x256_S8x1x1x224x227x256_0_0_0_1_0_0) : (⟨S8x1x1x227x227x256, .f32⟩ : BufTy).Contents (Elt F) → (⟨S8x1x1x224x227x256, .f32⟩ : BufTy).Contents (Elt F)),
    unary main_v85 main_v88 ((extractStridedSlice S8x1x1x224x227x256 ![0, 0, 0, 2, 0, 0] · slices_S8x1x1x227x227x256_S8x1x1x224x227x256_0_0_0_2_0_0) : (⟨S8x1x1x227x227x256, .f32⟩ : BufTy).Contents (Elt F) → (⟨S8x1x1x224x227x256, .f32⟩ : BufTy).Contents (Elt F)),
    unary main_v85 main_v89 ((extractStridedSlice S8x1x1x224x227x256 ![0, 0, 0, 3, 0, 0] · slices_S8x1x1x227x227x256_S8x1x1x224x227x256_0_0_0_3_0_0) : (⟨S8x1x1x227x227x256, .f32⟩ : BufTy).Contents (Elt F) → (⟨S8x1x1x224x227x256, .f32⟩ : BufTy).Contents (Elt F)) ]

/-- The reference's operations 106 to 106. -/
abbrev c23 : List (HloOp τ sig (Elt F)) :=
  [ nary ![main_v86, main_v87, main_v88, main_v89] main_v90 (fun u => (concatenate S8x4x1x224x227x256 1 [⟨S8x1x1x224x227x256, (u 0 : (⟨S8x1x1x224x227x256, .f32⟩ : BufTy).Contents (Elt F))⟩, ⟨S8x1x1x224x227x256, (u 1 : (⟨S8x1x1x224x227x256, .f32⟩ : BufTy).Contents (Elt F))⟩, ⟨S8x1x1x224x227x256, (u 2 : (⟨S8x1x1x224x227x256, .f32⟩ : BufTy).Contents (Elt F))⟩, ⟨S8x1x1x224x227x256, (u 3 : (⟨S8x1x1x224x227x256, .f32⟩ : BufTy).Contents (Elt F))⟩] concatenates_S8x1x1x224x227x256_S8x1x1x224x227x256_S8x1x1x224x227x256_S8x1x1x224x227x256_S8x4x1x224x227x256_d1 : (⟨S8x4x1x224x227x256, .f32⟩ : BufTy).Contents (Elt F))) ]

/-- The reference's operations 107 to 110. -/
abbrev c24 : List (HloOp τ sig (Elt F)) :=
  [ unary main_v90 main_v91 ((extractStridedSlice S8x4x1x224x224x256 ![0, 0, 0, 0, 0, 0] · slices_S8x4x1x224x227x256_S8x4x1x224x224x256_0_0_0_0_0_0) : (⟨S8x4x1x224x227x256, .f32⟩ : BufTy).Contents (Elt F) → (⟨S8x4x1x224x224x256, .f32⟩ : BufTy).Contents (Elt F)),
    unary main_v90 main_v92 ((extractStridedSlice S8x4x1x224x224x256 ![0, 0, 0, 0, 1, 0] · slices_S8x4x1x224x227x256_S8x4x1x224x224x256_0_0_0_0_1_0) : (⟨S8x4x1x224x227x256, .f32⟩ : BufTy).Contents (Elt F) → (⟨S8x4x1x224x224x256, .f32⟩ : BufTy).Contents (Elt F)),
    unary main_v90 main_v93 ((extractStridedSlice S8x4x1x224x224x256 ![0, 0, 0, 0, 2, 0] · slices_S8x4x1x224x227x256_S8x4x1x224x224x256_0_0_0_0_2_0) : (⟨S8x4x1x224x227x256, .f32⟩ : BufTy).Contents (Elt F) → (⟨S8x4x1x224x224x256, .f32⟩ : BufTy).Contents (Elt F)),
    unary main_v90 main_v94 ((extractStridedSlice S8x4x1x224x224x256 ![0, 0, 0, 0, 3, 0] · slices_S8x4x1x224x227x256_S8x4x1x224x224x256_0_0_0_0_3_0) : (⟨S8x4x1x224x227x256, .f32⟩ : BufTy).Contents (Elt F) → (⟨S8x4x1x224x224x256, .f32⟩ : BufTy).Contents (Elt F)) ]

/-- The reference's operations 111 to 111. -/
abbrev c25 : List (HloOp τ sig (Elt F)) :=
  [ nary ![main_v91, main_v92, main_v93, main_v94] main_v95 (fun u => (concatenate S8x4x4x224x224x256 2 [⟨S8x4x1x224x224x256, (u 0 : (⟨S8x4x1x224x224x256, .f32⟩ : BufTy).Contents (Elt F))⟩, ⟨S8x4x1x224x224x256, (u 1 : (⟨S8x4x1x224x224x256, .f32⟩ : BufTy).Contents (Elt F))⟩, ⟨S8x4x1x224x224x256, (u 2 : (⟨S8x4x1x224x224x256, .f32⟩ : BufTy).Contents (Elt F))⟩, ⟨S8x4x1x224x224x256, (u 3 : (⟨S8x4x1x224x224x256, .f32⟩ : BufTy).Contents (Elt F))⟩] concatenates_S8x4x1x224x224x256_S8x4x1x224x224x256_S8x4x1x224x224x256_S8x4x1x224x224x256_S8x4x4x224x224x256_d2 : (⟨S8x4x4x224x224x256, .f32⟩ : BufTy).Contents (Elt F))) ]

/-- The reference's operations 112 to 115. -/
abbrev c26 : List (HloOp τ sig (Elt F)) :=
  [ binary main_v95 main_arg10 main_v96 ((fun l r => Host.dotGeneral dot_S8x4x4x224x224x256_S4x4x256x3_S8x224x224x3_125_012_034_3_n_n none l r) : (⟨S8x4x4x224x224x256, .f32⟩ : BufTy).Contents (Elt F) → (⟨S4x4x256x3, .f32⟩ : BufTy).Contents (Elt F) → (⟨S8x224x224x3, .f32⟩ : BufTy).Contents (Elt F)),
    unary main_arg11 main_v97 (broadcastInDim S8x224x224x3 ![3] bcast_S3_S8x224x224x3_3 : (⟨S3, .f32⟩ : BufTy).Contents (Elt F) → (⟨S8x224x224x3, .f32⟩ : BufTy).Contents (Elt F)),
    binary main_v96 main_v97 main_v98 (addf : (⟨S8x224x224x3, .f32⟩ : BufTy).Contents (Elt F) → (⟨S8x224x224x3, .f32⟩ : BufTy).Contents (Elt F) → (⟨S8x224x224x3, .f32⟩ : BufTy).Contents (Elt F)),
    unary main_v98 main_v99 (Host.tanh : (⟨S8x224x224x3, .f32⟩ : BufTy).Contents (Elt F) → (⟨S8x224x224x3, .f32⟩ : BufTy).Contents (Elt F)) ]

/-- The operations of part 0 of the reference's @main. -/
def p0 : List (HloOp τ sig (Elt F)) := c0 ++ (c1 ++ (c2 ++ (c3 ++ (c4 ++ (c5 ++ (c6 ++ (c7 ++ (c8 ++ (c9 ++ (c10 ++ (c11 ++ (c12 ++ (c13)))))))))))))
/-- The operations of part 1 of the reference's @main. -/
def p1 : List (HloOp τ sig (Elt F)) := c14 ++ (c15 ++ (c16 ++ (c17 ++ (c18 ++ (c19 ++ (c20 ++ (c21 ++ (c22 ++ (c23 ++ (c24 ++ (c25 ++ (c26))))))))))))

/-- All operations of the reference's @main, in order. -/
abbrev ops : List (HloOp τ sig (Elt F)) := p0 ++ (p1)

set_option maxRecDepth 8192 in
set_option maxHeartbeats 4000000 in
/-- Part 0 is its list of operations. -/
theorem part0_eq (c : Dev nD) : main_part0 (F := F) c = seq p0 := rfl
set_option maxRecDepth 8192 in
set_option maxHeartbeats 4000000 in
/-- Part 1 is its list of operations. -/
theorem part1_eq (c : Dev nD) : main_part1 (F := F) c = seq p1 := rfl
set_option maxRecDepth 8192 in
/-- The reference's @main is the sequence of its operations. -/
theorem main_eq (c : Dev nD) : main (F := F) c = seq ops := by
  simp only [ops, seq_append, ← part0_eq c, ← part1_eq c]
  rfl
/-- The reference has no scoped buffer. -/
theorem scopedRefs_eq : (Finset.univ.filter fun b : Ref sig .tc => b.isScoped) = ∅ := by decide
/-- The reference has no scoped semaphore. -/
theorem scopedSems_eq : (Finset.univ.filter fun sm : SemLoc sig => sm.isScoped .tc) = ∅ := by decide
set_option maxRecDepth 8192 in
/-- The buffers of these operations are unscoped. -/
theorem c0_sub : (c0 : List (HloOp τ sig (Elt F))).Forall fun op => op.bufs ⊆ tcRefs τ sig :=
  ⟨nullary_bufs_sub .., binary_bufs_sub .., reshape_bufs_sub .., unary_bufs_sub .., unary_bufs_sub .., unary_bufs_sub .., unary_bufs_sub ..⟩
set_option maxRecDepth 8192 in
/-- These operations take no fresh value. -/
theorem c0_fresh : (c0 : List (HloOp τ sig (Elt F))).Forall fun op => op.fresh = ∅ :=
  ⟨rfl, rfl, rfl, rfl, rfl, rfl, rfl⟩
set_option maxRecDepth 8192 in
/-- The buffers of these operations are unscoped. -/
theorem c1_sub : (c1 : List (HloOp τ sig (Elt F))).Forall fun op => op.bufs ⊆ tcRefs τ sig :=
  nary_bufs_sub ..
set_option maxRecDepth 8192 in
/-- These operations take no fresh value. -/
theorem c1_fresh : (c1 : List (HloOp τ sig (Elt F))).Forall fun op => op.fresh = ∅ :=
  rfl
set_option maxRecDepth 8192 in
/-- The buffers of these operations are unscoped. -/
theorem c2_sub : (c2 : List (HloOp τ sig (Elt F))).Forall fun op => op.bufs ⊆ tcRefs τ sig :=
  ⟨unary_bufs_sub .., unary_bufs_sub .., unary_bufs_sub .., unary_bufs_sub ..⟩
set_option maxRecDepth 8192 in
/-- These operations take no fresh value. -/
theorem c2_fresh : (c2 : List (HloOp τ sig (Elt F))).Forall fun op => op.fresh = ∅ :=
  ⟨rfl, rfl, rfl, rfl⟩
set_option maxRecDepth 8192 in
/-- The buffers of these operations are unscoped. -/
theorem c3_sub : (c3 : List (HloOp τ sig (Elt F))).Forall fun op => op.bufs ⊆ tcRefs τ sig :=
  nary_bufs_sub ..
set_option maxRecDepth 8192 in
/-- These operations take no fresh value. -/
theorem c3_fresh : (c3 : List (HloOp τ sig (Elt F))).Forall fun op => op.fresh = ∅ :=
  rfl
set_option maxRecDepth 8192 in
/-- The buffers of these operations are unscoped. -/
theorem c4_sub : (c4 : List (HloOp τ sig (Elt F))).Forall fun op => op.bufs ⊆ tcRefs τ sig :=
  ⟨binary_bufs_sub .., unary_bufs_sub .., binary_bufs_sub .., nullary_bufs_sub .., unary_bufs_sub .., binary_bufs_sub .., binary_bufs_sub ..⟩
set_option maxRecDepth 8192 in
/-- These operations take no fresh value. -/
theorem c4_fresh : (c4 : List (HloOp τ sig (Elt F))).Forall fun op => op.fresh = ∅ :=
  ⟨rfl, rfl, rfl, rfl, rfl, rfl, rfl⟩
set_option maxRecDepth 8192 in
/-- The buffers of these operations are unscoped. -/
theorem c5_sub : (c5 : List (HloOp τ sig (Elt F))).Forall fun op => op.bufs ⊆ tcRefs τ sig :=
  ⟨nullary_bufs_sub .., binary_bufs_sub .., reshape_bufs_sub .., unary_bufs_sub .., unary_bufs_sub .., unary_bufs_sub .., unary_bufs_sub ..⟩
set_option maxRecDepth 8192 in
/-- These operations take no fresh value. -/
theorem c5_fresh : (c5 : List (HloOp τ sig (Elt F))).Forall fun op => op.fresh = ∅ :=
  ⟨rfl, rfl, rfl, rfl, rfl, rfl, rfl⟩
set_option maxRecDepth 8192 in
/-- The buffers of these operations are unscoped. -/
theorem c6_sub : (c6 : List (HloOp τ sig (Elt F))).Forall fun op => op.bufs ⊆ tcRefs τ sig :=
  nary_bufs_sub ..
set_option maxRecDepth 8192 in
/-- These operations take no fresh value. -/
theorem c6_fresh : (c6 : List (HloOp τ sig (Elt F))).Forall fun op => op.fresh = ∅ :=
  rfl
set_option maxRecDepth 8192 in
/-- The buffers of these operations are unscoped. -/
theorem c7_sub : (c7 : List (HloOp τ sig (Elt F))).Forall fun op => op.bufs ⊆ tcRefs τ sig :=
  ⟨unary_bufs_sub .., unary_bufs_sub .., unary_bufs_sub .., unary_bufs_sub ..⟩
set_option maxRecDepth 8192 in
/-- These operations take no fresh value. -/
theorem c7_fresh : (c7 : List (HloOp τ sig (Elt F))).Forall fun op => op.fresh = ∅ :=
  ⟨rfl, rfl, rfl, rfl⟩
set_option maxRecDepth 8192 in
/-- The buffers of these operations are unscoped. -/
theorem c8_sub : (c8 : List (HloOp τ sig (Elt F))).Forall fun op => op.bufs ⊆ tcRefs τ sig :=
  nary_bufs_sub ..
set_option maxRecDepth 8192 in
/-- These operations take no fresh value. -/
theorem c8_fresh : (c8 : List (HloOp τ sig (Elt F))).Forall fun op => op.fresh = ∅ :=
  rfl
set_option maxRecDepth 8192 in
/-- The buffers of these operations are unscoped. -/
theorem c9_sub : (c9 : List (HloOp τ sig (Elt F))).Forall fun op => op.bufs ⊆ tcRefs τ sig :=
  ⟨binary_bufs_sub .., unary_bufs_sub .., binary_bufs_sub .., nullary_bufs_sub .., unary_bufs_sub .., binary_bufs_sub .., binary_bufs_sub ..⟩
set_option maxRecDepth 8192 in
/-- These operations take no fresh value. -/
theorem c9_fresh : (c9 : List (HloOp τ sig (Elt F))).Forall fun op => op.fresh = ∅ :=
  ⟨rfl, rfl, rfl, rfl, rfl, rfl, rfl⟩
set_option maxRecDepth 8192 in
/-- The buffers of these operations are unscoped. -/
theorem c10_sub : (c10 : List (HloOp τ sig (Elt F))).Forall fun op => op.bufs ⊆ tcRefs τ sig :=
  ⟨reshape_bufs_sub .., binary_bufs_sub .., unary_bufs_sub .., binary_bufs_sub .., unary_bufs_sub .., reshape_bufs_sub ..⟩
set_option maxRecDepth 8192 in
/-- These operations take no fresh value. -/
theorem c10_fresh : (c10 : List (HloOp τ sig (Elt F))).Forall fun op => op.fresh = ∅ :=
  ⟨rfl, rfl, rfl, rfl, rfl, rfl⟩
set_option maxRecDepth 8192 in
/-- The buffers of these operations are unscoped. -/
theorem c11_sub : (c11 : List (HloOp τ sig (Elt F))).Forall fun op => op.bufs ⊆ tcRefs τ sig :=
  ⟨binary_bufs_sub .., unary_bufs_sub .., binary_bufs_sub .., unary_bufs_sub .., binary_bufs_sub .., binary_bufs_sub .., nullary_bufs_sub .., unary_bufs_sub .., binary_bufs_sub .., binary_bufs_sub ..⟩
set_option maxRecDepth 8192 in
/-- These operations take no fresh value. -/
theorem c11_fresh : (c11 : List (HloOp τ sig (Elt F))).Forall fun op => op.fresh = ∅ :=
  ⟨rfl, rfl, rfl, rfl, rfl, rfl, rfl, rfl, rfl, rfl⟩
set_option maxRecDepth 8192 in
/-- The buffers of these operations are unscoped. -/
theorem c12_sub : (c12 : List (HloOp τ sig (Elt F))).Forall fun op => op.bufs ⊆ tcRefs τ sig :=
  ⟨nullary_bufs_sub .., nullary_bufs_sub .., nullary_bufs_sub .., quaternary_bufs_sub .., quaternary_bufs_sub ..⟩
set_option maxRecDepth 8192 in
/-- These operations take no fresh value. -/
theorem c12_fresh : (c12 : List (HloOp τ sig (Elt F))).Forall fun op => op.fresh = ∅ :=
  ⟨rfl, rfl, rfl, rfl, rfl⟩
set_option maxRecDepth 8192 in
/-- The buffers of these operations are unscoped. -/
theorem c13_sub : (c13 : List (HloOp τ sig (Elt F))).Forall fun op => op.bufs ⊆ tcRefs τ sig :=
  ⟨nullary_bufs_sub .., unary_bufs_sub .., binary_bufs_sub ..⟩
set_option maxRecDepth 8192 in
/-- These operations take no fresh value. -/
theorem c13_fresh : (c13 : List (HloOp τ sig (Elt F))).Forall fun op => op.fresh = ∅ :=
  ⟨rfl, rfl, rfl⟩
set_option maxRecDepth 8192 in
/-- The buffers of these operations are unscoped. -/
theorem c14_sub : (c14 : List (HloOp τ sig (Elt F))).Forall fun op => op.bufs ⊆ tcRefs τ sig :=
  ⟨unary_bufs_sub .., binary_bufs_sub .., reshape_bufs_sub ..⟩
set_option maxRecDepth 8192 in
/-- These operations take no fresh value. -/
theorem c14_fresh : (c14 : List (HloOp τ sig (Elt F))).Forall fun op => op.fresh = ∅ :=
  ⟨rfl, rfl, rfl⟩
set_option maxRecDepth 8192 in
/-- The buffers of these operations are unscoped. -/
theorem c15_sub : (c15 : List (HloOp τ sig (Elt F))).Forall fun op => op.bufs ⊆ tcRefs τ sig :=
  ⟨binary_bufs_sub .., binary_bufs_sub .., nullary_bufs_sub .., binary_bufs_sub .., nullary_bufs_sub .., binary_bufs_sub .., nullary_bufs_sub .., binary_bufs_sub .., binary_bufs_sub ..⟩
set_option maxRecDepth 8192 in
/-- These operations take no fresh value. -/
theorem c15_fresh : (c15 : List (HloOp τ sig (Elt F))).Forall fun op => op.fresh = ∅ :=
  ⟨rfl, rfl, rfl, rfl, rfl, rfl, rfl, rfl, rfl⟩
set_option maxRecDepth 8192 in
/-- The buffers of these operations are unscoped. -/
theorem c16_sub : (c16 : List (HloOp τ sig (Elt F))).Forall fun op => op.bufs ⊆ tcRefs τ sig :=
  ⟨binary_bufs_sub .., unary_bufs_sub ..⟩
set_option maxRecDepth 8192 in
/-- These operations take no fresh value. -/
theorem c16_fresh : (c16 : List (HloOp τ sig (Elt F))).Forall fun op => op.fresh = ∅ :=
  ⟨rfl, rfl⟩
set_option maxRecDepth 8192 in
/-- The buffers of these operations are unscoped. -/
theorem c17_sub : (c17 : List (HloOp τ sig (Elt F))).Forall fun op => op.bufs ⊆ tcRefs τ sig :=
  ⟨nullary_bufs_sub .., binary_bufs_sub .., reshape_bufs_sub .., unary_bufs_sub .., unary_bufs_sub .., unary_bufs_sub .., unary_bufs_sub ..⟩
set_option maxRecDepth 8192 in
/-- These operations take no fresh value. -/
theorem c17_fresh : (c17 : List (HloOp τ sig (Elt F))).Forall fun op => op.fresh = ∅ :=
  ⟨rfl, rfl, rfl, rfl, rfl, rfl, rfl⟩
set_option maxRecDepth 8192 in
/-- The buffers of these operations are unscoped. -/
theorem c18_sub : (c18 : List (HloOp τ sig (Elt F))).Forall fun op => op.bufs ⊆ tcRefs τ sig :=
  nary_bufs_sub ..
set_option maxRecDepth 8192 in
/-- These operations take no fresh value. -/
theorem c18_fresh : (c18 : List (HloOp τ sig (Elt F))).Forall fun op => op.fresh = ∅ :=
  rfl
set_option maxRecDepth 8192 in
/-- The buffers of these operations are unscoped. -/
theorem c19_sub : (c19 : List (HloOp τ sig (Elt F))).Forall fun op => op.bufs ⊆ tcRefs τ sig :=
  ⟨unary_bufs_sub .., unary_bufs_sub .., unary_bufs_sub .., unary_bufs_sub ..⟩
set_option maxRecDepth 8192 in
/-- These operations take no fresh value. -/
theorem c19_fresh : (c19 : List (HloOp τ sig (Elt F))).Forall fun op => op.fresh = ∅ :=
  ⟨rfl, rfl, rfl, rfl⟩
set_option maxRecDepth 8192 in
/-- The buffers of these operations are unscoped. -/
theorem c20_sub : (c20 : List (HloOp τ sig (Elt F))).Forall fun op => op.bufs ⊆ tcRefs τ sig :=
  nary_bufs_sub ..
set_option maxRecDepth 8192 in
/-- These operations take no fresh value. -/
theorem c20_fresh : (c20 : List (HloOp τ sig (Elt F))).Forall fun op => op.fresh = ∅ :=
  rfl
set_option maxRecDepth 8192 in
/-- The buffers of these operations are unscoped. -/
theorem c21_sub : (c21 : List (HloOp τ sig (Elt F))).Forall fun op => op.bufs ⊆ tcRefs τ sig :=
  ⟨binary_bufs_sub .., unary_bufs_sub .., binary_bufs_sub .., nullary_bufs_sub .., unary_bufs_sub .., binary_bufs_sub .., binary_bufs_sub ..⟩
set_option maxRecDepth 8192 in
/-- These operations take no fresh value. -/
theorem c21_fresh : (c21 : List (HloOp τ sig (Elt F))).Forall fun op => op.fresh = ∅ :=
  ⟨rfl, rfl, rfl, rfl, rfl, rfl, rfl⟩
set_option maxRecDepth 8192 in
/-- The buffers of these operations are unscoped. -/
theorem c22_sub : (c22 : List (HloOp τ sig (Elt F))).Forall fun op => op.bufs ⊆ tcRefs τ sig :=
  ⟨nullary_bufs_sub .., binary_bufs_sub .., reshape_bufs_sub .., unary_bufs_sub .., unary_bufs_sub .., unary_bufs_sub .., unary_bufs_sub ..⟩
set_option maxRecDepth 8192 in
/-- These operations take no fresh value. -/
theorem c22_fresh : (c22 : List (HloOp τ sig (Elt F))).Forall fun op => op.fresh = ∅ :=
  ⟨rfl, rfl, rfl, rfl, rfl, rfl, rfl⟩
set_option maxRecDepth 8192 in
/-- The buffers of these operations are unscoped. -/
theorem c23_sub : (c23 : List (HloOp τ sig (Elt F))).Forall fun op => op.bufs ⊆ tcRefs τ sig :=
  nary_bufs_sub ..
set_option maxRecDepth 8192 in
/-- These operations take no fresh value. -/
theorem c23_fresh : (c23 : List (HloOp τ sig (Elt F))).Forall fun op => op.fresh = ∅ :=
  rfl
set_option maxRecDepth 8192 in
/-- The buffers of these operations are unscoped. -/
theorem c24_sub : (c24 : List (HloOp τ sig (Elt F))).Forall fun op => op.bufs ⊆ tcRefs τ sig :=
  ⟨unary_bufs_sub .., unary_bufs_sub .., unary_bufs_sub .., unary_bufs_sub ..⟩
set_option maxRecDepth 8192 in
/-- These operations take no fresh value. -/
theorem c24_fresh : (c24 : List (HloOp τ sig (Elt F))).Forall fun op => op.fresh = ∅ :=
  ⟨rfl, rfl, rfl, rfl⟩
set_option maxRecDepth 8192 in
/-- The buffers of these operations are unscoped. -/
theorem c25_sub : (c25 : List (HloOp τ sig (Elt F))).Forall fun op => op.bufs ⊆ tcRefs τ sig :=
  nary_bufs_sub ..
set_option maxRecDepth 8192 in
/-- These operations take no fresh value. -/
theorem c25_fresh : (c25 : List (HloOp τ sig (Elt F))).Forall fun op => op.fresh = ∅ :=
  rfl
set_option maxRecDepth 8192 in
/-- The buffers of these operations are unscoped. -/
theorem c26_sub : (c26 : List (HloOp τ sig (Elt F))).Forall fun op => op.bufs ⊆ tcRefs τ sig :=
  ⟨binary_bufs_sub .., unary_bufs_sub .., binary_bufs_sub .., unary_bufs_sub ..⟩
set_option maxRecDepth 8192 in
/-- These operations take no fresh value. -/
theorem c26_fresh : (c26 : List (HloOp τ sig (Elt F))).Forall fun op => op.fresh = ∅ :=
  ⟨rfl, rfl, rfl, rfl⟩
/-- Every buffer of the reference's operations is unscoped. -/
theorem ops_sub : (ops : List (HloOp τ sig (Elt F))).Forall fun op => op.bufs ⊆ tcRefs τ sig :=
  List.forall_iff_forall_mem.mpr fun op h => by
    simp only [ops, p0, p1, List.mem_append, or_assoc] at h
    rcases h with h | h | h | h | h | h | h | h | h | h | h | h | h | h | h | h | h | h | h | h | h | h | h | h | h | h | h
    exacts [List.forall_iff_forall_mem.mp c0_sub op h, List.forall_iff_forall_mem.mp c1_sub op h, List.forall_iff_forall_mem.mp c2_sub op h, List.forall_iff_forall_mem.mp c3_sub op h, List.forall_iff_forall_mem.mp c4_sub op h, List.forall_iff_forall_mem.mp c5_sub op h, List.forall_iff_forall_mem.mp c6_sub op h, List.forall_iff_forall_mem.mp c7_sub op h, List.forall_iff_forall_mem.mp c8_sub op h, List.forall_iff_forall_mem.mp c9_sub op h, List.forall_iff_forall_mem.mp c10_sub op h, List.forall_iff_forall_mem.mp c11_sub op h, List.forall_iff_forall_mem.mp c12_sub op h, List.forall_iff_forall_mem.mp c13_sub op h, List.forall_iff_forall_mem.mp c14_sub op h, List.forall_iff_forall_mem.mp c15_sub op h, List.forall_iff_forall_mem.mp c16_sub op h, List.forall_iff_forall_mem.mp c17_sub op h, List.forall_iff_forall_mem.mp c18_sub op h, List.forall_iff_forall_mem.mp c19_sub op h, List.forall_iff_forall_mem.mp c20_sub op h, List.forall_iff_forall_mem.mp c21_sub op h, List.forall_iff_forall_mem.mp c22_sub op h, List.forall_iff_forall_mem.mp c23_sub op h, List.forall_iff_forall_mem.mp c24_sub op h, List.forall_iff_forall_mem.mp c25_sub op h, List.forall_iff_forall_mem.mp c26_sub op h]
/-- No operation of the reference takes a fresh value. -/
theorem ops_fresh : ∀ op ∈ (ops : List (HloOp τ sig (Elt F))), op.fresh = ∅ := fun op h => by
    simp only [ops, p0, p1, List.mem_append, or_assoc] at h
    rcases h with h | h | h | h | h | h | h | h | h | h | h | h | h | h | h | h | h | h | h | h | h | h | h | h | h | h | h
    exacts [List.forall_iff_forall_mem.mp c0_fresh op h, List.forall_iff_forall_mem.mp c1_fresh op h, List.forall_iff_forall_mem.mp c2_fresh op h, List.forall_iff_forall_mem.mp c3_fresh op h, List.forall_iff_forall_mem.mp c4_fresh op h, List.forall_iff_forall_mem.mp c5_fresh op h, List.forall_iff_forall_mem.mp c6_fresh op h, List.forall_iff_forall_mem.mp c7_fresh op h, List.forall_iff_forall_mem.mp c8_fresh op h, List.forall_iff_forall_mem.mp c9_fresh op h, List.forall_iff_forall_mem.mp c10_fresh op h, List.forall_iff_forall_mem.mp c11_fresh op h, List.forall_iff_forall_mem.mp c12_fresh op h, List.forall_iff_forall_mem.mp c13_fresh op h, List.forall_iff_forall_mem.mp c14_fresh op h, List.forall_iff_forall_mem.mp c15_fresh op h, List.forall_iff_forall_mem.mp c16_fresh op h, List.forall_iff_forall_mem.mp c17_fresh op h, List.forall_iff_forall_mem.mp c18_fresh op h, List.forall_iff_forall_mem.mp c19_fresh op h, List.forall_iff_forall_mem.mp c20_fresh op h, List.forall_iff_forall_mem.mp c21_fresh op h, List.forall_iff_forall_mem.mp c22_fresh op h, List.forall_iff_forall_mem.mp c23_fresh op h, List.forall_iff_forall_mem.mp c24_fresh op h, List.forall_iff_forall_mem.mp c25_fresh op h, List.forall_iff_forall_mem.mp c26_fresh op h]

/-- The reference's run: every buffer ends with what the operations, in order, leave in it. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after ops (launchContents m c) (Proc.devRef .tc b) :=
  run_seq scopedRefs_eq scopedSems_eq defs main (fun _ => ops) main_eq (fun _ => ops_sub) m ρ fun _ => ops_fresh

end Cert.Vq.Ref

end
-- ==== Proof.Ref.ReadA.lean ====
/- What stretches of the reference's operations leave in the buffers read after them. -/
module

public import proofs.«01_k».proof.Proof.Gen.ReferenceIdeal
public import Idealize.ShloMosaic.Lib.StableHlo.Run
public import Idealize.ShloMosaic.Lib.Pipeline.Frame
public import Idealize.ShloMosaic.PureOps.Ideal
public import proofs.«01_k».proof.Proof.Ref.Ops

@[expose] public section

set_option Elab.async false

noncomputable section

namespace Cert.Vq.Ref

open Cert.ReferenceIdeal Cert.ReferenceIdeal.Gen Idealize.ShloMosaic Idealize.ShloMosaic.TcCoe Idealize.SL.Sem Idealize.ShloMosaic.StableHlo

variable {F : FTy → Type} [FloatOps F]

/-- A device buffer of the core, by its reference. -/
abbrev rd (r : Ref sig .tc) : DevRef τ sig := Proc.devRef .tc r

/-- The buffers these operations write. -/
abbrev c0_W : List (Ref sig .tc) := [main_cst, main_v0, main_v1, main_v2, main_v3, main_v4, main_v5]
set_option maxRecDepth 8192 in
/-- They write only those. -/
theorem c0_writes : (c0 : List (HloOp τ sig (Elt F))).Forall fun op => op.writes ⊆ (c0_W.map (Proc.devRef (τ := τ) .tc)).toFinset := by
  simp only [List.Forall]
  refine ⟨?_, ?_, ?_, ?_, ?_, ?_, ?_⟩ <;>
    (simp only [nullary_writes, unary_writes, binary_writes, ternary_writes, quaternary_writes, reshape_writes, nary_writes, Finset.singleton_subset_iff, List.mem_toFinset]; exact List.mem_map_of_mem (by decide))
/-- Every other buffer keeps its contents. -/
theorem c0_keep (V : Valuation τ sig (Elt F)) (r : Ref sig .tc) (h : r ∉ c0_W) :
    after c0 V (no_index (Proc.devRef .tc r)) = V (Proc.devRef .tc r) :=
  after_of_writes_sub c0 _ c0_writes h
set_option maxRecDepth 8192 in
set_option maxHeartbeats 4000000 in
/-- What they leave in `main_v2`. -/
theorem c0_main_v2 (V : Valuation τ sig (Elt F)) : after c0 V (no_index (Proc.devRef .tc main_v2)) =
    ((Host.slice S8x1x1x112x226x3 ![0, 0, 0, 0, 0, 0] ![1, 1, 1, 2, 1, 1] (shapeCast _ (pad S8x226x226x3 ![0, 1, 1, 0] ![0, 1, 1, 0] ![0, 0, 0, 0] (V (rd main_arg0)) (constant S_ .f32 0x00000000#32) pads_S8x224x224x3_S8x226x226x3_000_110_110_000 h_S_) shapeCasts_S8x226x226x3_S8x1x1x226x226x3) slicesBy_S8x1x1x226x226x3_S8x1x1x112x226x3_0s1_0s1_0s1_0s2_0s1_0s1) : (rd main_v2).ty.Contents (Elt F)) := by
  simp only [c0, TRef.nullary, TRef.unary, TRef.binary, TRef.ternary, TRef.quaternary, TRef.toBuf, TRef.ofBuf, cast_eq]
  after_results_simp <;> rfl
set_option maxRecDepth 8192 in
set_option maxHeartbeats 4000000 in
/-- What they leave in `main_v3`. -/
theorem c0_main_v3 (V : Valuation τ sig (Elt F)) : after c0 V (no_index (Proc.devRef .tc main_v3)) =
    ((Host.slice S8x1x1x112x226x3 ![0, 0, 0, 1, 0, 0] ![1, 1, 1, 2, 1, 1] (shapeCast _ (pad S8x226x226x3 ![0, 1, 1, 0] ![0, 1, 1, 0] ![0, 0, 0, 0] (V (rd main_arg0)) (constant S_ .f32 0x00000000#32) pads_S8x224x224x3_S8x226x226x3_000_110_110_000 h_S_) shapeCasts_S8x226x226x3_S8x1x1x226x226x3) slicesBy_S8x1x1x226x226x3_S8x1x1x112x226x3_0s1_0s1_0s1_1s2_0s1_0s1) : (rd main_v3).ty.Contents (Elt F)) := by
  simp only [c0, TRef.nullary, TRef.unary, TRef.binary, TRef.ternary, TRef.quaternary, TRef.toBuf, TRef.ofBuf, cast_eq]
  after_results_simp <;> rfl
set_option maxRecDepth 8192 in
set_option maxHeartbeats 4000000 in
/-- What they leave in `main_v4`. -/
theorem c0_main_v4 (V : Valuation τ sig (Elt F)) : after c0 V (no_index (Proc.devRef .tc main_v4)) =
    ((Host.slice S8x1x1x112x226x3 ![0, 0, 0, 2, 0, 0] ![1, 1, 1, 2, 1, 1] (shapeCast _ (pad S8x226x226x3 ![0, 1, 1, 0] ![0, 1, 1, 0] ![0, 0, 0, 0] (V (rd main_arg0)) (constant S_ .f32 0x00000000#32) pads_S8x224x224x3_S8x226x226x3_000_110_110_000 h_S_) shapeCasts_S8x226x226x3_S8x1x1x226x226x3) slicesBy_S8x1x1x226x226x3_S8x1x1x112x226x3_0s1_0s1_0s1_2s2_0s1_0s1) : (rd main_v4).ty.Contents (Elt F)) := by
  simp only [c0, TRef.nullary, TRef.unary, TRef.binary, TRef.ternary, TRef.quaternary, TRef.toBuf, TRef.ofBuf, cast_eq]
  after_results_simp <;> rfl
set_option maxRecDepth 8192 in
set_option maxHeartbeats 4000000 in
/-- What they leave in `main_v5`. -/
theorem c0_main_v5 (V : Valuation τ sig (Elt F)) : after c0 V (no_index (Proc.devRef .tc main_v5)) =
    ((Host.slice S8x1x1x112x226x3 ![0, 0, 0, 3, 0, 0] ![1, 1, 1, 2, 1, 1] (shapeCast _ (pad S8x226x226x3 ![0, 1, 1, 0] ![0, 1, 1, 0] ![0, 0, 0, 0] (V (rd main_arg0)) (constant S_ .f32 0x00000000#32) pads_S8x224x224x3_S8x226x226x3_000_110_110_000 h_S_) shapeCasts_S8x226x226x3_S8x1x1x226x226x3) slicesBy_S8x1x1x226x226x3_S8x1x1x112x226x3_0s1_0s1_0s1_3s2_0s1_0s1) : (rd main_v5).ty.Contents (Elt F)) := by
  simp only [c0, TRef.nullary, TRef.unary, TRef.binary, TRef.ternary, TRef.quaternary, TRef.toBuf, TRef.ofBuf, cast_eq]
  after_results_simp <;> rfl
/-- The buffers these operations write. -/
abbrev c1_W : List (Ref sig .tc) := [main_v6]
set_option maxRecDepth 8192 in
/-- They write only those. -/
theorem c1_writes : (c1 : List (HloOp τ sig (Elt F))).Forall fun op => op.writes ⊆ (c1_W.map (Proc.devRef (τ := τ) .tc)).toFinset := by
  simp only [List.Forall]
  refine ?_ <;>
    (simp only [nullary_writes, unary_writes, binary_writes, ternary_writes, quaternary_writes, reshape_writes, nary_writes, Finset.singleton_subset_iff, List.mem_toFinset]; exact List.mem_map_of_mem (by decide))
/-- Every other buffer keeps its contents. -/
theorem c1_keep (V : Valuation τ sig (Elt F)) (r : Ref sig .tc) (h : r ∉ c1_W) :
    after c1 V (no_index (Proc.devRef .tc r)) = V (Proc.devRef .tc r) :=
  after_of_writes_sub c1 _ c1_writes h
set_option maxRecDepth 8192 in
set_option maxHeartbeats 4000000 in
/-- What they leave in `main_v6`. -/
theorem c1_main_v6 (V : Valuation τ sig (Elt F)) : after c1 V (no_index (Proc.devRef .tc main_v6)) =
    ((concatenate S8x4x1x112x226x3 1 [⟨S8x1x1x112x226x3, ((V (rd main_v2)) : (⟨S8x1x1x112x226x3, .f32⟩ : BufTy).Contents (Elt F))⟩, ⟨S8x1x1x112x226x3, ((V (rd main_v3)) : (⟨S8x1x1x112x226x3, .f32⟩ : BufTy).Contents (Elt F))⟩, ⟨S8x1x1x112x226x3, ((V (rd main_v4)) : (⟨S8x1x1x112x226x3, .f32⟩ : BufTy).Contents (Elt F))⟩, ⟨S8x1x1x112x226x3, ((V (rd main_v5)) : (⟨S8x1x1x112x226x3, .f32⟩ : BufTy).Contents (Elt F))⟩] concatenates_S8x1x1x112x226x3_S8x1x1x112x226x3_S8x1x1x112x226x3_S8x1x1x112x226x3_S8x4x1x112x226x3_d1) : (rd main_v6).ty.Contents (Elt F)) := by
  simp only [c1, TRef.nullary, TRef.unary, TRef.binary, TRef.ternary, TRef.quaternary, TRef.toBuf, TRef.ofBuf, cast_eq]
  after_results_simp <;> rfl
/-- The buffers these operations write. -/
abbrev c2_W : List (Ref sig .tc) := [main_v7, main_v8, main_v9, main_v10]
set_option maxRecDepth 8192 in
/-- They write only those. -/
theorem c2_writes : (c2 : List (HloOp τ sig (Elt F))).Forall fun op => op.writes ⊆ (c2_W.map (Proc.devRef (τ := τ) .tc)).toFinset := by
  simp only [List.Forall]
  refine ⟨?_, ?_, ?_, ?_⟩ <;>
    (simp only [nullary_writes, unary_writes, binary_writes, ternary_writes, quaternary_writes, reshape_writes, nary_writes, Finset.singleton_subset_iff, List.mem_toFinset]; exact List.mem_map_of_mem (by decide))
/-- Every other buffer keeps its contents. -/
theorem c2_keep (V : Valuation τ sig (Elt F)) (r : Ref sig .tc) (h : r ∉ c2_W) :
    after c2 V (no_index (Proc.devRef .tc r)) = V (Proc.devRef .tc r) :=
  after_of_writes_sub c2 _ c2_writes h
set_option maxRecDepth 8192 in
set_option maxHeartbeats 4000000 in
/-- What they leave in `main_v7`. -/
theorem c2_main_v7 (V : Valuation τ sig (Elt F)) : after c2 V (no_index (Proc.devRef .tc main_v7)) =
    ((Host.slice S8x4x1x112x112x3 ![0, 0, 0, 0, 0, 0] ![1, 1, 1, 1, 2, 1] (V (rd main_v6)) slicesBy_S8x4x1x112x226x3_S8x4x1x112x112x3_0s1_0s1_0s1_0s1_0s2_0s1) : (rd main_v7).ty.Contents (Elt F)) := by
  simp only [c2, TRef.nullary, TRef.unary, TRef.binary, TRef.ternary, TRef.quaternary, TRef.toBuf, TRef.ofBuf, cast_eq]
  after_results_simp <;> rfl
set_option maxRecDepth 8192 in
set_option maxHeartbeats 4000000 in
/-- What they leave in `main_v8`. -/
theorem c2_main_v8 (V : Valuation τ sig (Elt F)) : after c2 V (no_index (Proc.devRef .tc main_v8)) =
    ((Host.slice S8x4x1x112x112x3 ![0, 0, 0, 0, 1, 0] ![1, 1, 1, 1, 2, 1] (V (rd main_v6)) slicesBy_S8x4x1x112x226x3_S8x4x1x112x112x3_0s1_0s1_0s1_0s1_1s2_0s1) : (rd main_v8).ty.Contents (Elt F)) := by
  simp only [c2, TRef.nullary, TRef.unary, TRef.binary, TRef.ternary, TRef.quaternary, TRef.toBuf, TRef.ofBuf, cast_eq]
  after_results_simp <;> rfl
set_option maxRecDepth 8192 in
set_option maxHeartbeats 4000000 in
/-- What they leave in `main_v9`. -/
theorem c2_main_v9 (V : Valuation τ sig (Elt F)) : after c2 V (no_index (Proc.devRef .tc main_v9)) =
    ((Host.slice S8x4x1x112x112x3 ![0, 0, 0, 0, 2, 0] ![1, 1, 1, 1, 2, 1] (V (rd main_v6)) slicesBy_S8x4x1x112x226x3_S8x4x1x112x112x3_0s1_0s1_0s1_0s1_2s2_0s1) : (rd main_v9).ty.Contents (Elt F)) := by
  simp only [c2, TRef.nullary, TRef.unary, TRef.binary, TRef.ternary, TRef.quaternary, TRef.toBuf, TRef.ofBuf, cast_eq]
  after_results_simp <;> rfl
set_option maxRecDepth 8192 in
set_option maxHeartbeats 4000000 in
/-- What they leave in `main_v10`. -/
theorem c2_main_v10 (V : Valuation τ sig (Elt F)) : after c2 V (no_index (Proc.devRef .tc main_v10)) =
    ((Host.slice S8x4x1x112x112x3 ![0, 0, 0, 0, 3, 0] ![1, 1, 1, 1, 2, 1] (V (rd main_v6)) slicesBy_S8x4x1x112x226x3_S8x4x1x112x112x3_0s1_0s1_0s1_0s1_3s2_0s1) : (rd main_v10).ty.Contents (Elt F)) := by
  simp only [c2, TRef.nullary, TRef.unary, TRef.binary, TRef.ternary, TRef.quaternary, TRef.toBuf, TRef.ofBuf, cast_eq]
  after_results_simp <;> rfl
/-- The buffers these operations write. -/
abbrev c3_W : List (Ref sig .tc) := [main_v11]
set_option maxRecDepth 8192 in
/-- They write only those. -/
theorem c3_writes : (c3 : List (HloOp τ sig (Elt F))).Forall fun op => op.writes ⊆ (c3_W.map (Proc.devRef (τ := τ) .tc)).toFinset := by
  simp only [List.Forall]
  refine ?_ <;>
    (simp only [nullary_writes, unary_writes, binary_writes, ternary_writes, quaternary_writes, reshape_writes, nary_writes, Finset.singleton_subset_iff, List.mem_toFinset]; exact List.mem_map_of_mem (by decide))
/-- Every other buffer keeps its contents. -/
theorem c3_keep (V : Valuation τ sig (Elt F)) (r : Ref sig .tc) (h : r ∉ c3_W) :
    after c3 V (no_index (Proc.devRef .tc r)) = V (Proc.devRef .tc r) :=
  after_of_writes_sub c3 _ c3_writes h
set_option maxRecDepth 8192 in
set_option maxHeartbeats 4000000 in
/-- What they leave in `main_v11`. -/
theorem c3_main_v11 (V : Valuation τ sig (Elt F)) : after c3 V (no_index (Proc.devRef .tc main_v11)) =
    ((concatenate S8x4x4x112x112x3 2 [⟨S8x4x1x112x112x3, ((V (rd main_v7)) : (⟨S8x4x1x112x112x3, .f32⟩ : BufTy).Contents (Elt F))⟩, ⟨S8x4x1x112x112x3, ((V (rd main_v8)) : (⟨S8x4x1x112x112x3, .f32⟩ : BufTy).Contents (Elt F))⟩, ⟨S8x4x1x112x112x3, ((V (rd main_v9)) : (⟨S8x4x1x112x112x3, .f32⟩ : BufTy).Contents (Elt F))⟩, ⟨S8x4x1x112x112x3, ((V (rd main_v10)) : (⟨S8x4x1x112x112x3, .f32⟩ : BufTy).Contents (Elt F))⟩] concatenates_S8x4x1x112x112x3_S8x4x1x112x112x3_S8x4x1x112x112x3_S8x4x1x112x112x3_S8x4x4x112x112x3_d2) : (rd main_v11).ty.Contents (Elt F)) := by
  simp only [c3, TRef.nullary, TRef.unary, TRef.binary, TRef.ternary, TRef.quaternary, TRef.toBuf, TRef.ofBuf, cast_eq]
  after_results_simp <;> rfl
/-- The buffers these operations write. -/
abbrev c4_W : List (Ref sig .tc) := [main_v12, main_v13, main_v14, main_cst_0, main_v15, main_v16, main_v17]
set_option maxRecDepth 8192 in
/-- They write only those. -/
theorem c4_writes : (c4 : List (HloOp τ sig (Elt F))).Forall fun op => op.writes ⊆ (c4_W.map (Proc.devRef (τ := τ) .tc)).toFinset := by
  simp only [List.Forall]
  refine ⟨?_, ?_, ?_, ?_, ?_, ?_, ?_⟩ <;>
    (simp only [nullary_writes, unary_writes, binary_writes, ternary_writes, quaternary_writes, reshape_writes, nary_writes, Finset.singleton_subset_iff, List.mem_toFinset]; exact List.mem_map_of_mem (by decide))
/-- Every other buffer keeps its contents. -/
theorem c4_keep (V : Valuation τ sig (Elt F)) (r : Ref sig .tc) (h : r ∉ c4_W) :
    after c4 V (no_index (Proc.devRef .tc r)) = V (Proc.devRef .tc r) :=
  after_of_writes_sub c4 _ c4_writes h
set_option maxRecDepth 8192 in
set_option maxHeartbeats 4000000 in
/-- What they leave in `main_v17`. -/
theorem c4_main_v17 (V : Valuation τ sig (Elt F)) : after c4 V (no_index (Proc.devRef .tc main_v17)) =
    ((maximumf (addf (Host.dotGeneral dot_S8x4x4x112x112x3_S4x4x3x128_S8x112x112x128_125_012_034_3_n_n none (V (rd main_v11)) (V (rd main_arg1))) (broadcastInDim S8x112x112x128 ![3] bcast_S128_S8x112x112x128_3 (V (rd main_arg2)))) (mulf (broadcastInDim S8x112x112x128 ![] bcast_S_S8x112x112x128 (constant S_ .f32 0x3C23D70A#32)) (addf (Host.dotGeneral dot_S8x4x4x112x112x3_S4x4x3x128_S8x112x112x128_125_012_034_3_n_n none (V (rd main_v11)) (V (rd main_arg1))) (broadcastInDim S8x112x112x128 ![3] bcast_S128_S8x112x112x128_3 (V (rd main_arg2)))))) : (rd main_v17).ty.Contents (Elt F)) := by
  simp only [c4, TRef.nullary, TRef.unary, TRef.binary, TRef.ternary, TRef.quaternary, TRef.toBuf, TRef.ofBuf, cast_eq]
  after_results_simp <;> rfl
/-- The buffers these operations write. -/
abbrev c5_W : List (Ref sig .tc) := [main_cst_1, main_v18, main_v19, main_v20, main_v21, main_v22, main_v23]
set_option maxRecDepth 8192 in
/-- They write only those. -/
theorem c5_writes : (c5 : List (HloOp τ sig (Elt F))).Forall fun op => op.writes ⊆ (c5_W.map (Proc.devRef (τ := τ) .tc)).toFinset := by
  simp only [List.Forall]
  refine ⟨?_, ?_, ?_, ?_, ?_, ?_, ?_⟩ <;>
    (simp only [nullary_writes, unary_writes, binary_writes, ternary_writes, quaternary_writes, reshape_writes, nary_writes, Finset.singleton_subset_iff, List.mem_toFinset]; exact List.mem_map_of_mem (by decide))
/-- Every other buffer keeps its contents. -/
theorem c5_keep (V : Valuation τ sig (Elt F)) (r : Ref sig .tc) (h : r ∉ c5_W) :
    after c5 V (no_index (Proc.devRef .tc r)) = V (Proc.devRef .tc r) :=
  after_of_writes_sub c5 _ c5_writes h
set_option maxRecDepth 8192 in
set_option maxHeartbeats 4000000 in
/-- What they leave in `main_v20`. -/
theorem c5_main_v20 (V : Valuation τ sig (Elt F)) : after c5 V (no_index (Proc.devRef .tc main_v20)) =
    ((Host.slice S8x1x1x56x114x128 ![0, 0, 0, 0, 0, 0] ![1, 1, 1, 2, 1, 1] (shapeCast _ (pad S8x114x114x128 ![0, 1, 1, 0] ![0, 1, 1, 0] ![0, 0, 0, 0] (V (rd main_v17)) (constant S_ .f32 0x00000000#32) pads_S8x112x112x128_S8x114x114x128_000_110_110_000 h_S_) shapeCasts_S8x114x114x128_S8x1x1x114x114x128) slicesBy_S8x1x1x114x114x128_S8x1x1x56x114x128_0s1_0s1_0s1_0s2_0s1_0s1) : (rd main_v20).ty.Contents (Elt F)) := by
  simp only [c5, TRef.nullary, TRef.unary, TRef.binary, TRef.ternary, TRef.quaternary, TRef.toBuf, TRef.ofBuf, cast_eq]
  after_results_simp <;> rfl
set_option maxRecDepth 8192 in
set_option maxHeartbeats 4000000 in
/-- What they leave in `main_v21`. -/
theorem c5_main_v21 (V : Valuation τ sig (Elt F)) : after c5 V (no_index (Proc.devRef .tc main_v21)) =
    ((Host.slice S8x1x1x56x114x128 ![0, 0, 0, 1, 0, 0] ![1, 1, 1, 2, 1, 1] (shapeCast _ (pad S8x114x114x128 ![0, 1, 1, 0] ![0, 1, 1, 0] ![0, 0, 0, 0] (V (rd main_v17)) (constant S_ .f32 0x00000000#32) pads_S8x112x112x128_S8x114x114x128_000_110_110_000 h_S_) shapeCasts_S8x114x114x128_S8x1x1x114x114x128) slicesBy_S8x1x1x114x114x128_S8x1x1x56x114x128_0s1_0s1_0s1_1s2_0s1_0s1) : (rd main_v21).ty.Contents (Elt F)) := by
  simp only [c5, TRef.nullary, TRef.unary, TRef.binary, TRef.ternary, TRef.quaternary, TRef.toBuf, TRef.ofBuf, cast_eq]
  after_results_simp <;> rfl
set_option maxRecDepth 8192 in
set_option maxHeartbeats 4000000 in
/-- What they leave in `main_v22`. -/
theorem c5_main_v22 (V : Valuation τ sig (Elt F)) : after c5 V (no_index (Proc.devRef .tc main_v22)) =
    ((Host.slice S8x1x1x56x114x128 ![0, 0, 0, 2, 0, 0] ![1, 1, 1, 2, 1, 1] (shapeCast _ (pad S8x114x114x128 ![0, 1, 1, 0] ![0, 1, 1, 0] ![0, 0, 0, 0] (V (rd main_v17)) (constant S_ .f32 0x00000000#32) pads_S8x112x112x128_S8x114x114x128_000_110_110_000 h_S_) shapeCasts_S8x114x114x128_S8x1x1x114x114x128) slicesBy_S8x1x1x114x114x128_S8x1x1x56x114x128_0s1_0s1_0s1_2s2_0s1_0s1) : (rd main_v22).ty.Contents (Elt F)) := by
  simp only [c5, TRef.nullary, TRef.unary, TRef.binary, TRef.ternary, TRef.quaternary, TRef.toBuf, TRef.ofBuf, cast_eq]
  after_results_simp <;> rfl
set_option maxRecDepth 8192 in
set_option maxHeartbeats 4000000 in
/-- What they leave in `main_v23`. -/
theorem c5_main_v23 (V : Valuation τ sig (Elt F)) : after c5 V (no_index (Proc.devRef .tc main_v23)) =
    ((Host.slice S8x1x1x56x114x128 ![0, 0, 0, 3, 0, 0] ![1, 1, 1, 2, 1, 1] (shapeCast _ (pad S8x114x114x128 ![0, 1, 1, 0] ![0, 1, 1, 0] ![0, 0, 0, 0] (V (rd main_v17)) (constant S_ .f32 0x00000000#32) pads_S8x112x112x128_S8x114x114x128_000_110_110_000 h_S_) shapeCasts_S8x114x114x128_S8x1x1x114x114x128) slicesBy_S8x1x1x114x114x128_S8x1x1x56x114x128_0s1_0s1_0s1_3s2_0s1_0s1) : (rd main_v23).ty.Contents (Elt F)) := by
  simp only [c5, TRef.nullary, TRef.unary, TRef.binary, TRef.ternary, TRef.quaternary, TRef.toBuf, TRef.ofBuf, cast_eq]
  after_results_simp <;> rfl
/-- The buffers these operations write. -/
abbrev c6_W : List (Ref sig .tc) := [main_v24]
set_option maxRecDepth 8192 in
/-- They write only those. -/
theorem c6_writes : (c6 : List (HloOp τ sig (Elt F))).Forall fun op => op.writes ⊆ (c6_W.map (Proc.devRef (τ := τ) .tc)).toFinset := by
  simp only [List.Forall]
  refine ?_ <;>
    (simp only [nullary_writes, unary_writes, binary_writes, ternary_writes, quaternary_writes, reshape_writes, nary_writes, Finset.singleton_subset_iff, List.mem_toFinset]; exact List.mem_map_of_mem (by decide))
/-- Every other buffer keeps its contents. -/
theorem c6_keep (V : Valuation τ sig (Elt F)) (r : Ref sig .tc) (h : r ∉ c6_W) :
    after c6 V (no_index (Proc.devRef .tc r)) = V (Proc.devRef .tc r) :=
  after_of_writes_sub c6 _ c6_writes h
set_option maxRecDepth 8192 in
set_option maxHeartbeats 4000000 in
/-- What they leave in `main_v24`. -/
theorem c6_main_v24 (V : Valuation τ sig (Elt F)) : after c6 V (no_index (Proc.devRef .tc main_v24)) =
    ((concatenate S8x4x1x56x114x128 1 [⟨S8x1x1x56x114x128, ((V (rd main_v20)) : (⟨S8x1x1x56x114x128, .f32⟩ : BufTy).Contents (Elt F))⟩, ⟨S8x1x1x56x114x128, ((V (rd main_v21)) : (⟨S8x1x1x56x114x128, .f32⟩ : BufTy).Contents (Elt F))⟩, ⟨S8x1x1x56x114x128, ((V (rd main_v22)) : (⟨S8x1x1x56x114x128, .f32⟩ : BufTy).Contents (Elt F))⟩, ⟨S8x1x1x56x114x128, ((V (rd main_v23)) : (⟨S8x1x1x56x114x128, .f32⟩ : BufTy).Contents (Elt F))⟩] concatenates_S8x1x1x56x114x128_S8x1x1x56x114x128_S8x1x1x56x114x128_S8x1x1x56x114x128_S8x4x1x56x114x128_d1) : (rd main_v24).ty.Contents (Elt F)) := by
  simp only [c6, TRef.nullary, TRef.unary, TRef.binary, TRef.ternary, TRef.quaternary, TRef.toBuf, TRef.ofBuf, cast_eq]
  after_results_simp <;> rfl
/-- The buffers these operations write. -/
abbrev c7_W : List (Ref sig .tc) := [main_v25, main_v26, main_v27, main_v28]
set_option maxRecDepth 8192 in
/-- They write only those. -/
theorem c7_writes : (c7 : List (HloOp τ sig (Elt F))).Forall fun op => op.writes ⊆ (c7_W.map (Proc.devRef (τ := τ) .tc)).toFinset := by
  simp only [List.Forall]
  refine ⟨?_, ?_, ?_, ?_⟩ <;>
    (simp only [nullary_writes, unary_writes, binary_writes, ternary_writes, quaternary_writes, reshape_writes, nary_writes, Finset.singleton_subset_iff, List.mem_toFinset]; exact List.mem_map_of_mem (by decide))
/-- Every other buffer keeps its contents. -/
theorem c7_keep (V : Valuation τ sig (Elt F)) (r : Ref sig .tc) (h : r ∉ c7_W) :
    after c7 V (no_index (Proc.devRef .tc r)) = V (Proc.devRef .tc r) :=
  after_of_writes_sub c7 _ c7_writes h
set_option maxRecDepth 8192 in
set_option maxHeartbeats 4000000 in
/-- What they leave in `main_v25`. -/
theorem c7_main_v25 (V : Valuation τ sig (Elt F)) : after c7 V (no_index (Proc.devRef .tc main_v25)) =
    ((Host.slice S8x4x1x56x56x128 ![0, 0, 0, 0, 0, 0] ![1, 1, 1, 1, 2, 1] (V (rd main_v24)) slicesBy_S8x4x1x56x114x128_S8x4x1x56x56x128_0s1_0s1_0s1_0s1_0s2_0s1) : (rd main_v25).ty.Contents (Elt F)) := by
  simp only [c7, TRef.nullary, TRef.unary, TRef.binary, TRef.ternary, TRef.quaternary, TRef.toBuf, TRef.ofBuf, cast_eq]
  after_results_simp <;> rfl
set_option maxRecDepth 8192 in
set_option maxHeartbeats 4000000 in
/-- What they leave in `main_v26`. -/
theorem c7_main_v26 (V : Valuation τ sig (Elt F)) : after c7 V (no_index (Proc.devRef .tc main_v26)) =
    ((Host.slice S8x4x1x56x56x128 ![0, 0, 0, 0, 1, 0] ![1, 1, 1, 1, 2, 1] (V (rd main_v24)) slicesBy_S8x4x1x56x114x128_S8x4x1x56x56x128_0s1_0s1_0s1_0s1_1s2_0s1) : (rd main_v26).ty.Contents (Elt F)) := by
  simp only [c7, TRef.nullary, TRef.unary, TRef.binary, TRef.ternary, TRef.quaternary, TRef.toBuf, TRef.ofBuf, cast_eq]
  after_results_simp <;> rfl
set_option maxRecDepth 8192 in
set_option maxHeartbeats 4000000 in
/-- What they leave in `main_v27`. -/
theorem c7_main_v27 (V : Valuation τ sig (Elt F)) : after c7 V (no_index (Proc.devRef .tc main_v27)) =
    ((Host.slice S8x4x1x56x56x128 ![0, 0, 0, 0, 2, 0] ![1, 1, 1, 1, 2, 1] (V (rd main_v24)) slicesBy_S8x4x1x56x114x128_S8x4x1x56x56x128_0s1_0s1_0s1_0s1_2s2_0s1) : (rd main_v27).ty.Contents (Elt F)) := by
  simp only [c7, TRef.nullary, TRef.unary, TRef.binary, TRef.ternary, TRef.quaternary, TRef.toBuf, TRef.ofBuf, cast_eq]
  after_results_simp <;> rfl
set_option maxRecDepth 8192 in
set_option maxHeartbeats 4000000 in
/-- What they leave in `main_v28`. -/
theorem c7_main_v28 (V : Valuation τ sig (Elt F)) : after c7 V (no_index (Proc.devRef .tc main_v28)) =
    ((Host.slice S8x4x1x56x56x128 ![0, 0, 0, 0, 3, 0] ![1, 1, 1, 1, 2, 1] (V (rd main_v24)) slicesBy_S8x4x1x56x114x128_S8x4x1x56x56x128_0s1_0s1_0s1_0s1_3s2_0s1) : (rd main_v28).ty.Contents (Elt F)) := by
  simp only [c7, TRef.nullary, TRef.unary, TRef.binary, TRef.ternary, TRef.quaternary, TRef.toBuf, TRef.ofBuf, cast_eq]
  after_results_simp <;> rfl
/-- The buffers these operations write. -/
abbrev c8_W : List (Ref sig .tc) := [main_v29]
set_option maxRecDepth 8192 in
/-- They write only those. -/
theorem c8_writes : (c8 : List (HloOp τ sig (Elt F))).Forall fun op => op.writes ⊆ (c8_W.map (Proc.devRef (τ := τ) .tc)).toFinset := by
  simp only [List.Forall]
  refine ?_ <;>
    (simp only [nullary_writes, unary_writes, binary_writes, ternary_writes, quaternary_writes, reshape_writes, nary_writes, Finset.singleton_subset_iff, List.mem_toFinset]; exact List.mem_map_of_mem (by decide))
/-- Every other buffer keeps its contents. -/
theorem c8_keep (V : Valuation τ sig (Elt F)) (r : Ref sig .tc) (h : r ∉ c8_W) :
    after c8 V (no_index (Proc.devRef .tc r)) = V (Proc.devRef .tc r) :=
  after_of_writes_sub c8 _ c8_writes h
set_option maxRecDepth 8192 in
set_option maxHeartbeats 4000000 in
/-- What they leave in `main_v29`. -/
theorem c8_main_v29 (V : Valuation τ sig (Elt F)) : after c8 V (no_index (Proc.devRef .tc main_v29)) =
    ((concatenate S8x4x4x56x56x128 2 [⟨S8x4x1x56x56x128, ((V (rd main_v25)) : (⟨S8x4x1x56x56x128, .f32⟩ : BufTy).Contents (Elt F))⟩, ⟨S8x4x1x56x56x128, ((V (rd main_v26)) : (⟨S8x4x1x56x56x128, .f32⟩ : BufTy).Contents (Elt F))⟩, ⟨S8x4x1x56x56x128, ((V (rd main_v27)) : (⟨S8x4x1x56x56x128, .f32⟩ : BufTy).Contents (Elt F))⟩, ⟨S8x4x1x56x56x128, ((V (rd main_v28)) : (⟨S8x4x1x56x56x128, .f32⟩ : BufTy).Contents (Elt F))⟩] concatenates_S8x4x1x56x56x128_S8x4x1x56x56x128_S8x4x1x56x56x128_S8x4x1x56x56x128_S8x4x4x56x56x128_d2) : (rd main_v29).ty.Contents (Elt F)) := by
  simp only [c8, TRef.nullary, TRef.unary, TRef.binary, TRef.ternary, TRef.quaternary, TRef.toBuf, TRef.ofBuf, cast_eq]
  after_results_simp <;> rfl
/-- The buffers these operations write. -/
abbrev c9_W : List (Ref sig .tc) := [main_v30, main_v31, main_v32, main_cst_2, main_v33, main_v34, main_v35]
set_option maxRecDepth 8192 in
/-- They write only those. -/
theorem c9_writes : (c9 : List (HloOp τ sig (Elt F))).Forall fun op => op.writes ⊆ (c9_W.map (Proc.devRef (τ := τ) .tc)).toFinset := by
  simp only [List.Forall]
  refine ⟨?_, ?_, ?_, ?_, ?_, ?_, ?_⟩ <;>
    (simp only [nullary_writes, unary_writes, binary_writes, ternary_writes, quaternary_writes, reshape_writes, nary_writes, Finset.singleton_subset_iff, List.mem_toFinset]; exact List.mem_map_of_mem (by decide))
/-- Every other buffer keeps its contents. -/
theorem c9_keep (V : Valuation τ sig (Elt F)) (r : Ref sig .tc) (h : r ∉ c9_W) :
    after c9 V (no_index (Proc.devRef .tc r)) = V (Proc.devRef .tc r) :=
  after_of_writes_sub c9 _ c9_writes h
set_option maxRecDepth 8192 in
set_option maxHeartbeats 4000000 in
/-- What they leave in `main_v35`. -/
theorem c9_main_v35 (V : Valuation τ sig (Elt F)) : after c9 V (no_index (Proc.devRef .tc main_v35)) =
    ((maximumf (addf (Host.dotGeneral dot_S8x4x4x56x56x128_S4x4x128x256_S8x56x56x256_125_012_034_3_n_n none (V (rd main_v29)) (V (rd main_arg3))) (broadcastInDim S8x56x56x256 ![3] bcast_S256_S8x56x56x256_3 (V (rd main_arg4)))) (mulf (broadcastInDim S8x56x56x256 ![] bcast_S_S8x56x56x256 (constant S_ .f32 0x3C23D70A#32)) (addf (Host.dotGeneral dot_S8x4x4x56x56x128_S4x4x128x256_S8x56x56x256_125_012_034_3_n_n none (V (rd main_v29)) (V (rd main_arg3))) (broadcastInDim S8x56x56x256 ![3] bcast_S256_S8x56x56x256_3 (V (rd main_arg4)))))) : (rd main_v35).ty.Contents (Elt F)) := by
  simp only [c9, TRef.nullary, TRef.unary, TRef.binary, TRef.ternary, TRef.quaternary, TRef.toBuf, TRef.ofBuf, cast_eq]
  after_results_simp <;> rfl
/-- The buffers these operations write. -/
abbrev c10_W : List (Ref sig .tc) := [main_v36, main_v37, main_v38, main_v39, main_v40, main_v41]
set_option maxRecDepth 8192 in
/-- They write only those. -/
theorem c10_writes : (c10 : List (HloOp τ sig (Elt F))).Forall fun op => op.writes ⊆ (c10_W.map (Proc.devRef (τ := τ) .tc)).toFinset := by
  simp only [List.Forall]
  refine ⟨?_, ?_, ?_, ?_, ?_, ?_⟩ <;>
    (simp only [nullary_writes, unary_writes, binary_writes, ternary_writes, quaternary_writes, reshape_writes, nary_writes, Finset.singleton_subset_iff, List.mem_toFinset]; exact List.mem_map_of_mem (by decide))
/-- Every other buffer keeps its contents. -/
theorem c10_keep (V : Valuation τ sig (Elt F)) (r : Ref sig .tc) (h : r ∉ c10_W) :
    after c10 V (no_index (Proc.devRef .tc r)) = V (Proc.devRef .tc r) :=
  after_of_writes_sub c10 _ c10_writes h
set_option maxRecDepth 8192 in
set_option maxHeartbeats 4000000 in
/-- What they leave in `main_v40`. -/
theorem c10_main_v40 (V : Valuation τ sig (Elt F)) : after c10 V (no_index (Proc.devRef .tc main_v40)) =
    ((transpose S8x56x64x56 [0, 2, 3, 1] (addf (Host.dotGeneral dot_S8x56x56x256_S256x64_S8x56x56x64_3_0_012_1_n_n none (V (rd main_v35)) (shapeCast _ (V (rd main_arg5)) shapeCasts_S1x1x256x64_S256x64)) (broadcastInDim S8x56x56x64 ![3] bcast_S64_S8x56x56x64_3 (V (rd main_arg6)))) transposes_S8x56x56x64_S8x56x64x56_0_2_3_1) : (rd main_v40).ty.Contents (Elt F)) := by
  simp only [c10, TRef.nullary, TRef.unary, TRef.binary, TRef.ternary, TRef.quaternary, TRef.toBuf, TRef.ofBuf, cast_eq]
  after_results_simp <;> rfl
set_option maxRecDepth 8192 in
set_option maxHeartbeats 4000000 in
/-- What they leave in `main_v41`. -/
theorem c10_main_v41 (V : Valuation τ sig (Elt F)) : after c10 V (no_index (Proc.devRef .tc main_v41)) =
    ((shapeCast _ (transpose S8x56x64x56 [0, 2, 3, 1] (addf (Host.dotGeneral dot_S8x56x56x256_S256x64_S8x56x56x64_3_0_012_1_n_n none (V (rd main_v35)) (shapeCast _ (V (rd main_arg5)) shapeCasts_S1x1x256x64_S256x64)) (broadcastInDim S8x56x56x64 ![3] bcast_S64_S8x56x56x64_3 (V (rd main_arg6)))) transposes_S8x56x56x64_S8x56x64x56_0_2_3_1) shapeCasts_S8x56x64x56_S25088x64) : (rd main_v41).ty.Contents (Elt F)) := by
  simp only [c10, TRef.nullary, TRef.unary, TRef.binary, TRef.ternary, TRef.quaternary, TRef.toBuf, TRef.ofBuf, cast_eq]
  after_results_simp <;> rfl
/-- The buffers these operations write. -/
abbrev c11_W : List (Ref sig .tc) := [main_v42, main_v43, main_v44, main_v45, main_v46, main_v47, main_cst_3, main_v48, main_v49, main_v50]
set_option maxRecDepth 8192 in
/-- They write only those. -/
theorem c11_writes : (c11 : List (HloOp τ sig (Elt F))).Forall fun op => op.writes ⊆ (c11_W.map (Proc.devRef (τ := τ) .tc)).toFinset := by
  simp only [List.Forall]
  refine ⟨?_, ?_, ?_, ?_, ?_, ?_, ?_, ?_, ?_, ?_⟩ <;>
    (simp only [nullary_writes, unary_writes, binary_writes, ternary_writes, quaternary_writes, reshape_writes, nary_writes, Finset.singleton_subset_iff, List.mem_toFinset]; exact List.mem_map_of_mem (by decide))
/-- Every other buffer keeps its contents. -/
theorem c11_keep (V : Valuation τ sig (Elt F)) (r : Ref sig .tc) (h : r ∉ c11_W) :
    after c11 V (no_index (Proc.devRef .tc r)) = V (Proc.devRef .tc r) :=
  after_of_writes_sub c11 _ c11_writes h
set_option maxRecDepth 8192 in
set_option maxHeartbeats 4000000 in
/-- What they leave in `main_v50`. -/
theorem c11_main_v50 (V : Valuation τ sig (Elt F)) : after c11 V (no_index (Proc.devRef .tc main_v50)) =
    ((subf (addf (broadcastInDim S25088x512 ![0] bcast_S25088_S25088x512_0 (Host.dotGeneral dot_S25088x64_S25088x64_S25088_1_1_n_n_0_0 none (V (rd main_v41)) (V (rd main_v41)))) (broadcastInDim S25088x512 ![1] bcast_S512_S25088x512_1 (Host.dotGeneral dot_S512x64_S512x64_S512_1_1_n_n_0_0 none (V (rd main_arg7)) (V (rd main_arg7))))) (mulf (broadcastInDim S25088x512 ![] bcast_S_S25088x512 (constant S_ .f32 0x40000000#32)) (Host.dotGeneral dot_S25088x64_S512x64_S25088x512_1_1_0_0_n_n none (V (rd main_v41)) (V (rd main_arg7))))) : (rd main_v50).ty.Contents (Elt F)) := by
  simp only [c11, TRef.nullary, TRef.unary, TRef.binary, TRef.ternary, TRef.quaternary, TRef.toBuf, TRef.ofBuf, cast_eq]
  after_results_simp <;> rfl
/-- The buffers these operations write. -/
abbrev c12_W : List (Ref sig .tc) := [main_call0_v0, main_call0_cst, main_call0_c, main_call0_v1_0, main_v51]
set_option maxRecDepth 8192 in
/-- They write only those. -/
theorem c12_writes : (c12 : List (HloOp τ sig (Elt F))).Forall fun op => op.writes ⊆ (c12_W.map (Proc.devRef (τ := τ) .tc)).toFinset := by
  simp only [List.Forall]
  refine ⟨?_, ?_, ?_, ?_, ?_⟩ <;>
    (simp only [nullary_writes, unary_writes, binary_writes, ternary_writes, quaternary_writes, reshape_writes, nary_writes, Finset.singleton_subset_iff, List.mem_toFinset]; exact List.mem_map_of_mem (by decide))
/-- Every other buffer keeps its contents. -/
theorem c12_keep (V : Valuation τ sig (Elt F)) (r : Ref sig .tc) (h : r ∉ c12_W) :
    after c12 V (no_index (Proc.devRef .tc r)) = V (Proc.devRef .tc r) :=
  after_of_writes_sub c12 _ c12_writes h
set_option maxRecDepth 8192 in
set_option maxHeartbeats 4000000 in
/-- What they leave in `main_v51`. -/
theorem c12_main_v51 (V : Valuation τ sig (Elt F)) : after c12 V (no_index (Proc.devRef .tc main_v51)) =
    ((fun j => (Host.argReduce reducer_argmin_f32_i32 (V (rd main_v50)) (iotaInDim S25088x512 32 1) (constant S_ .f32 0x7F800000#32) (constantI S_ 32 0#32) reducesTo_S25088x512_S25088_d1 h_S_ j).2) : (rd main_v51).ty.Contents (Elt F)) := by
  simp only [c12, TRef.nullary, TRef.unary, TRef.binary, TRef.ternary, TRef.quaternary, TRef.toBuf, TRef.ofBuf, cast_eq]
  after_results_simp <;> rfl

end Cert.Vq.Ref

end
-- ==== Proof.Ref.ReadB.lean ====
/- What stretches of the reference's operations leave in the buffers read after them. -/
module

public import proofs.«01_k».proof.Proof.Gen.ReferenceIdeal
public import Idealize.ShloMosaic.Lib.StableHlo.Run
public import Idealize.ShloMosaic.Lib.Pipeline.Frame
public import Idealize.ShloMosaic.PureOps.Ideal
public import proofs.«01_k».proof.Proof.Ref.ReadA

@[expose] public section

set_option Elab.async false

noncomputable section

namespace Cert.Vq.Ref

open Cert.ReferenceIdeal Cert.ReferenceIdeal.Gen Idealize.ShloMosaic Idealize.ShloMosaic.TcCoe Idealize.SL.Sem Idealize.ShloMosaic.StableHlo

variable {F : FTy → Type} [FloatOps F]

/-- The buffers these operations write. -/
abbrev c13_W : List (Ref sig .tc) := [main_v52, main_v53, main_v54]
set_option maxRecDepth 8192 in
/-- They write only those. -/
theorem c13_writes : (c13 : List (HloOp τ sig (Elt F))).Forall fun op => op.writes ⊆ (c13_W.map (Proc.devRef (τ := τ) .tc)).toFinset := by
  simp only [List.Forall]
  refine ⟨?_, ?_, ?_⟩ <;>
    (simp only [nullary_writes, unary_writes, binary_writes, ternary_writes, quaternary_writes, reshape_writes, nary_writes, Finset.singleton_subset_iff, List.mem_toFinset]; exact List.mem_map_of_mem (by decide))
/-- Every other buffer keeps its contents. -/
theorem c13_keep (V : Valuation τ sig (Elt F)) (r : Ref sig .tc) (h : r ∉ c13_W) :
    after c13 V (no_index (Proc.devRef .tc r)) = V (Proc.devRef .tc r) :=
  after_of_writes_sub c13 _ c13_writes h
set_option maxRecDepth 8192 in
set_option maxHeartbeats 4000000 in
/-- What they leave in `main_v54`. -/
theorem c13_main_v54 (V : Valuation τ sig (Elt F)) : after c13 V (no_index (Proc.devRef .tc main_v54)) =
    ((cmpi .eq (iotaInDim S25088x512 32 1) (broadcastInDim S25088x512 ![0] bcast_S25088_S25088x512_0 (V (rd main_v51)))) : (rd main_v54).ty.Contents (Elt F)) := by
  simp only [c13, TRef.nullary, TRef.unary, TRef.binary, TRef.ternary, TRef.quaternary, TRef.toBuf, TRef.ofBuf, cast_eq]
  after_results_simp <;> rfl
/-- The buffers these operations write. -/
abbrev c14_W : List (Ref sig .tc) := [main_v55, main_v56, main_v57]
set_option maxRecDepth 8192 in
/-- They write only those. -/
theorem c14_writes : (c14 : List (HloOp τ sig (Elt F))).Forall fun op => op.writes ⊆ (c14_W.map (Proc.devRef (τ := τ) .tc)).toFinset := by
  simp only [List.Forall]
  refine ⟨?_, ?_, ?_⟩ <;>
    (simp only [nullary_writes, unary_writes, binary_writes, ternary_writes, quaternary_writes, reshape_writes, nary_writes, Finset.singleton_subset_iff, List.mem_toFinset]; exact List.mem_map_of_mem (by decide))
/-- Every other buffer keeps its contents. -/
theorem c14_keep (V : Valuation τ sig (Elt F)) (r : Ref sig .tc) (h : r ∉ c14_W) :
    after c14 V (no_index (Proc.devRef .tc r)) = V (Proc.devRef .tc r) :=
  after_of_writes_sub c14 _ c14_writes h
set_option maxRecDepth 8192 in
set_option maxHeartbeats 4000000 in
/-- What they leave in `main_v57`. -/
theorem c14_main_v57 (V : Valuation τ sig (Elt F)) : after c14 V (no_index (Proc.devRef .tc main_v57)) =
    ((shapeCast _ (Host.dotGeneral dot_S25088x512_S512x64_S25088x64_1_0_0_1_n_n none (uitofp .f32 (V (rd main_v54))) (V (rd main_arg7))) shapeCasts_S25088x64_S8x56x64x56) : (rd main_v57).ty.Contents (Elt F)) := by
  simp only [c14, TRef.nullary, TRef.unary, TRef.binary, TRef.ternary, TRef.quaternary, TRef.toBuf, TRef.ofBuf, cast_eq]
  after_results_simp <;> rfl
/-- The buffers these operations write. -/
abbrev c15_W : List (Ref sig .tc) := [main_v58, main_v59, main_cst_4, main_v60, main_cst_5, main_v61, main_cst_6, main_v62, main_v63]
set_option maxRecDepth 8192 in
/-- They write only those. -/
theorem c15_writes : (c15 : List (HloOp τ sig (Elt F))).Forall fun op => op.writes ⊆ (c15_W.map (Proc.devRef (τ := τ) .tc)).toFinset := by
  simp only [List.Forall]
  refine ⟨?_, ?_, ?_, ?_, ?_, ?_, ?_, ?_, ?_⟩ <;>
    (simp only [nullary_writes, unary_writes, binary_writes, ternary_writes, quaternary_writes, reshape_writes, nary_writes, Finset.singleton_subset_iff, List.mem_toFinset]; exact List.mem_map_of_mem (by decide))
/-- Every other buffer keeps its contents. -/
theorem c15_keep (V : Valuation τ sig (Elt F)) (r : Ref sig .tc) (h : r ∉ c15_W) :
    after c15 V (no_index (Proc.devRef .tc r)) = V (Proc.devRef .tc r) :=
  after_of_writes_sub c15 _ c15_writes h
set_option maxRecDepth 8192 in
set_option maxHeartbeats 4000000 in
/-- What they leave in `main_v58`. -/
theorem c15_main_v58 (V : Valuation τ sig (Elt F)) : after c15 V (no_index (Proc.devRef .tc main_v58)) =
    ((subf (V (rd main_v57)) (V (rd main_v40))) : (rd main_v58).ty.Contents (Elt F)) := by
  simp only [c15, TRef.nullary, TRef.unary, TRef.binary, TRef.ternary, TRef.quaternary, TRef.toBuf, TRef.ofBuf, cast_eq]
  after_results_simp <;> rfl
set_option maxRecDepth 8192 in
set_option maxHeartbeats 4000000 in
/-- What they leave in `main_v63`. -/
theorem c15_main_v63 (V : Valuation τ sig (Elt F)) : after c15 V (no_index (Proc.devRef .tc main_v63)) =
    ((addf (Host.divf (Host.reduceAdd (mulf (subf (V (rd main_v57)) (V (rd main_v40))) (subf (V (rd main_v57)) (V (rd main_v40)))) (constant S_ .f32 0x00000000#32) reducesTo_S8x56x64x56_S_d0_1_2_3 h_S_) (constant S_ .f32 0x49C40000#32)) (mulf (constant S_ .f32 0x3E800000#32) (Host.divf (Host.reduceAdd (mulf (subf (V (rd main_v57)) (V (rd main_v40))) (subf (V (rd main_v57)) (V (rd main_v40)))) (constant S_ .f32 0x00000000#32) reducesTo_S8x56x64x56_S_d0_1_2_3 h_S_) (constant S_ .f32 0x49C40000#32)))) : (rd main_v63).ty.Contents (Elt F)) := by
  simp only [c15, TRef.nullary, TRef.unary, TRef.binary, TRef.ternary, TRef.quaternary, TRef.toBuf, TRef.ofBuf, cast_eq]
  after_results_simp <;> rfl
/-- The buffers these operations write. -/
abbrev c16_W : List (Ref sig .tc) := [main_v64, main_v65]
set_option maxRecDepth 8192 in
/-- They write only those. -/
theorem c16_writes : (c16 : List (HloOp τ sig (Elt F))).Forall fun op => op.writes ⊆ (c16_W.map (Proc.devRef (τ := τ) .tc)).toFinset := by
  simp only [List.Forall]
  refine ⟨?_, ?_⟩ <;>
    (simp only [nullary_writes, unary_writes, binary_writes, ternary_writes, quaternary_writes, reshape_writes, nary_writes, Finset.singleton_subset_iff, List.mem_toFinset]; exact List.mem_map_of_mem (by decide))
/-- Every other buffer keeps its contents. -/
theorem c16_keep (V : Valuation τ sig (Elt F)) (r : Ref sig .tc) (h : r ∉ c16_W) :
    after c16 V (no_index (Proc.devRef .tc r)) = V (Proc.devRef .tc r) :=
  after_of_writes_sub c16 _ c16_writes h
set_option maxRecDepth 8192 in
set_option maxHeartbeats 4000000 in
/-- What they leave in `main_v65`. -/
theorem c16_main_v65 (V : Valuation τ sig (Elt F)) : after c16 V (no_index (Proc.devRef .tc main_v65)) =
    ((transpose S8x56x56x64 [0, 3, 1, 2] (addf (V (rd main_v40)) (V (rd main_v58))) transposes_S8x56x64x56_S8x56x56x64_0_3_1_2) : (rd main_v65).ty.Contents (Elt F)) := by
  simp only [c16, TRef.nullary, TRef.unary, TRef.binary, TRef.ternary, TRef.quaternary, TRef.toBuf, TRef.ofBuf, cast_eq]
  after_results_simp <;> rfl
/-- The buffers these operations write. -/
abbrev c17_W : List (Ref sig .tc) := [main_cst_7, main_v66, main_v67, main_v68, main_v69, main_v70, main_v71]
set_option maxRecDepth 8192 in
/-- They write only those. -/
theorem c17_writes : (c17 : List (HloOp τ sig (Elt F))).Forall fun op => op.writes ⊆ (c17_W.map (Proc.devRef (τ := τ) .tc)).toFinset := by
  simp only [List.Forall]
  refine ⟨?_, ?_, ?_, ?_, ?_, ?_, ?_⟩ <;>
    (simp only [nullary_writes, unary_writes, binary_writes, ternary_writes, quaternary_writes, reshape_writes, nary_writes, Finset.singleton_subset_iff, List.mem_toFinset]; exact List.mem_map_of_mem (by decide))
/-- Every other buffer keeps its contents. -/
theorem c17_keep (V : Valuation τ sig (Elt F)) (r : Ref sig .tc) (h : r ∉ c17_W) :
    after c17 V (no_index (Proc.devRef .tc r)) = V (Proc.devRef .tc r) :=
  after_of_writes_sub c17 _ c17_writes h
set_option maxRecDepth 8192 in
set_option maxHeartbeats 4000000 in
/-- What they leave in `main_v68`. -/
theorem c17_main_v68 (V : Valuation τ sig (Elt F)) : after c17 V (no_index (Proc.devRef .tc main_v68)) =
    ((extractStridedSlice S8x1x1x112x115x64 ![0, 0, 0, 0, 0, 0] (shapeCast _ (pad S8x115x115x64 ![0, 2, 2, 0] ![0, 2, 2, 0] ![0, 1, 1, 0] (V (rd main_v65)) (constant S_ .f32 0x00000000#32) pads_S8x56x56x64_S8x115x115x64_000_221_221_000 h_S_) shapeCasts_S8x115x115x64_S8x1x1x115x115x64) slices_S8x1x1x115x115x64_S8x1x1x112x115x64_0_0_0_0_0_0) : (rd main_v68).ty.Contents (Elt F)) := by
  simp only [c17, TRef.nullary, TRef.unary, TRef.binary, TRef.ternary, TRef.quaternary, TRef.toBuf, TRef.ofBuf, cast_eq]
  after_results_simp <;> rfl
set_option maxRecDepth 8192 in
set_option maxHeartbeats 4000000 in
/-- What they leave in `main_v69`. -/
theorem c17_main_v69 (V : Valuation τ sig (Elt F)) : after c17 V (no_index (Proc.devRef .tc main_v69)) =
    ((extractStridedSlice S8x1x1x112x115x64 ![0, 0, 0, 1, 0, 0] (shapeCast _ (pad S8x115x115x64 ![0, 2, 2, 0] ![0, 2, 2, 0] ![0, 1, 1, 0] (V (rd main_v65)) (constant S_ .f32 0x00000000#32) pads_S8x56x56x64_S8x115x115x64_000_221_221_000 h_S_) shapeCasts_S8x115x115x64_S8x1x1x115x115x64) slices_S8x1x1x115x115x64_S8x1x1x112x115x64_0_0_0_1_0_0) : (rd main_v69).ty.Contents (Elt F)) := by
  simp only [c17, TRef.nullary, TRef.unary, TRef.binary, TRef.ternary, TRef.quaternary, TRef.toBuf, TRef.ofBuf, cast_eq]
  after_results_simp <;> rfl
set_option maxRecDepth 8192 in
set_option maxHeartbeats 4000000 in
/-- What they leave in `main_v70`. -/
theorem c17_main_v70 (V : Valuation τ sig (Elt F)) : after c17 V (no_index (Proc.devRef .tc main_v70)) =
    ((extractStridedSlice S8x1x1x112x115x64 ![0, 0, 0, 2, 0, 0] (shapeCast _ (pad S8x115x115x64 ![0, 2, 2, 0] ![0, 2, 2, 0] ![0, 1, 1, 0] (V (rd main_v65)) (constant S_ .f32 0x00000000#32) pads_S8x56x56x64_S8x115x115x64_000_221_221_000 h_S_) shapeCasts_S8x115x115x64_S8x1x1x115x115x64) slices_S8x1x1x115x115x64_S8x1x1x112x115x64_0_0_0_2_0_0) : (rd main_v70).ty.Contents (Elt F)) := by
  simp only [c17, TRef.nullary, TRef.unary, TRef.binary, TRef.ternary, TRef.quaternary, TRef.toBuf, TRef.ofBuf, cast_eq]
  after_results_simp <;> rfl
set_option maxRecDepth 8192 in
set_option maxHeartbeats 4000000 in
/-- What they leave in `main_v71`. -/
theorem c17_main_v71 (V : Valuation τ sig (Elt F)) : after c17 V (no_index (Proc.devRef .tc main_v71)) =
    ((extractStridedSlice S8x1x1x112x115x64 ![0, 0, 0, 3, 0, 0] (shapeCast _ (pad S8x115x115x64 ![0, 2, 2, 0] ![0, 2, 2, 0] ![0, 1, 1, 0] (V (rd main_v65)) (constant S_ .f32 0x00000000#32) pads_S8x56x56x64_S8x115x115x64_000_221_221_000 h_S_) shapeCasts_S8x115x115x64_S8x1x1x115x115x64) slices_S8x1x1x115x115x64_S8x1x1x112x115x64_0_0_0_3_0_0) : (rd main_v71).ty.Contents (Elt F)) := by
  simp only [c17, TRef.nullary, TRef.unary, TRef.binary, TRef.ternary, TRef.quaternary, TRef.toBuf, TRef.ofBuf, cast_eq]
  after_results_simp <;> rfl
/-- The buffers these operations write. -/
abbrev c18_W : List (Ref sig .tc) := [main_v72]
set_option maxRecDepth 8192 in
/-- They write only those. -/
theorem c18_writes : (c18 : List (HloOp τ sig (Elt F))).Forall fun op => op.writes ⊆ (c18_W.map (Proc.devRef (τ := τ) .tc)).toFinset := by
  simp only [List.Forall]
  refine ?_ <;>
    (simp only [nullary_writes, unary_writes, binary_writes, ternary_writes, quaternary_writes, reshape_writes, nary_writes, Finset.singleton_subset_iff, List.mem_toFinset]; exact List.mem_map_of_mem (by decide))
/-- Every other buffer keeps its contents. -/
theorem c18_keep (V : Valuation τ sig (Elt F)) (r : Ref sig .tc) (h : r ∉ c18_W) :
    after c18 V (no_index (Proc.devRef .tc r)) = V (Proc.devRef .tc r) :=
  after_of_writes_sub c18 _ c18_writes h
set_option maxRecDepth 8192 in
set_option maxHeartbeats 4000000 in
/-- What they leave in `main_v72`. -/
theorem c18_main_v72 (V : Valuation τ sig (Elt F)) : after c18 V (no_index (Proc.devRef .tc main_v72)) =
    ((concatenate S8x4x1x112x115x64 1 [⟨S8x1x1x112x115x64, ((V (rd main_v68)) : (⟨S8x1x1x112x115x64, .f32⟩ : BufTy).Contents (Elt F))⟩, ⟨S8x1x1x112x115x64, ((V (rd main_v69)) : (⟨S8x1x1x112x115x64, .f32⟩ : BufTy).Contents (Elt F))⟩, ⟨S8x1x1x112x115x64, ((V (rd main_v70)) : (⟨S8x1x1x112x115x64, .f32⟩ : BufTy).Contents (Elt F))⟩, ⟨S8x1x1x112x115x64, ((V (rd main_v71)) : (⟨S8x1x1x112x115x64, .f32⟩ : BufTy).Contents (Elt F))⟩] concatenates_S8x1x1x112x115x64_S8x1x1x112x115x64_S8x1x1x112x115x64_S8x1x1x112x115x64_S8x4x1x112x115x64_d1) : (rd main_v72).ty.Contents (Elt F)) := by
  simp only [c18, TRef.nullary, TRef.unary, TRef.binary, TRef.ternary, TRef.quaternary, TRef.toBuf, TRef.ofBuf, cast_eq]
  after_results_simp <;> rfl
/-- The buffers these operations write. -/
abbrev c19_W : List (Ref sig .tc) := [main_v73, main_v74, main_v75, main_v76]
set_option maxRecDepth 8192 in
/-- They write only those. -/
theorem c19_writes : (c19 : List (HloOp τ sig (Elt F))).Forall fun op => op.writes ⊆ (c19_W.map (Proc.devRef (τ := τ) .tc)).toFinset := by
  simp only [List.Forall]
  refine ⟨?_, ?_, ?_, ?_⟩ <;>
    (simp only [nullary_writes, unary_writes, binary_writes, ternary_writes, quaternary_writes, reshape_writes, nary_writes, Finset.singleton_subset_iff, List.mem_toFinset]; exact List.mem_map_of_mem (by decide))
/-- Every other buffer keeps its contents. -/
theorem c19_keep (V : Valuation τ sig (Elt F)) (r : Ref sig .tc) (h : r ∉ c19_W) :
    after c19 V (no_index (Proc.devRef .tc r)) = V (Proc.devRef .tc r) :=
  after_of_writes_sub c19 _ c19_writes h
set_option maxRecDepth 8192 in
set_option maxHeartbeats 4000000 in
/-- What they leave in `main_v73`. -/
theorem c19_main_v73 (V : Valuation τ sig (Elt F)) : after c19 V (no_index (Proc.devRef .tc main_v73)) =
    ((extractStridedSlice S8x4x1x112x112x64 ![0, 0, 0, 0, 0, 0] (V (rd main_v72)) slices_S8x4x1x112x115x64_S8x4x1x112x112x64_0_0_0_0_0_0) : (rd main_v73).ty.Contents (Elt F)) := by
  simp only [c19, TRef.nullary, TRef.unary, TRef.binary, TRef.ternary, TRef.quaternary, TRef.toBuf, TRef.ofBuf, cast_eq]
  after_results_simp <;> rfl
set_option maxRecDepth 8192 in
set_option maxHeartbeats 4000000 in
/-- What they leave in `main_v74`. -/
theorem c19_main_v74 (V : Valuation τ sig (Elt F)) : after c19 V (no_index (Proc.devRef .tc main_v74)) =
    ((extractStridedSlice S8x4x1x112x112x64 ![0, 0, 0, 0, 1, 0] (V (rd main_v72)) slices_S8x4x1x112x115x64_S8x4x1x112x112x64_0_0_0_0_1_0) : (rd main_v74).ty.Contents (Elt F)) := by
  simp only [c19, TRef.nullary, TRef.unary, TRef.binary, TRef.ternary, TRef.quaternary, TRef.toBuf, TRef.ofBuf, cast_eq]
  after_results_simp <;> rfl
set_option maxRecDepth 8192 in
set_option maxHeartbeats 4000000 in
/-- What they leave in `main_v75`. -/
theorem c19_main_v75 (V : Valuation τ sig (Elt F)) : after c19 V (no_index (Proc.devRef .tc main_v75)) =
    ((extractStridedSlice S8x4x1x112x112x64 ![0, 0, 0, 0, 2, 0] (V (rd main_v72)) slices_S8x4x1x112x115x64_S8x4x1x112x112x64_0_0_0_0_2_0) : (rd main_v75).ty.Contents (Elt F)) := by
  simp only [c19, TRef.nullary, TRef.unary, TRef.binary, TRef.ternary, TRef.quaternary, TRef.toBuf, TRef.ofBuf, cast_eq]
  after_results_simp <;> rfl
set_option maxRecDepth 8192 in
set_option maxHeartbeats 4000000 in
/-- What they leave in `main_v76`. -/
theorem c19_main_v76 (V : Valuation τ sig (Elt F)) : after c19 V (no_index (Proc.devRef .tc main_v76)) =
    ((extractStridedSlice S8x4x1x112x112x64 ![0, 0, 0, 0, 3, 0] (V (rd main_v72)) slices_S8x4x1x112x115x64_S8x4x1x112x112x64_0_0_0_0_3_0) : (rd main_v76).ty.Contents (Elt F)) := by
  simp only [c19, TRef.nullary, TRef.unary, TRef.binary, TRef.ternary, TRef.quaternary, TRef.toBuf, TRef.ofBuf, cast_eq]
  after_results_simp <;> rfl
/-- The buffers these operations write. -/
abbrev c20_W : List (Ref sig .tc) := [main_v77]
set_option maxRecDepth 8192 in
/-- They write only those. -/
theorem c20_writes : (c20 : List (HloOp τ sig (Elt F))).Forall fun op => op.writes ⊆ (c20_W.map (Proc.devRef (τ := τ) .tc)).toFinset := by
  simp only [List.Forall]
  refine ?_ <;>
    (simp only [nullary_writes, unary_writes, binary_writes, ternary_writes, quaternary_writes, reshape_writes, nary_writes, Finset.singleton_subset_iff, List.mem_toFinset]; exact List.mem_map_of_mem (by decide))
/-- Every other buffer keeps its contents. -/
theorem c20_keep (V : Valuation τ sig (Elt F)) (r : Ref sig .tc) (h : r ∉ c20_W) :
    after c20 V (no_index (Proc.devRef .tc r)) = V (Proc.devRef .tc r) :=
  after_of_writes_sub c20 _ c20_writes h
set_option maxRecDepth 8192 in
set_option maxHeartbeats 4000000 in
/-- What they leave in `main_v77`. -/
theorem c20_main_v77 (V : Valuation τ sig (Elt F)) : after c20 V (no_index (Proc.devRef .tc main_v77)) =
    ((concatenate S8x4x4x112x112x64 2 [⟨S8x4x1x112x112x64, ((V (rd main_v73)) : (⟨S8x4x1x112x112x64, .f32⟩ : BufTy).Contents (Elt F))⟩, ⟨S8x4x1x112x112x64, ((V (rd main_v74)) : (⟨S8x4x1x112x112x64, .f32⟩ : BufTy).Contents (Elt F))⟩, ⟨S8x4x1x112x112x64, ((V (rd main_v75)) : (⟨S8x4x1x112x112x64, .f32⟩ : BufTy).Contents (Elt F))⟩, ⟨S8x4x1x112x112x64, ((V (rd main_v76)) : (⟨S8x4x1x112x112x64, .f32⟩ : BufTy).Contents (Elt F))⟩] concatenates_S8x4x1x112x112x64_S8x4x1x112x112x64_S8x4x1x112x112x64_S8x4x1x112x112x64_S8x4x4x112x112x64_d2) : (rd main_v77).ty.Contents (Elt F)) := by
  simp only [c20, TRef.nullary, TRef.unary, TRef.binary, TRef.ternary, TRef.quaternary, TRef.toBuf, TRef.ofBuf, cast_eq]
  after_results_simp <;> rfl
/-- The buffers these operations write. -/
abbrev c21_W : List (Ref sig .tc) := [main_v78, main_v79, main_v80, main_cst_8, main_v81, main_v82, main_v83]
set_option maxRecDepth 8192 in
/-- They write only those. -/
theorem c21_writes : (c21 : List (HloOp τ sig (Elt F))).Forall fun op => op.writes ⊆ (c21_W.map (Proc.devRef (τ := τ) .tc)).toFinset := by
  simp only [List.Forall]
  refine ⟨?_, ?_, ?_, ?_, ?_, ?_, ?_⟩ <;>
    (simp only [nullary_writes, unary_writes, binary_writes, ternary_writes, quaternary_writes, reshape_writes, nary_writes, Finset.singleton_subset_iff, List.mem_toFinset]; exact List.mem_map_of_mem (by decide))
/-- Every other buffer keeps its contents. -/
theorem c21_keep (V : Valuation τ sig (Elt F)) (r : Ref sig .tc) (h : r ∉ c21_W) :
    after c21 V (no_index (Proc.devRef .tc r)) = V (Proc.devRef .tc r) :=
  after_of_writes_sub c21 _ c21_writes h
set_option maxRecDepth 8192 in
set_option maxHeartbeats 4000000 in
/-- What they leave in `main_v83`. -/
theorem c21_main_v83 (V : Valuation τ sig (Elt F)) : after c21 V (no_index (Proc.devRef .tc main_v83)) =
    ((maximumf (addf (Host.dotGeneral dot_S8x4x4x112x112x64_S4x4x64x256_S8x112x112x256_125_012_034_3_n_n none (V (rd main_v77)) (V (rd main_arg8))) (broadcastInDim S8x112x112x256 ![3] bcast_S256_S8x112x112x256_3 (V (rd main_arg9)))) (mulf (broadcastInDim S8x112x112x256 ![] bcast_S_S8x112x112x256 (constant S_ .f32 0x3C23D70A#32)) (addf (Host.dotGeneral dot_S8x4x4x112x112x64_S4x4x64x256_S8x112x112x256_125_012_034_3_n_n none (V (rd main_v77)) (V (rd main_arg8))) (broadcastInDim S8x112x112x256 ![3] bcast_S256_S8x112x112x256_3 (V (rd main_arg9)))))) : (rd main_v83).ty.Contents (Elt F)) := by
  simp only [c21, TRef.nullary, TRef.unary, TRef.binary, TRef.ternary, TRef.quaternary, TRef.toBuf, TRef.ofBuf, cast_eq]
  after_results_simp <;> rfl
/-- The buffers these operations write. -/
abbrev c22_W : List (Ref sig .tc) := [main_cst_9, main_v84, main_v85, main_v86, main_v87, main_v88, main_v89]
set_option maxRecDepth 8192 in
/-- They write only those. -/
theorem c22_writes : (c22 : List (HloOp τ sig (Elt F))).Forall fun op => op.writes ⊆ (c22_W.map (Proc.devRef (τ := τ) .tc)).toFinset := by
  simp only [List.Forall]
  refine ⟨?_, ?_, ?_, ?_, ?_, ?_, ?_⟩ <;>
    (simp only [nullary_writes, unary_writes, binary_writes, ternary_writes, quaternary_writes, reshape_writes, nary_writes, Finset.singleton_subset_iff, List.mem_toFinset]; exact List.mem_map_of_mem (by decide))
/-- Every other buffer keeps its contents. -/
theorem c22_keep (V : Valuation τ sig (Elt F)) (r : Ref sig .tc) (h : r ∉ c22_W) :
    after c22 V (no_index (Proc.devRef .tc r)) = V (Proc.devRef .tc r) :=
  after_of_writes_sub c22 _ c22_writes h
set_option maxRecDepth 8192 in
set_option maxHeartbeats 4000000 in
/-- What they leave in `main_v86`. -/
theorem c22_main_v86 (V : Valuation τ sig (Elt F)) : after c22 V (no_index (Proc.devRef .tc main_v86)) =
    ((extractStridedSlice S8x1x1x224x227x256 ![0, 0, 0, 0, 0, 0] (shapeCast _ (pad S8x227x227x256 ![0, 2, 2, 0] ![0, 2, 2, 0] ![0, 1, 1, 0] (V (rd main_v83)) (constant S_ .f32 0x00000000#32) pads_S8x112x112x256_S8x227x227x256_000_221_221_000 h_S_) shapeCasts_S8x227x227x256_S8x1x1x227x227x256) slices_S8x1x1x227x227x256_S8x1x1x224x227x256_0_0_0_0_0_0) : (rd main_v86).ty.Contents (Elt F)) := by
  simp only [c22, TRef.nullary, TRef.unary, TRef.binary, TRef.ternary, TRef.quaternary, TRef.toBuf, TRef.ofBuf, cast_eq]
  after_results_simp <;> rfl
set_option maxRecDepth 8192 in
set_option maxHeartbeats 4000000 in
/-- What they leave in `main_v87`. -/
theorem c22_main_v87 (V : Valuation τ sig (Elt F)) : after c22 V (no_index (Proc.devRef .tc main_v87)) =
    ((extractStridedSlice S8x1x1x224x227x256 ![0, 0, 0, 1, 0, 0] (shapeCast _ (pad S8x227x227x256 ![0, 2, 2, 0] ![0, 2, 2, 0] ![0, 1, 1, 0] (V (rd main_v83)) (constant S_ .f32 0x00000000#32) pads_S8x112x112x256_S8x227x227x256_000_221_221_000 h_S_) shapeCasts_S8x227x227x256_S8x1x1x227x227x256) slices_S8x1x1x227x227x256_S8x1x1x224x227x256_0_0_0_1_0_0) : (rd main_v87).ty.Contents (Elt F)) := by
  simp only [c22, TRef.nullary, TRef.unary, TRef.binary, TRef.ternary, TRef.quaternary, TRef.toBuf, TRef.ofBuf, cast_eq]
  after_results_simp <;> rfl
set_option maxRecDepth 8192 in
set_option maxHeartbeats 4000000 in
/-- What they leave in `main_v88`. -/
theorem c22_main_v88 (V : Valuation τ sig (Elt F)) : after c22 V (no_index (Proc.devRef .tc main_v88)) =
    ((extractStridedSlice S8x1x1x224x227x256 ![0, 0, 0, 2, 0, 0] (shapeCast _ (pad S8x227x227x256 ![0, 2, 2, 0] ![0, 2, 2, 0] ![0, 1, 1, 0] (V (rd main_v83)) (constant S_ .f32 0x00000000#32) pads_S8x112x112x256_S8x227x227x256_000_221_221_000 h_S_) shapeCasts_S8x227x227x256_S8x1x1x227x227x256) slices_S8x1x1x227x227x256_S8x1x1x224x227x256_0_0_0_2_0_0) : (rd main_v88).ty.Contents (Elt F)) := by
  simp only [c22, TRef.nullary, TRef.unary, TRef.binary, TRef.ternary, TRef.quaternary, TRef.toBuf, TRef.ofBuf, cast_eq]
  after_results_simp <;> rfl
set_option maxRecDepth 8192 in
set_option maxHeartbeats 4000000 in
/-- What they leave in `main_v89`. -/
theorem c22_main_v89 (V : Valuation τ sig (Elt F)) : after c22 V (no_index (Proc.devRef .tc main_v89)) =
    ((extractStridedSlice S8x1x1x224x227x256 ![0, 0, 0, 3, 0, 0] (shapeCast _ (pad S8x227x227x256 ![0, 2, 2, 0] ![0, 2, 2, 0] ![0, 1, 1, 0] (V (rd main_v83)) (constant S_ .f32 0x00000000#32) pads_S8x112x112x256_S8x227x227x256_000_221_221_000 h_S_) shapeCasts_S8x227x227x256_S8x1x1x227x227x256) slices_S8x1x1x227x227x256_S8x1x1x224x227x256_0_0_0_3_0_0) : (rd main_v89).ty.Contents (Elt F)) := by
  simp only [c22, TRef.nullary, TRef.unary, TRef.binary, TRef.ternary, TRef.quaternary, TRef.toBuf, TRef.ofBuf, cast_eq]
  after_results_simp <;> rfl
/-- The buffers these operations write. -/
abbrev c23_W : List (Ref sig .tc) := [main_v90]
set_option maxRecDepth 8192 in
/-- They write only those. -/
theorem c23_writes : (c23 : List (HloOp τ sig (Elt F))).Forall fun op => op.writes ⊆ (c23_W.map (Proc.devRef (τ := τ) .tc)).toFinset := by
  simp only [List.Forall]
  refine ?_ <;>
    (simp only [nullary_writes, unary_writes, binary_writes, ternary_writes, quaternary_writes, reshape_writes, nary_writes, Finset.singleton_subset_iff, List.mem_toFinset]; exact List.mem_map_of_mem (by decide))
/-- Every other buffer keeps its contents. -/
theorem c23_keep (V : Valuation τ sig (Elt F)) (r : Ref sig .tc) (h : r ∉ c23_W) :
    after c23 V (no_index (Proc.devRef .tc r)) = V (Proc.devRef .tc r) :=
  after_of_writes_sub c23 _ c23_writes h
set_option maxRecDepth 8192 in
set_option maxHeartbeats 4000000 in
/-- What they leave in `main_v90`. -/
theorem c23_main_v90 (V : Valuation τ sig (Elt F)) : after c23 V (no_index (Proc.devRef .tc main_v90)) =
    ((concatenate S8x4x1x224x227x256 1 [⟨S8x1x1x224x227x256, ((V (rd main_v86)) : (⟨S8x1x1x224x227x256, .f32⟩ : BufTy).Contents (Elt F))⟩, ⟨S8x1x1x224x227x256, ((V (rd main_v87)) : (⟨S8x1x1x224x227x256, .f32⟩ : BufTy).Contents (Elt F))⟩, ⟨S8x1x1x224x227x256, ((V (rd main_v88)) : (⟨S8x1x1x224x227x256, .f32⟩ : BufTy).Contents (Elt F))⟩, ⟨S8x1x1x224x227x256, ((V (rd main_v89)) : (⟨S8x1x1x224x227x256, .f32⟩ : BufTy).Contents (Elt F))⟩] concatenates_S8x1x1x224x227x256_S8x1x1x224x227x256_S8x1x1x224x227x256_S8x1x1x224x227x256_S8x4x1x224x227x256_d1) : (rd main_v90).ty.Contents (Elt F)) := by
  simp only [c23, TRef.nullary, TRef.unary, TRef.binary, TRef.ternary, TRef.quaternary, TRef.toBuf, TRef.ofBuf, cast_eq]
  after_results_simp <;> rfl
/-- The buffers these operations write. -/
abbrev c24_W : List (Ref sig .tc) := [main_v91, main_v92, main_v93, main_v94]
set_option maxRecDepth 8192 in
/-- They write only those. -/
theorem c24_writes : (c24 : List (HloOp τ sig (Elt F))).Forall fun op => op.writes ⊆ (c24_W.map (Proc.devRef (τ := τ) .tc)).toFinset := by
  simp only [List.Forall]
  refine ⟨?_, ?_, ?_, ?_⟩ <;>
    (simp only [nullary_writes, unary_writes, binary_writes, ternary_writes, quaternary_writes, reshape_writes, nary_writes, Finset.singleton_subset_iff, List.mem_toFinset]; exact List.mem_map_of_mem (by decide))
/-- Every other buffer keeps its contents. -/
theorem c24_keep (V : Valuation τ sig (Elt F)) (r : Ref sig .tc) (h : r ∉ c24_W) :
    after c24 V (no_index (Proc.devRef .tc r)) = V (Proc.devRef .tc r) :=
  after_of_writes_sub c24 _ c24_writes h
set_option maxRecDepth 8192 in
set_option maxHeartbeats 4000000 in
/-- What they leave in `main_v91`. -/
theorem c24_main_v91 (V : Valuation τ sig (Elt F)) : after c24 V (no_index (Proc.devRef .tc main_v91)) =
    ((extractStridedSlice S8x4x1x224x224x256 ![0, 0, 0, 0, 0, 0] (V (rd main_v90)) slices_S8x4x1x224x227x256_S8x4x1x224x224x256_0_0_0_0_0_0) : (rd main_v91).ty.Contents (Elt F)) := by
  simp only [c24, TRef.nullary, TRef.unary, TRef.binary, TRef.ternary, TRef.quaternary, TRef.toBuf, TRef.ofBuf, cast_eq]
  after_results_simp <;> rfl
set_option maxRecDepth 8192 in
set_option maxHeartbeats 4000000 in
/-- What they leave in `main_v92`. -/
theorem c24_main_v92 (V : Valuation τ sig (Elt F)) : after c24 V (no_index (Proc.devRef .tc main_v92)) =
    ((extractStridedSlice S8x4x1x224x224x256 ![0, 0, 0, 0, 1, 0] (V (rd main_v90)) slices_S8x4x1x224x227x256_S8x4x1x224x224x256_0_0_0_0_1_0) : (rd main_v92).ty.Contents (Elt F)) := by
  simp only [c24, TRef.nullary, TRef.unary, TRef.binary, TRef.ternary, TRef.quaternary, TRef.toBuf, TRef.ofBuf, cast_eq]
  after_results_simp <;> rfl
set_option maxRecDepth 8192 in
set_option maxHeartbeats 4000000 in
/-- What they leave in `main_v93`. -/
theorem c24_main_v93 (V : Valuation τ sig (Elt F)) : after c24 V (no_index (Proc.devRef .tc main_v93)) =
    ((extractStridedSlice S8x4x1x224x224x256 ![0, 0, 0, 0, 2, 0] (V (rd main_v90)) slices_S8x4x1x224x227x256_S8x4x1x224x224x256_0_0_0_0_2_0) : (rd main_v93).ty.Contents (Elt F)) := by
  simp only [c24, TRef.nullary, TRef.unary, TRef.binary, TRef.ternary, TRef.quaternary, TRef.toBuf, TRef.ofBuf, cast_eq]
  after_results_simp <;> rfl
set_option maxRecDepth 8192 in
set_option maxHeartbeats 4000000 in
/-- What they leave in `main_v94`. -/
theorem c24_main_v94 (V : Valuation τ sig (Elt F)) : after c24 V (no_index (Proc.devRef .tc main_v94)) =
    ((extractStridedSlice S8x4x1x224x224x256 ![0, 0, 0, 0, 3, 0] (V (rd main_v90)) slices_S8x4x1x224x227x256_S8x4x1x224x224x256_0_0_0_0_3_0) : (rd main_v94).ty.Contents (Elt F)) := by
  simp only [c24, TRef.nullary, TRef.unary, TRef.binary, TRef.ternary, TRef.quaternary, TRef.toBuf, TRef.ofBuf, cast_eq]
  after_results_simp <;> rfl
/-- The buffers these operations write. -/
abbrev c25_W : List (Ref sig .tc) := [main_v95]
set_option maxRecDepth 8192 in
/-- They write only those. -/
theorem c25_writes : (c25 : List (HloOp τ sig (Elt F))).Forall fun op => op.writes ⊆ (c25_W.map (Proc.devRef (τ := τ) .tc)).toFinset := by
  simp only [List.Forall]
  refine ?_ <;>
    (simp only [nullary_writes, unary_writes, binary_writes, ternary_writes, quaternary_writes, reshape_writes, nary_writes, Finset.singleton_subset_iff, List.mem_toFinset]; exact List.mem_map_of_mem (by decide))
/-- Every other buffer keeps its contents. -/
theorem c25_keep (V : Valuation τ sig (Elt F)) (r : Ref sig .tc) (h : r ∉ c25_W) :
    after c25 V (no_index (Proc.devRef .tc r)) = V (Proc.devRef .tc r) :=
  after_of_writes_sub c25 _ c25_writes h
set_option maxRecDepth 8192 in
set_option maxHeartbeats 4000000 in
/-- What they leave in `main_v95`. -/
theorem c25_main_v95 (V : Valuation τ sig (Elt F)) : after c25 V (no_index (Proc.devRef .tc main_v95)) =
    ((concatenate S8x4x4x224x224x256 2 [⟨S8x4x1x224x224x256, ((V (rd main_v91)) : (⟨S8x4x1x224x224x256, .f32⟩ : BufTy).Contents (Elt F))⟩, ⟨S8x4x1x224x224x256, ((V (rd main_v92)) : (⟨S8x4x1x224x224x256, .f32⟩ : BufTy).Contents (Elt F))⟩, ⟨S8x4x1x224x224x256, ((V (rd main_v93)) : (⟨S8x4x1x224x224x256, .f32⟩ : BufTy).Contents (Elt F))⟩, ⟨S8x4x1x224x224x256, ((V (rd main_v94)) : (⟨S8x4x1x224x224x256, .f32⟩ : BufTy).Contents (Elt F))⟩] concatenates_S8x4x1x224x224x256_S8x4x1x224x224x256_S8x4x1x224x224x256_S8x4x1x224x224x256_S8x4x4x224x224x256_d2) : (rd main_v95).ty.Contents (Elt F)) := by
  simp only [c25, TRef.nullary, TRef.unary, TRef.binary, TRef.ternary, TRef.quaternary, TRef.toBuf, TRef.ofBuf, cast_eq]
  after_results_simp <;> rfl
/-- The buffers these operations write. -/
abbrev c26_W : List (Ref sig .tc) := [main_v96, main_v97, main_v98, main_v99]
set_option maxRecDepth 8192 in
/-- They write only those. -/
theorem c26_writes : (c26 : List (HloOp τ sig (Elt F))).Forall fun op => op.writes ⊆ (c26_W.map (Proc.devRef (τ := τ) .tc)).toFinset := by
  simp only [List.Forall]
  refine ⟨?_, ?_, ?_, ?_⟩ <;>
    (simp only [nullary_writes, unary_writes, binary_writes, ternary_writes, quaternary_writes, reshape_writes, nary_writes, Finset.singleton_subset_iff, List.mem_toFinset]; exact List.mem_map_of_mem (by decide))
/-- Every other buffer keeps its contents. -/
theorem c26_keep (V : Valuation τ sig (Elt F)) (r : Ref sig .tc) (h : r ∉ c26_W) :
    after c26 V (no_index (Proc.devRef .tc r)) = V (Proc.devRef .tc r) :=
  after_of_writes_sub c26 _ c26_writes h
set_option maxRecDepth 8192 in
set_option maxHeartbeats 4000000 in
/-- What they leave in `main_v99`. -/
theorem c26_main_v99 (V : Valuation τ sig (Elt F)) : after c26 V (no_index (Proc.devRef .tc main_v99)) =
    ((Host.tanh (addf (Host.dotGeneral dot_S8x4x4x224x224x256_S4x4x256x3_S8x224x224x3_125_012_034_3_n_n none (V (rd main_v95)) (V (rd main_arg10))) (broadcastInDim S8x224x224x3 ![3] bcast_S3_S8x224x224x3_3 (V (rd main_arg11))))) : (rd main_v99).ty.Contents (Elt F)) := by
  simp only [c26, TRef.nullary, TRef.unary, TRef.binary, TRef.ternary, TRef.quaternary, TRef.toBuf, TRef.ofBuf, cast_eq]
  after_results_simp <;> rfl

end Cert.Vq.Ref

end
-- ==== Proof.Ref.Run.lean ====
/- The reference's run: the contents after each stretch of operations, and the arguments unchanged. -/
module

public import proofs.«01_k».proof.Proof.Ref.ReadA
public import proofs.«01_k».proof.Proof.Ref.ReadB
public import proofs.«01_k».proof.Defs
public import Idealize.ShloMosaic.Adequacy
public import Idealize.ShloMosaic.Init

@[expose] public section

noncomputable section

namespace Cert.Vq.Ref

open Cert.ReferenceIdeal Cert.ReferenceIdeal.Gen Idealize.ShloMosaic Idealize.ShloMosaic.TcCoe Idealize.SL.Sem Idealize.ShloMosaic.StableHlo

variable {F : FTy → Type} [FloatOps F]

/-- The buffers' contents after stretches 0 to 0. -/
def w0 (V : Valuation τ sig (Elt F)) : Valuation τ sig (Elt F) := after c0 V
/-- A buffer stretch 0 does not write keeps its contents. -/
theorem w0_keep (V : Valuation τ sig (Elt F)) (r : Ref sig .tc) (h : r ∉ c0_W) : w0 V (Proc.devRef .tc r) = V (Proc.devRef .tc r) :=
  c0_keep _ r h
/-- The buffers' contents after stretches 0 to 1. -/
def w1 (V : Valuation τ sig (Elt F)) : Valuation τ sig (Elt F) := after c1 (w0 V)
/-- A buffer stretch 1 does not write keeps its contents. -/
theorem w1_keep (V : Valuation τ sig (Elt F)) (r : Ref sig .tc) (h : r ∉ c1_W) : w1 V (Proc.devRef .tc r) = (w0 V) (Proc.devRef .tc r) :=
  c1_keep _ r h
/-- The buffers' contents after stretches 0 to 2. -/
def w2 (V : Valuation τ sig (Elt F)) : Valuation τ sig (Elt F) := after c2 (w1 V)
/-- A buffer stretch 2 does not write keeps its contents. -/
theorem w2_keep (V : Valuation τ sig (Elt F)) (r : Ref sig .tc) (h : r ∉ c2_W) : w2 V (Proc.devRef .tc r) = (w1 V) (Proc.devRef .tc r) :=
  c2_keep _ r h
/-- The buffers' contents after stretches 0 to 3. -/
def w3 (V : Valuation τ sig (Elt F)) : Valuation τ sig (Elt F) := after c3 (w2 V)
/-- A buffer stretch 3 does not write keeps its contents. -/
theorem w3_keep (V : Valuation τ sig (Elt F)) (r : Ref sig .tc) (h : r ∉ c3_W) : w3 V (Proc.devRef .tc r) = (w2 V) (Proc.devRef .tc r) :=
  c3_keep _ r h
/-- The buffers' contents after stretches 0 to 4. -/
def w4 (V : Valuation τ sig (Elt F)) : Valuation τ sig (Elt F) := after c4 (w3 V)
/-- A buffer stretch 4 does not write keeps its contents. -/
theorem w4_keep (V : Valuation τ sig (Elt F)) (r : Ref sig .tc) (h : r ∉ c4_W) : w4 V (Proc.devRef .tc r) = (w3 V) (Proc.devRef .tc r) :=
  c4_keep _ r h
/-- The buffers' contents after stretches 0 to 5. -/
def w5 (V : Valuation τ sig (Elt F)) : Valuation τ sig (Elt F) := after c5 (w4 V)
/-- A buffer stretch 5 does not write keeps its contents. -/
theorem w5_keep (V : Valuation τ sig (Elt F)) (r : Ref sig .tc) (h : r ∉ c5_W) : w5 V (Proc.devRef .tc r) = (w4 V) (Proc.devRef .tc r) :=
  c5_keep _ r h
/-- The buffers' contents after stretches 0 to 6. -/
def w6 (V : Valuation τ sig (Elt F)) : Valuation τ sig (Elt F) := after c6 (w5 V)
/-- A buffer stretch 6 does not write keeps its contents. -/
theorem w6_keep (V : Valuation τ sig (Elt F)) (r : Ref sig .tc) (h : r ∉ c6_W) : w6 V (Proc.devRef .tc r) = (w5 V) (Proc.devRef .tc r) :=
  c6_keep _ r h
/-- The buffers' contents after stretches 0 to 7. -/
def w7 (V : Valuation τ sig (Elt F)) : Valuation τ sig (Elt F) := after c7 (w6 V)
/-- A buffer stretch 7 does not write keeps its contents. -/
theorem w7_keep (V : Valuation τ sig (Elt F)) (r : Ref sig .tc) (h : r ∉ c7_W) : w7 V (Proc.devRef .tc r) = (w6 V) (Proc.devRef .tc r) :=
  c7_keep _ r h
/-- The buffers' contents after stretches 0 to 8. -/
def w8 (V : Valuation τ sig (Elt F)) : Valuation τ sig (Elt F) := after c8 (w7 V)
/-- A buffer stretch 8 does not write keeps its contents. -/
theorem w8_keep (V : Valuation τ sig (Elt F)) (r : Ref sig .tc) (h : r ∉ c8_W) : w8 V (Proc.devRef .tc r) = (w7 V) (Proc.devRef .tc r) :=
  c8_keep _ r h
/-- The buffers' contents after stretches 0 to 9. -/
def w9 (V : Valuation τ sig (Elt F)) : Valuation τ sig (Elt F) := after c9 (w8 V)
/-- A buffer stretch 9 does not write keeps its contents. -/
theorem w9_keep (V : Valuation τ sig (Elt F)) (r : Ref sig .tc) (h : r ∉ c9_W) : w9 V (Proc.devRef .tc r) = (w8 V) (Proc.devRef .tc r) :=
  c9_keep _ r h
/-- The buffers' contents after stretches 0 to 10. -/
def w10 (V : Valuation τ sig (Elt F)) : Valuation τ sig (Elt F) := after c10 (w9 V)
/-- A buffer stretch 10 does not write keeps its contents. -/
theorem w10_keep (V : Valuation τ sig (Elt F)) (r : Ref sig .tc) (h : r ∉ c10_W) : w10 V (Proc.devRef .tc r) = (w9 V) (Proc.devRef .tc r) :=
  c10_keep _ r h
/-- The buffers' contents after stretches 0 to 11. -/
def w11 (V : Valuation τ sig (Elt F)) : Valuation τ sig (Elt F) := after c11 (w10 V)
/-- A buffer stretch 11 does not write keeps its contents. -/
theorem w11_keep (V : Valuation τ sig (Elt F)) (r : Ref sig .tc) (h : r ∉ c11_W) : w11 V (Proc.devRef .tc r) = (w10 V) (Proc.devRef .tc r) :=
  c11_keep _ r h
/-- The buffers' contents after stretches 0 to 12. -/
def w12 (V : Valuation τ sig (Elt F)) : Valuation τ sig (Elt F) := after c12 (w11 V)
/-- A buffer stretch 12 does not write keeps its contents. -/
theorem w12_keep (V : Valuation τ sig (Elt F)) (r : Ref sig .tc) (h : r ∉ c12_W) : w12 V (Proc.devRef .tc r) = (w11 V) (Proc.devRef .tc r) :=
  c12_keep _ r h
/-- The buffers' contents after stretches 0 to 13. -/
def w13 (V : Valuation τ sig (Elt F)) : Valuation τ sig (Elt F) := after c13 (w12 V)
/-- A buffer stretch 13 does not write keeps its contents. -/
theorem w13_keep (V : Valuation τ sig (Elt F)) (r : Ref sig .tc) (h : r ∉ c13_W) : w13 V (Proc.devRef .tc r) = (w12 V) (Proc.devRef .tc r) :=
  c13_keep _ r h
/-- The buffers' contents after stretches 0 to 14. -/
def w14 (V : Valuation τ sig (Elt F)) : Valuation τ sig (Elt F) := after c14 (w13 V)
/-- A buffer stretch 14 does not write keeps its contents. -/
theorem w14_keep (V : Valuation τ sig (Elt F)) (r : Ref sig .tc) (h : r ∉ c14_W) : w14 V (Proc.devRef .tc r) = (w13 V) (Proc.devRef .tc r) :=
  c14_keep _ r h
/-- The buffers' contents after stretches 0 to 15. -/
def w15 (V : Valuation τ sig (Elt F)) : Valuation τ sig (Elt F) := after c15 (w14 V)
/-- A buffer stretch 15 does not write keeps its contents. -/
theorem w15_keep (V : Valuation τ sig (Elt F)) (r : Ref sig .tc) (h : r ∉ c15_W) : w15 V (Proc.devRef .tc r) = (w14 V) (Proc.devRef .tc r) :=
  c15_keep _ r h
/-- The buffers' contents after stretches 0 to 16. -/
def w16 (V : Valuation τ sig (Elt F)) : Valuation τ sig (Elt F) := after c16 (w15 V)
/-- A buffer stretch 16 does not write keeps its contents. -/
theorem w16_keep (V : Valuation τ sig (Elt F)) (r : Ref sig .tc) (h : r ∉ c16_W) : w16 V (Proc.devRef .tc r) = (w15 V) (Proc.devRef .tc r) :=
  c16_keep _ r h
/-- The buffers' contents after stretches 0 to 17. -/
def w17 (V : Valuation τ sig (Elt F)) : Valuation τ sig (Elt F) := after c17 (w16 V)
/-- A buffer stretch 17 does not write keeps its contents. -/
theorem w17_keep (V : Valuation τ sig (Elt F)) (r : Ref sig .tc) (h : r ∉ c17_W) : w17 V (Proc.devRef .tc r) = (w16 V) (Proc.devRef .tc r) :=
  c17_keep _ r h
/-- The buffers' contents after stretches 0 to 18. -/
def w18 (V : Valuation τ sig (Elt F)) : Valuation τ sig (Elt F) := after c18 (w17 V)
/-- A buffer stretch 18 does not write keeps its contents. -/
theorem w18_keep (V : Valuation τ sig (Elt F)) (r : Ref sig .tc) (h : r ∉ c18_W) : w18 V (Proc.devRef .tc r) = (w17 V) (Proc.devRef .tc r) :=
  c18_keep _ r h
/-- The buffers' contents after stretches 0 to 19. -/
def w19 (V : Valuation τ sig (Elt F)) : Valuation τ sig (Elt F) := after c19 (w18 V)
/-- A buffer stretch 19 does not write keeps its contents. -/
theorem w19_keep (V : Valuation τ sig (Elt F)) (r : Ref sig .tc) (h : r ∉ c19_W) : w19 V (Proc.devRef .tc r) = (w18 V) (Proc.devRef .tc r) :=
  c19_keep _ r h
/-- The buffers' contents after stretches 0 to 20. -/
def w20 (V : Valuation τ sig (Elt F)) : Valuation τ sig (Elt F) := after c20 (w19 V)
/-- A buffer stretch 20 does not write keeps its contents. -/
theorem w20_keep (V : Valuation τ sig (Elt F)) (r : Ref sig .tc) (h : r ∉ c20_W) : w20 V (Proc.devRef .tc r) = (w19 V) (Proc.devRef .tc r) :=
  c20_keep _ r h
/-- The buffers' contents after stretches 0 to 21. -/
def w21 (V : Valuation τ sig (Elt F)) : Valuation τ sig (Elt F) := after c21 (w20 V)
/-- A buffer stretch 21 does not write keeps its contents. -/
theorem w21_keep (V : Valuation τ sig (Elt F)) (r : Ref sig .tc) (h : r ∉ c21_W) : w21 V (Proc.devRef .tc r) = (w20 V) (Proc.devRef .tc r) :=
  c21_keep _ r h
/-- The buffers' contents after stretches 0 to 22. -/
def w22 (V : Valuation τ sig (Elt F)) : Valuation τ sig (Elt F) := after c22 (w21 V)
/-- A buffer stretch 22 does not write keeps its contents. -/
theorem w22_keep (V : Valuation τ sig (Elt F)) (r : Ref sig .tc) (h : r ∉ c22_W) : w22 V (Proc.devRef .tc r) = (w21 V) (Proc.devRef .tc r) :=
  c22_keep _ r h
/-- The buffers' contents after stretches 0 to 23. -/
def w23 (V : Valuation τ sig (Elt F)) : Valuation τ sig (Elt F) := after c23 (w22 V)
/-- A buffer stretch 23 does not write keeps its contents. -/
theorem w23_keep (V : Valuation τ sig (Elt F)) (r : Ref sig .tc) (h : r ∉ c23_W) : w23 V (Proc.devRef .tc r) = (w22 V) (Proc.devRef .tc r) :=
  c23_keep _ r h
/-- The buffers' contents after stretches 0 to 24. -/
def w24 (V : Valuation τ sig (Elt F)) : Valuation τ sig (Elt F) := after c24 (w23 V)
/-- A buffer stretch 24 does not write keeps its contents. -/
theorem w24_keep (V : Valuation τ sig (Elt F)) (r : Ref sig .tc) (h : r ∉ c24_W) : w24 V (Proc.devRef .tc r) = (w23 V) (Proc.devRef .tc r) :=
  c24_keep _ r h
/-- The buffers' contents after stretches 0 to 25. -/
def w25 (V : Valuation τ sig (Elt F)) : Valuation τ sig (Elt F) := after c25 (w24 V)
/-- A buffer stretch 25 does not write keeps its contents. -/
theorem w25_keep (V : Valuation τ sig (Elt F)) (r : Ref sig .tc) (h : r ∉ c25_W) : w25 V (Proc.devRef .tc r) = (w24 V) (Proc.devRef .tc r) :=
  c25_keep _ r h
/-- The buffers' contents after stretches 0 to 26. -/
def w26 (V : Valuation τ sig (Elt F)) : Valuation τ sig (Elt F) := after c26 (w25 V)
/-- A buffer stretch 26 does not write keeps its contents. -/
theorem w26_keep (V : Valuation τ sig (Elt F)) (r : Ref sig .tc) (h : r ∉ c26_W) : w26 V (Proc.devRef .tc r) = (w25 V) (Proc.devRef .tc r) :=
  c26_keep _ r h

/-- The whole list is the stretches in order. -/
theorem after_ops (V : Valuation τ sig (Elt F)) : after ops V = w26 V := by
  simp only [ops, p0, p1, after_append]
  rfl

/-- The buffers the reference's operations write. -/
abbrev allW : List (Ref sig .tc) := c0_W ++ c1_W ++ c2_W ++ c3_W ++ c4_W ++ c5_W ++ c6_W ++ c7_W ++ c8_W ++ c9_W ++ c10_W ++ c11_W ++ c12_W ++ c13_W ++ c14_W ++ c15_W ++ c16_W ++ c17_W ++ c18_W ++ c19_W ++ c20_W ++ c21_W ++ c22_W ++ c23_W ++ c24_W ++ c25_W ++ c26_W

/-- A buffer no operation writes keeps its contents through the whole reference. -/
theorem keep_all (V : Valuation τ sig (Elt F)) (r : Ref sig .tc) (h : r ∉ allW) : after ops V (Proc.devRef .tc r) = V (Proc.devRef .tc r) := by
  simp only [allW, List.mem_append, not_or] at h
  obtain ⟨⟨⟨⟨⟨⟨⟨⟨⟨⟨⟨⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩, h16⟩, h17⟩, h18⟩, h19⟩, h20⟩, h21⟩, h22⟩, h23⟩, h24⟩, h25⟩, h26⟩ := h
  rw [after_ops, w26_keep V r h26, w25_keep V r h25, w24_keep V r h24, w23_keep V r h23, w22_keep V r h22, w21_keep V r h21, w20_keep V r h20, w19_keep V r h19, w18_keep V r h18, w17_keep V r h17, w16_keep V r h16, w15_keep V r h15, w14_keep V r h14, w13_keep V r h13, w12_keep V r h12, w11_keep V r h11, w10_keep V r h10, w9_keep V r h9, w8_keep V r h8, w7_keep V r h7, w6_keep V r h6, w5_keep V r h5, w4_keep V r h4, w3_keep V r h3, w2_keep V r h2, w1_keep V r h1, w0_keep V r h0]

/-- The reference's run: its two results are what the operations leave, the arguments are unchanged. -/
theorem run_args (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v99) = w26 (launchContents m c) (Proc.devRef .tc main_v99)
      ∧ r.2.mem ((c.tc : Thread nD τ).loc main_v63) = w26 (launchContents m c) (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v99).trans (congrFun (after_ops _) _), (h c main_v63).trans (congrFun (after_ops _) _),
    (h c main_arg0).trans (keep_all _ main_arg0 (by decide)),
    (h c main_arg1).trans (keep_all _ main_arg1 (by decide)),
    (h c main_arg2).trans (keep_all _ main_arg2 (by decide)),
    (h c main_arg3).trans (keep_all _ main_arg3 (by decide)),
    (h c main_arg4).trans (keep_all _ main_arg4 (by decide)),
    (h c main_arg5).trans (keep_all _ main_arg5 (by decide)),
    (h c main_arg6).trans (keep_all _ main_arg6 (by decide)),
    (h c main_arg7).trans (keep_all _ main_arg7 (by decide)),
    (h c main_arg8).trans (keep_all _ main_arg8 (by decide)),
    (h c main_arg9).trans (keep_all _ main_arg9 (by decide)),
    (h c main_arg10).trans (keep_all _ main_arg10 (by decide)),
    (h c main_arg11).trans (keep_all _ main_arg11 (by decide))⟩) (run m ρ)

/-- Every run of the reference ends with the arguments unchanged and every counter at zero: it declares no semaphore. -/
theorem frame : Cert.quiescent_ReferenceIdeal := fun m ρ _ =>
  (θ_run Cert.ReferenceIdeal.defs _ _).mono (fun r h => ⟨fun c => (h c).2.2, Idealize.ShloMosaic.sem_eq_zero_of_no_sems (by decide) r.2⟩)
    (run_args (F := Ideal) m ρ)

end Cert.Vq.Ref

end
-- ==== Proof.Val.Math.lean ====
/- The values the layers compute, as functions of whole arrays over the extended reals. -/
module

public import Idealize.ShloMosaic.Lib.Pointwise
public import Idealize.ShloMosaic.PureOps.Ideal

@[expose] public section

set_option maxRecDepth 16384

noncomputable section

namespace Cert.Vq

open Idealize.ShloMosaic

/-- The leaky rectifier with slope 0.01 (as a single-precision number). -/
def leaky (t : EReal) : EReal := if 0 ≤ t then t else Ideal.ofBits .f32 1008981770#32 * t

/-- A product of two matrices plus a row of biases, at an index. -/
def mm {M K N : Nat} (x : (⟨2, ![M, K]⟩ : Shape).Idx → EReal) (w : (⟨2, ![K, N]⟩ : Shape).Idx → EReal)
    (b : (⟨2, ![1, N]⟩ : Shape).Idx → EReal) (r : Fin M) (n : Fin N) : EReal :=
  ∑ k : Fin K, x (ix2 r k) * w (ix2 k n) + b (ix2 0 n)

/-- A batch of products of two matrices plus a row of biases, at an index. -/
def mmb {P M K N : Nat} (x : (⟨3, ![P, M, K]⟩ : Shape).Idx → EReal) (w : (⟨3, ![P, K, N]⟩ : Shape).Idx → EReal)
    (b : (⟨2, ![1, N]⟩ : Shape).Idx → EReal) (p : Fin P) (r : Fin M) (n : Fin N) : EReal :=
  ∑ k : Fin K, x (ix3 p r k) * w (ix3 p k n) + b (ix2 0 n)

end Cert.Vq

end
-- ==== Proof.Val.Spec.lean ====
/- The network's layers as functions of whole arrays over the extended reals. -/
module

public import proofs.«01_k».proof.Proof.Val.Math

@[expose] public section

set_option maxRecDepth 16384

noncomputable section

namespace Cert.Vq

open Idealize.ShloMosaic

/-- An image with a border of zeros of width one, read at a row and a column of the bordered image. -/
def padc {H C : Nat} (x : (⟨4, ![8, H, H, C]⟩ : Shape).Idx → EReal) (b : Fin 8) (Y X : ℕ) (k : Fin C) : EReal :=
  if h : (1 ≤ Y ∧ Y - 1 < H) ∧ (1 ≤ X ∧ X - 1 < H) then x (ix4 b ⟨Y - 1, h.1.2⟩ ⟨X - 1, h.2.2⟩ k) else 0

/-- A convolution by a 4 by 4 window with stride two and a border of one, at an index. -/
def conv {H C N : Nat} (x : (⟨4, ![8, H, H, C]⟩ : Shape).Idx → EReal) (w : (⟨4, ![4, 4, C, N]⟩ : Shape).Idx → EReal)
    (v : (⟨1, ![N]⟩ : Shape).Idx → EReal) (b : Fin 8) (Y X : ℕ) (n : Fin N) : EReal :=
  (∑ q : Fin 4, ∑ r : Fin 4, ∑ k : Fin C, padc x b (2 * Y + q.val) (2 * X + r.val) k * w (ix4 q r k n)) + v (ix1 n)

/-- The tap of a transposed convolution that an output coordinate of parity `p` meets as its `d`-th. -/
def tap (p : ℕ) (d : Fin 2) : Fin 4 := ⟨p % 2 + 2 * d.val, by omega⟩

/-- A transposed convolution by a 4 by 4 window with stride two, at an index: of the sixteen taps the four that meet
    an entry of the image and not one of the zeros between its entries. -/
def tconv {H C N : Nat} (x : (⟨4, ![8, H, H, C]⟩ : Shape).Idx → EReal) (w : (⟨4, ![4, 4, C, N]⟩ : Shape).Idx → EReal)
    (v : (⟨1, ![N]⟩ : Shape).Idx → EReal) (b : Fin 8) (Y X : ℕ) (n : Fin N) : EReal :=
  (∑ q : Fin 2, ∑ r : Fin 2, ∑ k : Fin C,
    padc x b (Y / 2 + Y % 2 + q.val) (X / 2 + X % 2 + r.val) k * w (ix4 (tap Y q) (tap X r) k n)) + v (ix1 n)

/-- A sum over a product of three ranges, re-blocked. -/
theorem sum_three (A B C : ℕ) (f : Fin (A * B * C) → EReal) (g : Fin A → Fin B → Fin C → EReal)
    (h : ∀ a b c (i : Fin (A * B * C)), i.val = (a.val * B + b.val) * C + c.val → f i = g a b c) :
    ∑ i, f i = ∑ a, ∑ b, ∑ c, g a b c := by
  rw [← Fintype.sum_equiv (finProdFinEquiv (m := A * B) (n := C)) (fun p => f (finProdFinEquiv p)) f (fun _ => rfl), Fintype.sum_prod_type]
  rw [← Fintype.sum_equiv (finProdFinEquiv (m := A) (n := B)) (fun p => ∑ c, f (finProdFinEquiv (finProdFinEquiv p, c))) _ (fun _ => rfl),
    Fintype.sum_prod_type]
  refine Finset.sum_congr rfl fun a _ => Finset.sum_congr rfl fun b _ => Finset.sum_congr rfl fun c _ => h a b c _ ?_
  simp only [finProdFinEquiv_apply_val]
  ring

/-- A matrix product over the rows of windows is the convolution. -/
theorem mm_conv {H C N M K : Nat} (x : (⟨4, ![8, H, H, C]⟩ : Shape).Idx → EReal) (w : (⟨4, ![4, 4, C, N]⟩ : Shape).Idx → EReal)
    (v : (⟨1, ![N]⟩ : Shape).Idx → EReal) (P : (⟨2, ![M, K]⟩ : Shape).Idx → EReal) (U : (⟨2, ![K, N]⟩ : Shape).Idx → EReal)
    (B : (⟨2, ![1, N]⟩ : Shape).Idx → EReal) (b : Fin 8) (Y X : ℕ) (n : Fin N) (R : Fin M) (hK : K = 4 * 4 * C)
    (hP : ∀ (q r : Fin 4) (k : Fin C) (j : Fin K), j.val = (q.val * 4 + r.val) * C + k.val →
      P (ix2 R j) = padc x b (2 * Y + q.val) (2 * X + r.val) k)
    (hU : ∀ (q r : Fin 4) (k : Fin C) (j : Fin K), j.val = (q.val * 4 + r.val) * C + k.val → U (ix2 j n) = w (ix4 q r k n))
    (hB : B (ix2 0 n) = v (ix1 n)) : mm P U B R n = conv x w v b Y X n := by
  subst hK
  unfold mm conv
  rw [hB]
  congr 1
  exact sum_three 4 4 C _ _ fun q r k j hj => by rw [hP q r k j hj, hU q r k j hj]

/-- A matrix product over a parity class's rows of windows is the transposed convolution. -/
theorem mmb_tconv {H C N M K : Nat} (x : (⟨4, ![8, H, H, C]⟩ : Shape).Idx → EReal) (w : (⟨4, ![4, 4, C, N]⟩ : Shape).Idx → EReal)
    (v : (⟨1, ![N]⟩ : Shape).Idx → EReal) {N' : Nat} (P : (⟨3, ![4, M, K]⟩ : Shape).Idx → EReal)
    (U : (⟨3, ![4, K, N']⟩ : Shape).Idx → EReal)
    (B : (⟨2, ![1, N']⟩ : Shape).Idx → EReal) (b : Fin 8) (Y X : ℕ) (n : Fin N) (n' : Fin N') (p : Fin 4) (R : Fin M) (hK : K = 2 * 2 * C)
    (hP : ∀ (q r : Fin 2) (k : Fin C) (j : Fin K), j.val = (q.val * 2 + r.val) * C + k.val →
      P (ix3 p R j) = padc x b (Y / 2 + Y % 2 + q.val) (X / 2 + X % 2 + r.val) k)
    (hU : ∀ (q r : Fin 2) (k : Fin C) (j : Fin K), j.val = (q.val * 2 + r.val) * C + k.val →
      U (ix3 p j n') = w (ix4 (tap Y q) (tap X r) k n))
    (hB : B (ix2 0 n') = v (ix1 n)) : mmb P U B p R n' = tconv x w v b Y X n := by
  subst hK
  unfold mmb tconv
  rw [hB]
  congr 1
  exact sum_three 2 2 C _ _ fun q r k j hj => by rw [hP q r k j hj, hU q r k j hj]

end Cert.Vq

end
-- ==== Proof.Val.Window.lean ====
/- Bordered and dilated images, and contractions over windows, at an index. -/
module

public import proofs.«01_k».proof.Proof.Val.Spec
public import Idealize.ShloMosaic.PureOps.Ideal
public import Idealize.ShloMosaic.Lib.Pointwise
public import Idealize.ShloMosaic.Lib.KernelVsHost

@[expose] public section

set_option maxRecDepth 16384

noncomputable section

namespace Cert.Vq

open Idealize.ShloMosaic

/-- The constant zero at its index. -/
theorem zero_at (i : (⟨0, ![]⟩ : Shape).Idx) : constant (F := Ideal) ⟨0, ![]⟩ .f32 0x00000000#32 i = 0 := by
  show Ideal.ofBits .f32 0#32 = 0
  simp [Ideal.ofBits, Ideal.ieee]

/-- Equal arguments, equal values. -/
theorem arg_congr4 {α β γ : Type} (f : α → ℕ → ℕ → β → γ) {a a' : α} {m m' n n' : ℕ} {b b' : β}
    (ha : a = a') (hm : m = m') (hn : n = n') (hb : b = b') : f a m n b = f a' m' n' b' := by
  subst ha hm hn hb
  rfl

/-- An image with zeros between its entries and a border of width two, read at a row and a column of the result. -/
def dil {H C : Nat} (x : (⟨4, ![8, H, H, C]⟩ : Shape).Idx → EReal) (b : Fin 8) (Y X : ℕ) (k : Fin C) : EReal :=
  if Y % 2 = 0 ∧ X % 2 = 0 then padc x b (Y / 2) (X / 2) k else 0

/-- A pad by one on each side of the two middle axes. -/
theorem pad_one {H P C : Nat} (x : (⟨4, ![8, H, H, C]⟩ : Shape).Idx → EReal) (v : (⟨0, ![]⟩ : Shape).Idx → EReal)
    (h : (⟨4, ![8, H, H, C]⟩ : Shape).Pads ![0, 1, 1, 0] ![0, 1, 1, 0] ![0, 0, 0, 0] ⟨4, ![8, P, P, C]⟩)
    (hu : 0 < (⟨0, ![]⟩ : Shape).numel) (hv : ∀ i, v i = 0) :
    pad ⟨4, ![8, P, P, C]⟩ ![0, 1, 1, 0] ![0, 1, 1, 0] ![0, 0, 0, 0] x v h hu =
      fun i => padc x (i 0) (i 1).val (i 2).val (i 3) := by
  funext i
  obtain ⟨b, Y, X, k, rfl⟩ : ∃ (b : Fin 8) (Y X : Fin P) (k : Fin C), i = ix4 b Y X k := ⟨i 0, i 1, i 2, i 3, eq_ix4 i⟩
  show _ = padc x b Y.val X.val k
  unfold padc
  split
  · next hin =>
    refine pad_apply_of_inside _ _ _ _ _ _ _ _ _ fun a => ?_
    match a with
    | ⟨0, _⟩ => show b.val = 0 + b.val * (0 + 1); omega
    | ⟨1, _⟩ => show Y.val = 1 + (Y.val - 1) * (0 + 1); omega
    | ⟨2, _⟩ => show X.val = 1 + (X.val - 1) * (0 + 1); omega
    | ⟨3, _⟩ => show k.val = 0 + k.val * (0 + 1); omega
  · next hin =>
    rw [← hv (Shape.Idx.first hu)]
    by_cases hY : 1 ≤ Y.val ∧ Y.val - 1 < H
    · refine pad_apply_of_not_inside _ _ _ _ _ _ _ _ ⟨2, by show 2 < 4; omega⟩ fun hc => hin ⟨hY, ?_⟩
      have hc : 1 ≤ X.val ∧ (X.val - 1) % (0 + 1) = 0 ∧ (X.val - 1) / (0 + 1) < H := hc
      omega
    · refine pad_apply_of_not_inside _ _ _ _ _ _ _ _ ⟨1, by show 1 < 4; omega⟩ fun hc => hY ?_
      have hc : 1 ≤ Y.val ∧ (Y.val - 1) % (0 + 1) = 0 ∧ (Y.val - 1) / (0 + 1) < H := hc
      omega

/-- A pad by two on each side of the two middle axes with a zero between any two entries. -/
theorem pad_two {H P C : Nat} (x : (⟨4, ![8, H, H, C]⟩ : Shape).Idx → EReal) (v : (⟨0, ![]⟩ : Shape).Idx → EReal)
    (h : (⟨4, ![8, H, H, C]⟩ : Shape).Pads ![0, 2, 2, 0] ![0, 2, 2, 0] ![0, 1, 1, 0] ⟨4, ![8, P, P, C]⟩)
    (hu : 0 < (⟨0, ![]⟩ : Shape).numel) (hv : ∀ i, v i = 0) :
    pad ⟨4, ![8, P, P, C]⟩ ![0, 2, 2, 0] ![0, 2, 2, 0] ![0, 1, 1, 0] x v h hu =
      fun i => dil x (i 0) (i 1).val (i 2).val (i 3) := by
  funext i
  obtain ⟨b, Y, X, k, rfl⟩ : ∃ (b : Fin 8) (Y X : Fin P) (k : Fin C), i = ix4 b Y X k := ⟨i 0, i 1, i 2, i 3, eq_ix4 i⟩
  show _ = dil x b Y.val X.val k
  by_cases hin : ((1 ≤ Y.val / 2 ∧ Y.val / 2 - 1 < H) ∧ (1 ≤ X.val / 2 ∧ X.val / 2 - 1 < H)) ∧ Y.val % 2 = 0 ∧ X.val % 2 = 0
  · unfold dil padc
    rw [if_pos hin.2, dif_pos hin.1]
    refine pad_apply_of_inside _ _ _ _ _ _ _ _ _ fun a => ?_
    match a with
    | ⟨0, _⟩ => show b.val = 0 + b.val * (0 + 1); omega
    | ⟨1, _⟩ => show Y.val = 2 + (Y.val / 2 - 1) * (1 + 1); omega
    | ⟨2, _⟩ => show X.val = 2 + (X.val / 2 - 1) * (1 + 1); omega
    | ⟨3, _⟩ => show k.val = 0 + k.val * (0 + 1); omega
  · have h0 : dil x b Y.val X.val k = 0 := by
      unfold dil padc
      split
      · next hp => exact dif_neg fun hq => hin ⟨hq, hp⟩
      · rfl
    rw [h0, ← hv (Shape.Idx.first hu)]
    by_cases hY : (1 ≤ Y.val / 2 ∧ Y.val / 2 - 1 < H) ∧ Y.val % 2 = 0
    · refine pad_apply_of_not_inside _ _ _ _ _ _ _ _ ⟨2, by show 2 < 4; omega⟩ fun hc => hin ?_
      have hc : 2 ≤ X.val ∧ (X.val - 2) % (1 + 1) = 0 ∧ (X.val - 2) / (1 + 1) < H := hc
      omega
    · refine pad_apply_of_not_inside _ _ _ _ _ _ _ _ ⟨1, by show 1 < 4; omega⟩ fun hc => hY ?_
      have hc : 2 ≤ Y.val ∧ (Y.val - 2) % (1 + 1) = 0 ∧ (Y.val - 2) / (1 + 1) < H := hc
      omega

/-- A sum over the indices of a list of three extents, coordinate by coordinate. -/
theorem sum_ofList3 {a b c : ℕ} (F : (Shape.ofList [a, b, c]).Idx → EReal) :
    ∑ i, F i = ∑ p : Fin a, ∑ q : Fin b, ∑ r : Fin c, F (fun i => match i with | ⟨0, _⟩ => p | ⟨1, _⟩ => q | ⟨2, _⟩ => r) := by
  rw [← Fintype.sum_equiv ⟨fun p : Fin a × Fin b × Fin c => (fun i => match i with | ⟨0, _⟩ => p.1 | ⟨1, _⟩ => p.2.1 | ⟨2, _⟩ => p.2.2 :
      (Shape.ofList [a, b, c]).Idx), fun k => (k ⟨0, by show 0 < 3; omega⟩, k ⟨1, by show 1 < 3; omega⟩, k ⟨2, by show 2 < 3; omega⟩),
      fun _ => rfl, fun k => funext fun i => match i with | ⟨0, _⟩ => rfl | ⟨1, _⟩ => rfl | ⟨2, _⟩ => rfl⟩ _ F fun _ => rfl]
  simp only [Fintype.sum_prod_type, Equiv.coe_fn_mk]

/-- The contraction of a window's two axes and of the channels, at an index. -/
theorem dot_windows {P C N : Nat}
    (wf : DotDims.WF ⟨6, ![8, 4, 4, P, P, C]⟩ ⟨4, ![4, 4, C, N]⟩ ⟨4, ![8, P, P, N]⟩ [1, 2, 5] [0, 1, 2] [0, 3, 4] [3] [] [])
    (x : (⟨6, ![8, 4, 4, P, P, C]⟩ : Shape).Idx → EReal) (w : (⟨4, ![4, 4, C, N]⟩ : Shape).Idx → EReal)
    (b : Fin 8) (Y X : Fin P) (n : Fin N) :
    Ideal.matmul (DotDims.mk (so := ⟨4, ![8, P, P, N]⟩) [1, 2, 5] [0, 1, 2] [0, 3, 4] [3] [] [] wf) x w (fun _ => 0) (ix4 b Y X n) =
      ∑ q : Fin 4, ∑ r : Fin 4, ∑ k : Fin C, x (ix6 b q r Y X k) * w (ix4 q r k n) := by
  unfold Ideal.matmul
  rw [zero_add]
  refine (sum_ofList3 (a := 4) (b := 4) (c := C) _).trans ?_
  refine Finset.sum_congr rfl fun q _ => Finset.sum_congr rfl fun r _ => Finset.sum_congr rfl fun k _ => ?_
  refine congrArg₂ (· * ·) (congrArg x (funext fun a => ?_)) (congrArg w (funext fun a => ?_))
  · match a with
    | ⟨0, _⟩ => rfl
    | ⟨1, _⟩ => rfl
    | ⟨2, _⟩ => rfl
    | ⟨3, _⟩ => rfl
    | ⟨4, _⟩ => rfl
    | ⟨5, _⟩ => rfl
  · match a with
    | ⟨0, _⟩ => rfl
    | ⟨1, _⟩ => rfl
    | ⟨2, _⟩ => rfl
    | ⟨3, _⟩ => rfl

/-- Of four taps the two whose place is even. -/
theorem sum_taps (Y : ℕ) (f : Fin 4 → EReal) :
    ∑ q : Fin 4, (if (Y + q.val) % 2 = 0 then f q else 0) = ∑ d : Fin 2, f (tap Y d) := by
  rw [Fin.sum_univ_four, Fin.sum_univ_two]
  rcases Nat.mod_two_eq_zero_or_one Y with h | h
  · rw [if_pos (by simp; omega), if_neg (by simp; omega), if_pos (by simp; omega), if_neg (by simp; omega),
      show tap Y 0 = 0 from Fin.ext (by simp [tap, h]), show tap Y 1 = 2 from Fin.ext (by simp [tap, h]), add_zero, add_zero]
  · rw [if_neg (by simp; omega), if_pos (by simp; omega), if_neg (by simp; omega), if_pos (by simp; omega),
      show tap Y 0 = 1 from Fin.ext (by simp [tap, h]), show tap Y 1 = 3 from Fin.ext (by simp [tap, h]), add_zero, zero_add]

/-- A contraction over the windows of the dilated image is the transposed convolution. -/
theorem sum_dil {H C N : Nat} (x : (⟨4, ![8, H, H, C]⟩ : Shape).Idx → EReal) (w : (⟨4, ![4, 4, C, N]⟩ : Shape).Idx → EReal)
    (v : (⟨1, ![N]⟩ : Shape).Idx → EReal) (b : Fin 8) (Y X : ℕ) (n : Fin N) :
    (∑ q : Fin 4, ∑ r : Fin 4, ∑ k : Fin C, dil x b (Y + q.val) (X + r.val) k * w (ix4 q r k n)) + v (ix1 n) = tconv x w v b Y X n := by
  unfold tconv
  congr 1
  have hr : ∀ q : Fin 4, (∑ r : Fin 4, ∑ k : Fin C, dil x b (Y + q.val) (X + r.val) k * w (ix4 q r k n)) =
      if (Y + q.val) % 2 = 0 then ∑ r : Fin 4, (if (X + r.val) % 2 = 0 then
        ∑ k : Fin C, padc x b ((Y + q.val) / 2) ((X + r.val) / 2) k * w (ix4 q r k n) else 0) else 0 := fun q => by
    split
    · next hq =>
      refine Finset.sum_congr rfl fun r _ => ?_
      split
      · next hr => exact Finset.sum_congr rfl fun k _ => by rw [dil, if_pos ⟨hq, hr⟩]
      · next hr => exact Finset.sum_eq_zero fun k _ => by rw [dil, if_neg fun h => hr h.2, zero_mul]
    · next hq => exact Finset.sum_eq_zero fun r _ => Finset.sum_eq_zero fun k _ => by rw [dil, if_neg fun h => hq h.1, zero_mul]
  rw [Finset.sum_congr rfl fun q _ => hr q, sum_taps]
  refine Finset.sum_congr rfl fun q _ => ?_
  rw [sum_taps]
  refine Finset.sum_congr rfl fun r _ => Finset.sum_congr rfl fun k _ => ?_
  rw [show (Y + (tap Y q).val) / 2 = Y / 2 + Y % 2 + q.val from by simp only [tap]; omega,
    show (X + (tap X r).val) / 2 = X / 2 + X % 2 + r.val from by simp only [tap]; omega]

end Cert.Vq

end
-- ==== Proof.Val.Arith.lean ====
/- Arithmetic of the extended reals that the comparison of the two programs uses. -/
module

public import proofs.«01_k».proof.Proof.Val.Spec
public import Idealize.ShloMosaic.PureOps.Ideal

@[expose] public section

set_option maxRecDepth 16384

noncomputable section

namespace Cert.Vq

open Idealize.ShloMosaic

/-- An extended real that is a real number. -/
def IsReal (t : EReal) : Prop := ∃ r : ℝ, (r : EReal) = t

/-- Zero is a real number. -/
theorem IsReal.zero : IsReal 0 := ⟨0, rfl⟩
/-- A sum of two real numbers is real. -/
theorem IsReal.add {s t : EReal} : IsReal s → IsReal t → IsReal (s + t) := by
  rintro ⟨a, rfl⟩ ⟨b, rfl⟩
  exact ⟨a + b, EReal.coe_add a b⟩
/-- A product of two real numbers is real. -/
theorem IsReal.mul {s t : EReal} : IsReal s → IsReal t → IsReal (s * t) := by
  rintro ⟨a, rfl⟩ ⟨b, rfl⟩
  exact ⟨a * b, EReal.coe_mul a b⟩
/-- A finite sum of real numbers is real. -/
theorem IsReal.sum {ι : Type} (s : Finset ι) (f : ι → EReal) (h : ∀ i, IsReal (f i)) : IsReal (∑ i ∈ s, f i) := by
  classical
  induction s using Finset.induction_on with
  | empty => simpa using IsReal.zero
  | insert a s ha ih => rw [Finset.sum_insert ha]; exact (h a).add ih

/-- The rectifier's slope is a real number between zero and one. -/
theorem slope : ∃ r : ℝ, 0 ≤ r ∧ r ≤ 1 ∧ Ideal.ofBits .f32 1008981770#32 = (r : EReal) := by
  refine ⟨_, ?_, ?_, by simp [Ideal.ofBits, Ideal.ieee]; rfl⟩ <;> norm_num

/-- The leaky rectifier keeps real numbers real. -/
theorem IsReal.leaky {t : EReal} (h : IsReal t) : IsReal (leaky t) := by
  unfold Cert.Vq.leaky
  obtain ⟨r, _, _, hr⟩ := slope
  split
  · exact h
  · exact IsReal.mul ⟨r, hr.symm⟩ h

/-- The rectifier as a maximum. -/
theorem max_eq_leaky (t : EReal) : max t (Ideal.ofBits .f32 1008981770#32 * t) = leaky t := by
  obtain ⟨r, h0, h1, hr⟩ := slope
  unfold leaky
  rw [hr]
  have key : ∀ u : EReal, 0 ≤ u → (r : EReal) * u ≤ u := fun u hu => by
    calc (r : EReal) * u ≤ 1 * u := mul_le_mul_of_nonneg_right (by exact_mod_cast h1) hu
      _ = u := one_mul u
  split
  · next h => exact max_eq_left (key t h)
  · next h =>
    refine max_eq_right ?_
    have := key (-t) (by rw [EReal.le_neg]; simpa using (not_le.1 h).le)
    rw [mul_neg] at this
    exact EReal.neg_le_neg_iff.1 this

/-- A mean plus a quarter of it, as five quarters of the sum over the count. -/
theorem loss_eq (S : EReal) (hS : 0 ≤ S) :
    Ideal.div (Ideal.ofBits .f32 1067450368#32 * S) (Ideal.ofBits .f32 1237581824#32) =
      Ideal.div S (Ideal.ofBits .f32 1237581824#32) + Ideal.ofBits .f32 1048576000#32 * Ideal.div S (Ideal.ofBits .f32 1237581824#32) := by
  have hN : Ideal.ofBits .f32 1237581824#32 = ((1605632 : ℝ) : EReal) := by
    simp [Ideal.ofBits, Ideal.ieee]; norm_cast; norm_num
  have ha : Ideal.ofBits .f32 1067450368#32 = 1 + ((1 / 4 : ℝ) : EReal) := by
    have h : Ideal.ofBits .f32 1067450368#32 = ((5 / 4 : ℝ) : EReal) := by
      simp [Ideal.ofBits, Ideal.ieee]; rw [← EReal.coe_mul]; norm_num
    rw [h, show (1 : EReal) = ((1 : ℝ) : EReal) from rfl, ← EReal.coe_add]
    norm_num
  have hb : Ideal.ofBits .f32 1048576000#32 = ((1 / 4 : ℝ) : EReal) := by
    simp [Ideal.ofBits, Ideal.ieee]; rw [← EReal.coe_mul]; norm_num
  have hN0 : ((1605632 : ℝ) : EReal) ≠ 0 := by norm_num
  unfold Ideal.div
  rw [hN, ha, hb, if_neg hN0, if_neg hN0, mul_assoc, EReal.right_distrib_of_nonneg (by norm_num) (by norm_num), one_mul]

/-- Adding a difference back. -/
theorem add_sub_back {s t : EReal} (h : IsReal s) : s + (t - s) = t := by
  obtain ⟨r, rfl⟩ := h
  induction t with
  | bot => simp
  | top => simp
  | coe t => rw [← EReal.coe_sub, ← EReal.coe_add]; congr 1; ring

/-- A zero-padded image of real numbers is real everywhere. -/
theorem IsReal.padc {H C : Nat} {x : (⟨4, ![8, H, H, C]⟩ : Shape).Idx → EReal} (h : ∀ i, IsReal (x i)) (b : Fin 8) (Y X : ℕ) (k : Fin C) :
    IsReal (padc x b Y X k) := by
  unfold Cert.Vq.padc
  split
  · exact h _
  · exact .zero

/-- A convolution of real numbers by real weights, with a real bias, is real. -/
theorem IsReal.conv {H C N : Nat} {x : (⟨4, ![8, H, H, C]⟩ : Shape).Idx → EReal} {w : (⟨4, ![4, 4, C, N]⟩ : Shape).Idx → EReal}
    {v : (⟨1, ![N]⟩ : Shape).Idx → EReal} (hx : ∀ i, IsReal (x i)) (hw : ∀ i, IsReal (w i)) (hv : ∀ i, IsReal (v i))
    (b : Fin 8) (Y X : ℕ) (n : Fin N) : IsReal (conv x w v b Y X n) :=
  IsReal.add (.sum _ _ fun _ => .sum _ _ fun _ => .sum _ _ fun _ => .mul (.padc hx _ _ _ _) (hw _)) (hv _)

end Cert.Vq

end
-- ==== Proof.Ref.Win17.lean ====
/- The windows the reference contracts, at an index. -/
module

public import proofs.«01_k».proof.Proof.Ref.Run
public import Idealize.ShloMosaic.Lib.Pipeline.ValueKit
public import Idealize.ShloMosaic.Lib.StableHlo.ReadAt
public import proofs.«01_k».proof.Proof.Val.Window
public import proofs.«01_k».proof.Proof.Val.Arith

@[expose] public section

set_option maxRecDepth 16384
set_option maxHeartbeats 4000000

noncomputable section

namespace Cert.Vq.Ref

open Cert.ReferenceIdeal Cert.ReferenceIdeal.Gen Idealize.ShloMosaic Idealize.ShloMosaic.TcCoe Idealize.SL.Sem Idealize.ShloMosaic.StableHlo

variable (V : Valuation τ sig (Elt Ideal))

/-- Layer 3: the rows of the windows. -/
theorem rows17 (b : Fin 8) (q : Fin 4) (Y : Fin 112) (X : Fin 115) (k : Fin 64) :
    after c18 (after c17 V) (Proc.devRef .tc main_v72) (ix6 b q 0 Y X k) = dil (H := 56) (V (rd main_v65)) b (Y.val + q.val) X.val k := by
  rw [c18_main_v72]
  concat_tiles i h
  all_goals
    replace h0 : (i 0).val = b.val := h0
    replace h2 : (i 2).val = 0 := h2
    replace h3 : (i 3).val = Y.val := h3
    replace h4 : (i 4).val = X.val := h4
    replace h5 : (i 5).val = k.val := h5
    replace h : q.val = _ := h
    first | rw [c17_main_v68] | rw [c17_main_v69] | rw [c17_main_v70] | rw [c17_main_v71]
    rw [pad_two (H := 56) (P := 115) (C := 64) (V (rd main_v65)) _ _ _ zero_at]
    pointwise
    refine arg_congr4 (dil (H := 56) (V (rd main_v65))) (Fin.ext ?_) ?_ ?_ (Fin.ext ?_) <;> (first | omega | (simp only []; omega))

/-- Layer 3: the windows. -/
theorem win17 (b : Fin 8) (q r : Fin 4) (Y X : Fin 112) (k : Fin 64) :
    after c20 (after c19 (after c18 (after c17 V))) (Proc.devRef .tc main_v77) (ix6 b q r Y X k) =
      dil (H := 56) (V (rd main_v65)) b (Y.val + q.val) (X.val + r.val) k := by
  rw [c20_main_v77]
  concat_tiles i h
  all_goals
    replace h0 : (i 0).val = b.val := h0
    replace h1 : (i 1).val = q.val := h1
    replace h3 : (i 3).val = Y.val := h3
    replace h4 : (i 4).val = X.val := h4
    replace h5 : (i 5).val = k.val := h5
    replace h : r.val = _ := h
    first | rw [c19_main_v73] | rw [c19_main_v74] | rw [c19_main_v75] | rw [c19_main_v76]
    pointwise
    refine Eq.trans (congrArg _ ?_) ((rows17 V b q Y ⟨(X.val + r.val), by omega⟩ k).trans ?_)
    · blk_ext []
    · rfl

/-- Layer 4: the rows of the windows. -/
theorem rows22 (b : Fin 8) (q : Fin 4) (Y : Fin 224) (X : Fin 227) (k : Fin 256) :
    after c23 (after c22 V) (Proc.devRef .tc main_v90) (ix6 b q 0 Y X k) = dil (H := 112) (V (rd main_v83)) b (Y.val + q.val) X.val k := by
  rw [c23_main_v90]
  concat_tiles i h
  all_goals
    replace h0 : (i 0).val = b.val := h0
    replace h2 : (i 2).val = 0 := h2
    replace h3 : (i 3).val = Y.val := h3
    replace h4 : (i 4).val = X.val := h4
    replace h5 : (i 5).val = k.val := h5
    replace h : q.val = _ := h
    first | rw [c22_main_v86] | rw [c22_main_v87] | rw [c22_main_v88] | rw [c22_main_v89]
    rw [pad_two (H := 112) (P := 227) (C := 256) (V (rd main_v83)) _ _ _ zero_at]
    pointwise
    refine arg_congr4 (dil (H := 112) (V (rd main_v83))) (Fin.ext ?_) ?_ ?_ (Fin.ext ?_) <;> (first | omega | (simp only []; omega))

/-- Layer 4: the windows. -/
theorem win22 (b : Fin 8) (q r : Fin 4) (Y X : Fin 224) (k : Fin 256) :
    after c25 (after c24 (after c23 (after c22 V))) (Proc.devRef .tc main_v95) (ix6 b q r Y X k) =
      dil (H := 112) (V (rd main_v83)) b (Y.val + q.val) (X.val + r.val) k := by
  rw [c25_main_v95]
  concat_tiles i h
  all_goals
    replace h0 : (i 0).val = b.val := h0
    replace h1 : (i 1).val = q.val := h1
    replace h3 : (i 3).val = Y.val := h3
    replace h4 : (i 4).val = X.val := h4
    replace h5 : (i 5).val = k.val := h5
    replace h : r.val = _ := h
    first | rw [c24_main_v91] | rw [c24_main_v92] | rw [c24_main_v93] | rw [c24_main_v94]
    pointwise
    refine Eq.trans (congrArg _ ?_) ((rows22 V b q Y ⟨(X.val + r.val), by omega⟩ k).trans ?_)
    · blk_ext []
    · rfl

end Cert.Vq.Ref

end
-- ==== Proof.Ref.Win0.lean ====
/- The windows the reference contracts, at an index. -/
module

public import proofs.«01_k».proof.Proof.Ref.Run
public import Idealize.ShloMosaic.Lib.Pipeline.ValueKit
public import Idealize.ShloMosaic.Lib.StableHlo.ReadAt
public import proofs.«01_k».proof.Proof.Val.Window
public import proofs.«01_k».proof.Proof.Val.Arith

@[expose] public section

set_option maxRecDepth 16384
set_option maxHeartbeats 4000000

noncomputable section

namespace Cert.Vq.Ref

open Cert.ReferenceIdeal Cert.ReferenceIdeal.Gen Idealize.ShloMosaic Idealize.ShloMosaic.TcCoe Idealize.SL.Sem Idealize.ShloMosaic.StableHlo

variable (V : Valuation τ sig (Elt Ideal))

/-- Layer 1: the rows of the windows. -/
theorem rows0 (b : Fin 8) (q : Fin 4) (Y : Fin 112) (X : Fin 226) (k : Fin 3) :
    after c1 (after c0 V) (Proc.devRef .tc main_v6) (ix6 b q 0 Y X k) = padc (H := 224) (V (rd main_arg0)) b (2 * Y.val + q.val) X.val k := by
  rw [c1_main_v6]
  concat_tiles i h
  all_goals
    replace h0 : (i 0).val = b.val := h0
    replace h2 : (i 2).val = 0 := h2
    replace h3 : (i 3).val = Y.val := h3
    replace h4 : (i 4).val = X.val := h4
    replace h5 : (i 5).val = k.val := h5
    replace h : q.val = _ := h
    first | rw [c0_main_v2] | rw [c0_main_v3] | rw [c0_main_v4] | rw [c0_main_v5]
    rw [pad_one (H := 224) (P := 226) (C := 3) (V (rd main_arg0)) _ _ _ zero_at]
    pointwise
    refine arg_congr4 (padc (H := 224) (V (rd main_arg0))) (Fin.ext ?_) ?_ ?_ (Fin.ext ?_) <;> (first | omega | (simp only []; omega))

/-- Layer 1: the windows. -/
theorem win0 (b : Fin 8) (q r : Fin 4) (Y X : Fin 112) (k : Fin 3) :
    after c3 (after c2 (after c1 (after c0 V))) (Proc.devRef .tc main_v11) (ix6 b q r Y X k) =
      padc (H := 224) (V (rd main_arg0)) b (2 * Y.val + q.val) (2 * X.val + r.val) k := by
  rw [c3_main_v11]
  concat_tiles i h
  all_goals
    replace h0 : (i 0).val = b.val := h0
    replace h1 : (i 1).val = q.val := h1
    replace h3 : (i 3).val = Y.val := h3
    replace h4 : (i 4).val = X.val := h4
    replace h5 : (i 5).val = k.val := h5
    replace h : r.val = _ := h
    first | rw [c2_main_v7] | rw [c2_main_v8] | rw [c2_main_v9] | rw [c2_main_v10]
    pointwise
    refine Eq.trans (congrArg _ ?_) ((rows0 V b q Y ⟨(2 * X.val + r.val), by omega⟩ k).trans ?_)
    · blk_ext []
    · rfl

/-- Layer 2: the rows of the windows. -/
theorem rows5 (b : Fin 8) (q : Fin 4) (Y : Fin 56) (X : Fin 114) (k : Fin 128) :
    after c6 (after c5 V) (Proc.devRef .tc main_v24) (ix6 b q 0 Y X k) = padc (H := 112) (V (rd main_v17)) b (2 * Y.val + q.val) X.val k := by
  rw [c6_main_v24]
  concat_tiles i h
  all_goals
    replace h0 : (i 0).val = b.val := h0
    replace h2 : (i 2).val = 0 := h2
    replace h3 : (i 3).val = Y.val := h3
    replace h4 : (i 4).val = X.val := h4
    replace h5 : (i 5).val = k.val := h5
    replace h : q.val = _ := h
    first | rw [c5_main_v20] | rw [c5_main_v21] | rw [c5_main_v22] | rw [c5_main_v23]
    rw [pad_one (H := 112) (P := 114) (C := 128) (V (rd main_v17)) _ _ _ zero_at]
    pointwise
    refine arg_congr4 (padc (H := 112) (V (rd main_v17))) (Fin.ext ?_) ?_ ?_ (Fin.ext ?_) <;> (first | omega | (simp only []; omega))

/-- Layer 2: the windows. -/
theorem win5 (b : Fin 8) (q r : Fin 4) (Y X : Fin 56) (k : Fin 128) :
    after c8 (after c7 (after c6 (after c5 V))) (Proc.devRef .tc main_v29) (ix6 b q r Y X k) =
      padc (H := 112) (V (rd main_v17)) b (2 * Y.val + q.val) (2 * X.val + r.val) k := by
  rw [c8_main_v29]
  concat_tiles i h
  all_goals
    replace h0 : (i 0).val = b.val := h0
    replace h1 : (i 1).val = q.val := h1
    replace h3 : (i 3).val = Y.val := h3
    replace h4 : (i 4).val = X.val := h4
    replace h5 : (i 5).val = k.val := h5
    replace h : r.val = _ := h
    first | rw [c7_main_v25] | rw [c7_main_v26] | rw [c7_main_v27] | rw [c7_main_v28]
    pointwise
    refine Eq.trans (congrArg _ ?_) ((rows5 V b q Y ⟨(2 * X.val + r.val), by omega⟩ k).trans ?_)
    · blk_ext []
    · rfl

end Cert.Vq.Ref

end
-- ==== Proof.Ref.Act.lean ====
/- The reference's layers over plain arrays. -/
module

public import proofs.«01_k».proof.Proof.Ref.Run
public import proofs.«01_k».proof.Proof.Val.Arith
public import proofs.«01_k».proof.Proof.Val.Window

@[expose] public section

set_option maxRecDepth 16384
set_option maxHeartbeats 4000000

noncomputable section

namespace Cert.Vq.Ref

open Cert.ReferenceIdeal Cert.ReferenceIdeal.Gen Idealize.ShloMosaic Idealize.ShloMosaic.TcCoe Idealize.SL.Sem Idealize.ShloMosaic.StableHlo

/-- The encoder's first layer. -/
theorem act1 (x : S8x4x4x112x112x3.Idx → EReal) (w : S4x4x3x128.Idx → EReal) (v : S128.Idx → EReal) (a : (⟨4, ![8, 224, 224, 3]⟩ : Shape).Idx → EReal)
    (hx : ∀ (b : Fin 8) (q r : Fin 4) (Y X : Fin 112) (k : Fin 3), x (ix6 b q r Y X k) = padc a b (2 * Y.val + q.val) (2 * X.val + r.val) k) :
    maximumf (F := Ideal) (φ := .f32) (addf (F := Ideal) (φ := .f32) (Host.dotGeneral (F := Ideal) (φ₁ := .f32) (φ₂ := .f32) dot_S8x4x4x112x112x3_S4x4x3x128_S8x112x112x128_125_012_034_3_n_n none x w) (broadcastInDim S8x112x112x128 ![3] bcast_S128_S8x112x112x128_3 v)) (mulf (F := Ideal) (φ := .f32) (broadcastInDim S8x112x112x128 ![] bcast_S_S8x112x112x128 (constant S_ .f32 0x3C23D70A#32)) (addf (F := Ideal) (φ := .f32) (Host.dotGeneral (F := Ideal) (φ₁ := .f32) (φ₂ := .f32) dot_S8x4x4x112x112x3_S4x4x3x128_S8x112x112x128_125_012_034_3_n_n none x w) (broadcastInDim S8x112x112x128 ![3] bcast_S128_S8x112x112x128_3 v))) = fun i : S8x112x112x128.Idx => leaky (conv (H := 224) (C := 3) (N := 128) a w v (i 0) (i 1).val (i 2).val (i 3)) := by
  funext i
  obtain ⟨b, Y, X, n, rfl⟩ : ∃ (b : Fin 8) (Y X : Fin 112) (n : Fin 128), i = ix4 b Y X n := ⟨i 0, i 1, i 2, i 3, eq_ix4 i⟩
  pointwise
  rw [max_eq_leaky]
  refine congrArg leaky ?_
  refine congrArg₂ (· + ·) ((dot_windows _ _ _ b Y X n).trans ?_) rfl
  exact Finset.sum_congr rfl fun q _ => Finset.sum_congr rfl fun r _ => Finset.sum_congr rfl fun k _ => by rw [hx]

/-- The encoder's second layer. -/
theorem act2 (x : S8x4x4x56x56x128.Idx → EReal) (w : S4x4x128x256.Idx → EReal) (v : S256.Idx → EReal) (a : (⟨4, ![8, 112, 112, 128]⟩ : Shape).Idx → EReal)
    (hx : ∀ (b : Fin 8) (q r : Fin 4) (Y X : Fin 56) (k : Fin 128), x (ix6 b q r Y X k) = padc a b (2 * Y.val + q.val) (2 * X.val + r.val) k) :
    maximumf (F := Ideal) (φ := .f32) (addf (F := Ideal) (φ := .f32) (Host.dotGeneral (F := Ideal) (φ₁ := .f32) (φ₂ := .f32) dot_S8x4x4x56x56x128_S4x4x128x256_S8x56x56x256_125_012_034_3_n_n none x w) (broadcastInDim S8x56x56x256 ![3] bcast_S256_S8x56x56x256_3 v)) (mulf (F := Ideal) (φ := .f32) (broadcastInDim S8x56x56x256 ![] bcast_S_S8x56x56x256 (constant S_ .f32 0x3C23D70A#32)) (addf (F := Ideal) (φ := .f32) (Host.dotGeneral (F := Ideal) (φ₁ := .f32) (φ₂ := .f32) dot_S8x4x4x56x56x128_S4x4x128x256_S8x56x56x256_125_012_034_3_n_n none x w) (broadcastInDim S8x56x56x256 ![3] bcast_S256_S8x56x56x256_3 v))) = fun i : S8x56x56x256.Idx => leaky (conv (H := 112) (C := 128) (N := 256) a w v (i 0) (i 1).val (i 2).val (i 3)) := by
  funext i
  obtain ⟨b, Y, X, n, rfl⟩ : ∃ (b : Fin 8) (Y X : Fin 56) (n : Fin 256), i = ix4 b Y X n := ⟨i 0, i 1, i 2, i 3, eq_ix4 i⟩
  pointwise
  rw [max_eq_leaky]
  refine congrArg leaky ?_
  refine congrArg₂ (· + ·) ((dot_windows _ _ _ b Y X n).trans ?_) rfl
  exact Finset.sum_congr rfl fun q _ => Finset.sum_congr rfl fun r _ => Finset.sum_congr rfl fun k _ => by rw [hx]

/-- The decoder's first layer. -/
theorem act3 (x : S8x4x4x112x112x64.Idx → EReal) (w : S4x4x64x256.Idx → EReal) (v : S256.Idx → EReal) (a : (⟨4, ![8, 56, 56, 64]⟩ : Shape).Idx → EReal)
    (hx : ∀ (b : Fin 8) (q r : Fin 4) (Y X : Fin 112) (k : Fin 64), x (ix6 b q r Y X k) = dil a b (Y.val + q.val) (X.val + r.val) k) :
    maximumf (F := Ideal) (φ := .f32) (addf (F := Ideal) (φ := .f32) (Host.dotGeneral (F := Ideal) (φ₁ := .f32) (φ₂ := .f32) dot_S8x4x4x112x112x64_S4x4x64x256_S8x112x112x256_125_012_034_3_n_n none x w) (broadcastInDim S8x112x112x256 ![3] bcast_S256_S8x112x112x256_3 v)) (mulf (F := Ideal) (φ := .f32) (broadcastInDim S8x112x112x256 ![] bcast_S_S8x112x112x256 (constant S_ .f32 0x3C23D70A#32)) (addf (F := Ideal) (φ := .f32) (Host.dotGeneral (F := Ideal) (φ₁ := .f32) (φ₂ := .f32) dot_S8x4x4x112x112x64_S4x4x64x256_S8x112x112x256_125_012_034_3_n_n none x w) (broadcastInDim S8x112x112x256 ![3] bcast_S256_S8x112x112x256_3 v))) = fun i : S8x112x112x256.Idx => leaky (tconv (H := 56) (C := 64) (N := 256) a w v (i 0) (i 1).val (i 2).val (i 3)) := by
  funext i
  obtain ⟨b, Y, X, n, rfl⟩ : ∃ (b : Fin 8) (Y X : Fin 112) (n : Fin 256), i = ix4 b Y X n := ⟨i 0, i 1, i 2, i 3, eq_ix4 i⟩
  pointwise
  rw [max_eq_leaky]
  refine congrArg leaky ?_
  refine Eq.trans ?_ (sum_dil _ _ _ b Y.val X.val n)
  refine congrArg₂ (· + ·) ((dot_windows _ _ _ b Y X n).trans ?_) rfl
  exact Finset.sum_congr rfl fun q _ => Finset.sum_congr rfl fun r _ => Finset.sum_congr rfl fun k _ => by rw [hx]

/-- The decoder's second layer. -/
theorem act4 (x : S8x4x4x224x224x256.Idx → EReal) (w : S4x4x256x3.Idx → EReal) (v : S3.Idx → EReal) (a : (⟨4, ![8, 112, 112, 256]⟩ : Shape).Idx → EReal)
    (hx : ∀ (b : Fin 8) (q r : Fin 4) (Y X : Fin 224) (k : Fin 256), x (ix6 b q r Y X k) = dil a b (Y.val + q.val) (X.val + r.val) k) :
    Host.tanh (F := Ideal) (φ := .f32) (addf (F := Ideal) (φ := .f32) (Host.dotGeneral (F := Ideal) (φ₁ := .f32) (φ₂ := .f32) dot_S8x4x4x224x224x256_S4x4x256x3_S8x224x224x3_125_012_034_3_n_n none x w) (broadcastInDim S8x224x224x3 ![3] bcast_S3_S8x224x224x3_3 v)) = fun i : S8x224x224x3.Idx => Ideal.tanh (tconv (H := 112) (C := 256) (N := 3) a w v (i 0) (i 1).val (i 2).val (i 3)) := by
  funext i
  obtain ⟨b, Y, X, n, rfl⟩ : ∃ (b : Fin 8) (Y X : Fin 224) (n : Fin 3), i = ix4 b Y X n := ⟨i 0, i 1, i 2, i 3, eq_ix4 i⟩
  pointwise
  refine congrArg Ideal.tanh ?_
  refine Eq.trans ?_ (sum_dil _ _ _ b Y.val X.val n)
  refine congrArg₂ (· + ·) ((dot_windows _ _ _ b Y X n).trans ?_) rfl
  exact Finset.sum_congr rfl fun q _ => Finset.sum_congr rfl fun r _ => Finset.sum_congr rfl fun k _ => by rw [hx]

end Cert.Vq.Ref

end
-- ==== Proof.Val.Small.lean ====
/- The short stretches between the regions, read at an index. -/
module

public import proofs.«01_k».proof.Proof.Gen.KernelIdeal.Frame
public import Idealize.ShloMosaic.Lib.Pipeline.ValueKit
public import Idealize.ShloMosaic.Lib.StableHlo.ReadAt
public import proofs.«01_k».proof.Proof.Val.Spec
public import Idealize.ShloMosaic.PureOps.Ideal

@[expose] public section

set_option maxRecDepth 16384
set_option maxHeartbeats 4000000

noncomputable section

namespace Cert.Vq

open Cert.KernelIdeal Cert.KernelIdeal.Gen Idealize.ShloMosaic Idealize.ShloMosaic.TcCoe Idealize.SL.Sem Idealize.ShloMosaic.StableHlo

variable (V : Valuation τ sig (Elt Ideal))

/-- The word zero read as a number. -/
theorem sitofp_zero : (FloatOps.sitofp (F := Ideal) FTy.f32 (0#32) : EReal) = 0 := by
  change (((0#32 : BitVec 32).toInt : ℝ) : EReal) = 0
  norm_num

/-- The bordered input. -/
theorem pad0 (b : Fin 8) (Y X : Fin 226) (k : Fin 3) :
    after hostOps0_1 (after hostOps0 V) (Proc.devRef .tc main_v0) (ix4 b Y X k) = padc (H := 224) (V (Proc.devRef .tc main_arg0)) b Y.val X.val k := by
  after_reads_at
  rw [sitofp_zero]
  rfl

/-- The bordered first activation. -/
theorem pad1 (b : Fin 8) (Y X : Fin 114) (k : Fin 128) :
    after hostOps1_1 (after hostOps1 V) (Proc.devRef .tc main_v51) (ix4 b Y X k) = padc (H := 112) (after hostOps1 V (Proc.devRef .tc main_v50)) b Y.val X.val k := by
  generalize hU : after hostOps1 V = U
  have hc : U (Proc.devRef .tc main_c_0) = constantI S_ 32 0#32 := by
    rw [← hU]; after_results_simp
  after_reads_at
  rw [hc]
  pointwise
  rw [sitofp_zero]
  rfl

/-- The bordered quantized latent. -/
theorem pad4 (b : Fin 8) (Y X : Fin 58) (k : Fin 64) :
    after hostOps4_1 (after hostOps4 V) (Proc.devRef .tc main_v114) (ix4 b Y X k) = padc (H := 56) (after hostOps4 V (Proc.devRef .tc main_v113)) b Y.val X.val k := by
  generalize hU : after hostOps4 V = U
  have hc : U (Proc.devRef .tc main_c_2) = constantI S_ 32 0#32 := by
    rw [← hU]; after_results_simp
  after_reads_at
  rw [hc]
  pointwise
  rw [sitofp_zero]
  rfl

/-- The bordered upsampled activation. -/
theorem pad5 (b : Fin 8) (Y X : Fin 114) (k : Fin 256) :
    after hostOps5_1 (after hostOps5 V) (Proc.devRef .tc main_v178) (ix4 b Y X k) = padc (H := 112) (after hostOps5 V (Proc.devRef .tc main_v177)) b Y.val X.val k := by
  generalize hU : after hostOps5 V = U
  have hc : U (Proc.devRef .tc main_c_3) = constantI S_ 32 0#32 := by
    rw [← hU]; after_results_simp
  after_reads_at
  rw [hc]
  pointwise
  rw [sitofp_zero]
  rfl

/-- The first activation as an image. -/
theorem resh1 (b : Fin 8) (y x : Fin 112) (n : Fin 128) (R : Fin 100352) (hR : R.val = (b.val * 112 + y.val) * 112 + x.val) :
    after hostOps1 V (Proc.devRef .tc main_v50) (ix4 b y x n) = V (Proc.devRef .tc main_v49) (ix2 R n) := by
  after_reads_at
  blk_ext []

/-- The 1 by 1 convolution's weights as a matrix. -/
theorem wmat2 (k : Fin 256) (n : Fin 64) :
    after hostOps2 V (Proc.devRef .tc main_v101) (ix2 k n) = V (Proc.devRef .tc main_arg5) (ix4 0 0 k n) := by
  after_reads_at
  try blk_ext []

/-- The 1 by 1 convolution's bias as a row. -/
theorem brow2 (n : Fin 64) :
    after hostOps2 V (Proc.devRef .tc main_v102) (ix2 0 n) = V (Proc.devRef .tc main_arg6) (ix1 n) := by
  after_reads_at

/-- The latent's rows. -/
theorem st3 : after hostOps3 V (Proc.devRef .tc main_v106) = (shapeCast S25088x64 (transpose S8x56x64x56 [0, 2, 3, 1]
    (shapeCast S8x56x56x64 (V (Proc.devRef .tc main_v103) : S25088x64.Idx → EReal) shapeCasts_S25088x64_S8x56x56x64)
    transposes_S8x56x56x64_S8x56x64x56_0_2_3_1) shapeCasts_S8x56x64x56_S25088x64 : S25088x64.Idx → EReal) := by
  after_results_simp
  try rfl

/-- The loss. -/
theorem loss4 : after hostOps4 V (Proc.devRef .tc main_v111) = fun _ => Ideal.div (Ideal.ofBits .f32 1067450368#32 *
    (V (Proc.devRef .tc main_v107_1) : S1x128.Idx → EReal) (ix2 0 0)) (Ideal.ofBits .f32 1237581824#32) := by
  funext i
  rw [show i = ix0 from funext fun a => Fin.elim0 a]
  after_reads_at

/-- The quantized latent as an image. -/
theorem q4 : after hostOps4 V (Proc.devRef .tc main_v113) = (transpose S8x56x56x64 [0, 3, 1, 2]
    (shapeCast S8x56x64x56 (V (Proc.devRef .tc main_v107_0) : S25088x64.Idx → EReal) shapeCasts_S25088x64_S8x56x64x56)
    transposes_S8x56x64x56_S8x56x56x64_0_3_1_2 : S8x56x56x64.Idx → EReal) := by
  after_results_simp
  try rfl

/-- The four parity classes interleaved, first layer. -/
theorem up5 (b : Fin 8) (Y X : Fin 112) (n : Fin 256) (p : Fin 4) (R : Fin 25088) (hp : p.val = Y.val % 2 * 2 + X.val % 2)
    (hR : R.val = (b.val * 56 + Y.val / 2) * 56 + X.val / 2) :
    after hostOps5 V (Proc.devRef .tc main_v177) (ix4 b Y X n) = V (Proc.devRef .tc main_v174) (ix3 p R n) := by
  after_reads_at
  blk_ext []

/-- The four parity classes interleaved, second layer. -/
theorem up6 (b : Fin 8) (Y X : Fin 224) (n : Fin 3) (p : Fin 4) (R : Fin 100352) (hp : p.val = Y.val % 2 * 2 + X.val % 2)
    (hR : R.val = (b.val * 112 + Y.val / 2) * 112 + X.val / 2) :
    after hostOps6 V (Proc.devRef .tc main_v244) (ix4 b Y X n) = V (Proc.devRef .tc main_v240) (ix3 p R ⟨n.val, by omega⟩) := by
  after_reads_at
  blk_ext []

/-- The padded weights at a kept column. -/
theorem wpad5 (p : Fin 4) (K : Fin 1024) (n : Fin 3) :
    after hostOps5_3 V (Proc.devRef .tc main_v237) (ix3 p K ⟨n.val, by omega⟩) = V (Proc.devRef .tc main_v236) (ix3 p K n) := by
  after_reads_at

/-- The padded bias at a kept column. -/
theorem bpad5 (n : Fin 3) :
    after hostOps5_6 (after hostOps5_5 V) (Proc.devRef .tc main_v239) (ix2 0 ⟨n.val, by omega⟩) = V (Proc.devRef .tc main_arg11) (ix1 n) := by
  after_reads_at

end Cert.Vq

end
-- ==== Proof.Val.Patch0.lean ====
/- The first convolution's operands: the rows of windows of the padded input, the weights as a matrix, the bias as a row. -/
module

public import proofs.«01_k».proof.Proof.Gen.KernelIdeal.Frame
public import Idealize.ShloMosaic.Lib.Pipeline.ValueKit
public import Idealize.ShloMosaic.Lib.StableHlo.ReadAt
public import proofs.«01_k».proof.Proof.Val.Math
public import Idealize.ShloMosaic.PureOps.Ideal

@[expose] public section

set_option maxRecDepth 16384
set_option maxHeartbeats 4000000

noncomputable section

namespace Cert.Vq

open Cert.KernelIdeal Cert.KernelIdeal.Gen Idealize.ShloMosaic Idealize.ShloMosaic.TcCoe Idealize.SL.Sem Idealize.ShloMosaic.StableHlo

variable (V : Valuation τ sig (Elt Ideal))

/-- The matrix of windows is the windowed array, its rows and columns flattened. -/
theorem rows0 (X : S8x112x112x16x3.Idx → EReal) (b : Fin 8) (y x : Fin 112) (q : Fin 16) (k : Fin 3) (R : Fin 100352) (K : Fin 48)
    (hR : R.val = (b.val * 112 + y.val) * 112 + x.val) (hK : K.val = q.val * 3 + k.val) :
    shapeCast S100352x48 X shapeCasts_S8x112x112x16x3_S100352x48 (ix2 R K) = X (ix5 b y x q k) := by
  pointwise
  blk_ext []

/-- Entry (R, K) of the matrix of windows is the padded input at the window's place. -/
theorem patch0 (b : Fin 8) (y x : Fin 112) (q : Fin 16) (k : Fin 3) (R : Fin 100352) (K : Fin 48) (Y X : Fin 226)
    (hR : R.val = (b.val * 112 + y.val) * 112 + x.val) (hK : K.val = q.val * 3 + k.val)
    (hY : Y.val = 2 * y.val + q.val / 4) (hX : X.val = 2 * x.val + q.val % 4) :
    after hostOps0_2 V (Proc.devRef .tc main_v46) (ix2 R K) = V (Proc.devRef .tc main_v0) (ix4 b Y X k) := by
  after_reads_simp
  dsimp only [Matrix.cons_val]
  refine (rows0 _ b y x q k R K hR hK).trans ?_
  concat_tiles i h
  all_goals
    replace h0 : (i 0).val = b.val := h0
    replace h1 : (i 1).val = y.val := h1
    replace h2 : (i 2).val = x.val := h2
    replace h4 : (i 4).val = k.val := h4
    replace h : q.val = _ := h
    after_reads_at
    blk_ext []

/-- The weights as a matrix. -/
theorem wmat0 (q : Fin 16) (k : Fin 3) (n : Fin 128) (K : Fin 48) (r s : Fin 4)
    (hK : K.val = q.val * 3 + k.val) (hr : r.val = q.val / 4) (hs : s.val = q.val % 4) :
    after hostOps0_2 V (Proc.devRef .tc main_v47) (ix2 K n) = V (Proc.devRef .tc main_arg1) (ix4 r s k n) := by
  after_reads_at
  blk_ext []

/-- The bias as a row. -/
theorem brow0 (n : Fin 128) :
    after hostOps0_2 V (Proc.devRef .tc main_v48) (ix2 0 n) = V (Proc.devRef .tc main_arg2) (ix1 n) := by
  after_reads_at

end Cert.Vq

end
-- ==== Proof.Val.Patch1.lean ====
/- The second convolution's operands: the rows of windows of the padded input, the weights as a matrix, the bias as a row. -/
module

public import proofs.«01_k».proof.Proof.Gen.KernelIdeal.Frame
public import Idealize.ShloMosaic.Lib.Pipeline.ValueKit
public import Idealize.ShloMosaic.Lib.StableHlo.ReadAt
public import proofs.«01_k».proof.Proof.Val.Math
public import Idealize.ShloMosaic.PureOps.Ideal

@[expose] public section

set_option maxRecDepth 16384
set_option maxHeartbeats 4000000

noncomputable section

namespace Cert.Vq

open Cert.KernelIdeal Cert.KernelIdeal.Gen Idealize.ShloMosaic Idealize.ShloMosaic.TcCoe Idealize.SL.Sem Idealize.ShloMosaic.StableHlo

variable (V : Valuation τ sig (Elt Ideal))

/-- The matrix of windows is the windowed array, its rows and columns flattened. -/
theorem rows1 (X : S8x56x56x16x128.Idx → EReal) (b : Fin 8) (y x : Fin 56) (q : Fin 16) (k : Fin 128) (R : Fin 25088) (K : Fin 2048)
    (hR : R.val = (b.val * 56 + y.val) * 56 + x.val) (hK : K.val = q.val * 128 + k.val) :
    shapeCast S25088x2048 X shapeCasts_S8x56x56x16x128_S25088x2048 (ix2 R K) = X (ix5 b y x q k) := by
  pointwise
  blk_ext []

/-- Entry (R, K) of the matrix of windows is the padded input at the window's place. -/
theorem patch1 (b : Fin 8) (y x : Fin 56) (q : Fin 16) (k : Fin 128) (R : Fin 25088) (K : Fin 2048) (Y X : Fin 114)
    (hR : R.val = (b.val * 56 + y.val) * 56 + x.val) (hK : K.val = q.val * 128 + k.val)
    (hY : Y.val = 2 * y.val + q.val / 4) (hX : X.val = 2 * x.val + q.val % 4) :
    after hostOps1_2 V (Proc.devRef .tc main_v97) (ix2 R K) = V (Proc.devRef .tc main_v51) (ix4 b Y X k) := by
  after_reads_simp
  dsimp only [Matrix.cons_val]
  refine (rows1 _ b y x q k R K hR hK).trans ?_
  concat_tiles i h
  all_goals
    replace h0 : (i 0).val = b.val := h0
    replace h1 : (i 1).val = y.val := h1
    replace h2 : (i 2).val = x.val := h2
    replace h4 : (i 4).val = k.val := h4
    replace h : q.val = _ := h
    after_reads_at
    blk_ext []

/-- The weights as a matrix. -/
theorem wmat1 (q : Fin 16) (k : Fin 128) (n : Fin 256) (K : Fin 2048) (r s : Fin 4)
    (hK : K.val = q.val * 128 + k.val) (hr : r.val = q.val / 4) (hs : s.val = q.val % 4) :
    after hostOps1_2 V (Proc.devRef .tc main_v98) (ix2 K n) = V (Proc.devRef .tc main_arg3) (ix4 r s k n) := by
  after_reads_at
  blk_ext []

/-- The bias as a row. -/
theorem brow1 (n : Fin 256) :
    after hostOps1_2 V (Proc.devRef .tc main_v99) (ix2 0 n) = V (Proc.devRef .tc main_arg4) (ix1 n) := by
  after_reads_at

end Cert.Vq

end
-- ==== Proof.Val.Patch4.lean ====
/- The first transposed convolution's operands: per parity class the rows of windows, the weights as matrices. -/
module

public import proofs.«01_k».proof.Proof.Gen.KernelIdeal.Frame
public import Idealize.ShloMosaic.Lib.Pipeline.ValueKit
public import Idealize.ShloMosaic.Lib.StableHlo.ReadAt
public import proofs.«01_k».proof.Proof.Val.Math
public import Idealize.ShloMosaic.PureOps.Ideal

@[expose] public section

set_option maxRecDepth 16384
set_option maxHeartbeats 4000000

noncomputable section

namespace Cert.Vq

open Cert.KernelIdeal Cert.KernelIdeal.Gen Idealize.ShloMosaic Idealize.ShloMosaic.TcCoe Idealize.SL.Sem Idealize.ShloMosaic.StableHlo

variable (V : Valuation τ sig (Elt Ideal))

/-- The matrix of windows is the windowed array, its rows and columns flattened. -/
theorem rows4 (X : S8x56x56x4x64.Idx → EReal) (b : Fin 8) (y x : Fin 56) (q : Fin 4) (k : Fin 64) (R : Fin 25088) (K : Fin 256)
    (hR : R.val = (b.val * 56 + y.val) * 56 + x.val) (hK : K.val = q.val * 64 + k.val) :
    shapeCast S25088x256 X shapeCasts_S8x56x56x4x64_S25088x256 (ix2 R K) = X (ix5 b y x q k) := by
  pointwise
  blk_ext []

/-- A matrix under a unit axis. -/
theorem unit4 (X : S25088x256.Idx → EReal) (i : S1x25088x256.Idx) (R : Fin 25088) (K : Fin 256) (h1 : (i 1).val = R.val) (h2 : (i 2).val = K.val) :
    broadcastInDim S1x25088x256 ![1, 2] bcast_S25088x256_S1x25088x256_1_2 X i = X (ix2 R K) := by
  pointwise
  blk_ext []

/-- Entry (R, K) of parity class p's matrix of windows is the padded input at the window's place. -/
theorem patch4 (p : Fin 4) (b : Fin 8) (y x : Fin 56) (q : Fin 4) (k : Fin 64) (R : Fin 25088) (K : Fin 256) (Y X : Fin 58)
    (hR : R.val = (b.val * 56 + y.val) * 56 + x.val) (hK : K.val = q.val * 64 + k.val)
    (hY : Y.val = y.val + p.val / 2 + q.val / 2) (hX : X.val = x.val + p.val % 2 + q.val % 2) :
    after hostOps4_2 V (Proc.devRef .tc main_v159) (ix3 p R K) = V (Proc.devRef .tc main_v114) (ix4 b Y X k) := by
  after_reads_simp
  dsimp only [Matrix.cons_val]
  concat_tiles i h
  all_goals
    replace h1 : (i 1).val = R.val := h1
    replace h2 : (i 2).val = K.val := h2
    replace h : p.val = _ := h
    after_reads_simp
    dsimp only [Matrix.cons_val]
    refine (unit4 _ i R K h1 h2).trans ((rows4 _ b y x q k R K hR hK).trans ?_)
    clear h1 h2 h0
    concat_tiles j g
    all_goals
      replace g0 : (j 0).val = b.val := g0
      replace g1 : (j 1).val = y.val := g1
      replace g2 : (j 2).val = x.val := g2
      replace g4 : (j 4).val = k.val := g4
      replace g : q.val = _ := g
      after_reads_at
      blk_ext []

/-- Parity class p's weights as a matrix. -/
theorem wmat4 (p q : Fin 4) (k : Fin 64) (n : Fin 256) (K : Fin 256) (r s : Fin 4)
    (hK : K.val = q.val * 64 + k.val) (hr : r.val = 2 * (q.val / 2) + p.val / 2) (hs : s.val = 2 * (q.val % 2) + p.val % 2) :
    after hostOps4_2 V (Proc.devRef .tc main_v172) (ix3 p K n) = V (Proc.devRef .tc main_arg8) (ix4 r s k n) := by
  after_reads_simp
  dsimp only [Matrix.cons_val]
  concat_tiles i h
  all_goals
    replace h1 : (i 1).val = K.val := h1
    replace h2 : (i 2).val = n.val := h2
    replace h : p.val = _ := h
    after_reads_at
    blk_ext []

/-- The bias as a row. -/
theorem brow4 (n : Fin 256) :
    after hostOps4_2 V (Proc.devRef .tc main_v173) (ix2 0 n) = V (Proc.devRef .tc main_arg9) (ix1 n) := by
  after_reads_at

end Cert.Vq

end
-- ==== Proof.Val.Patch5.lean ====
/- The second transposed convolution's operands: per parity class the rows of windows, the weights as matrices. -/
module

public import proofs.«01_k».proof.Proof.Gen.KernelIdeal.Frame
public import Idealize.ShloMosaic.Lib.Pipeline.ValueKit
public import Idealize.ShloMosaic.Lib.StableHlo.ReadAt
public import proofs.«01_k».proof.Proof.Val.Math
public import Idealize.ShloMosaic.PureOps.Ideal

@[expose] public section

set_option maxRecDepth 16384
set_option maxHeartbeats 4000000

noncomputable section

namespace Cert.Vq

open Cert.KernelIdeal Cert.KernelIdeal.Gen Idealize.ShloMosaic Idealize.ShloMosaic.TcCoe Idealize.SL.Sem Idealize.ShloMosaic.StableHlo

variable (V : Valuation τ sig (Elt Ideal))

/-- The matrix of windows is the windowed array, its rows and columns flattened. -/
theorem rows5 (X : S8x112x112x4x256.Idx → EReal) (b : Fin 8) (y x : Fin 112) (q : Fin 4) (k : Fin 256) (R : Fin 100352) (K : Fin 1024)
    (hR : R.val = (b.val * 112 + y.val) * 112 + x.val) (hK : K.val = q.val * 256 + k.val) :
    shapeCast S100352x1024 X shapeCasts_S8x112x112x4x256_S100352x1024 (ix2 R K) = X (ix5 b y x q k) := by
  pointwise
  blk_ext []

/-- A matrix under a unit axis. -/
theorem unit5 (X : S100352x1024.Idx → EReal) (i : S1x100352x1024.Idx) (R : Fin 100352) (K : Fin 1024) (h1 : (i 1).val = R.val) (h2 : (i 2).val = K.val) :
    broadcastInDim S1x100352x1024 ![1, 2] bcast_S100352x1024_S1x100352x1024_1_2 X i = X (ix2 R K) := by
  pointwise
  blk_ext []

/-- Entry (R, K) of parity class p's matrix of windows is the padded input at the window's place. -/
theorem patch5 (p : Fin 4) (b : Fin 8) (y x : Fin 112) (q : Fin 4) (k : Fin 256) (R : Fin 100352) (K : Fin 1024) (Y X : Fin 114)
    (hR : R.val = (b.val * 112 + y.val) * 112 + x.val) (hK : K.val = q.val * 256 + k.val)
    (hY : Y.val = y.val + p.val / 2 + q.val / 2) (hX : X.val = x.val + p.val % 2 + q.val % 2) :
    after hostOps5_2 V (Proc.devRef .tc main_v223) (ix3 p R K) = V (Proc.devRef .tc main_v178) (ix4 b Y X k) := by
  after_reads_simp
  dsimp only [Matrix.cons_val]
  concat_tiles i h
  all_goals
    replace h1 : (i 1).val = R.val := h1
    replace h2 : (i 2).val = K.val := h2
    replace h : p.val = _ := h
    after_reads_simp
    dsimp only [Matrix.cons_val]
    refine (unit5 _ i R K h1 h2).trans ((rows5 _ b y x q k R K hR hK).trans ?_)
    clear h1 h2 h0
    concat_tiles j g
    all_goals
      replace g0 : (j 0).val = b.val := g0
      replace g1 : (j 1).val = y.val := g1
      replace g2 : (j 2).val = x.val := g2
      replace g4 : (j 4).val = k.val := g4
      replace g : q.val = _ := g
      after_reads_at
      blk_ext []

/-- Parity class p's weights as a matrix. -/
theorem wmat5 (p q : Fin 4) (k : Fin 256) (n : Fin 3) (K : Fin 1024) (r s : Fin 4)
    (hK : K.val = q.val * 256 + k.val) (hr : r.val = 2 * (q.val / 2) + p.val / 2) (hs : s.val = 2 * (q.val % 2) + p.val % 2) :
    after hostOps5_2 V (Proc.devRef .tc main_v236) (ix3 p K n) = V (Proc.devRef .tc main_arg10) (ix4 r s k n) := by
  after_reads_simp
  dsimp only [Matrix.cons_val]
  concat_tiles i h
  all_goals
    replace h1 : (i 1).val = K.val := h1
    replace h2 : (i 2).val = n.val := h2
    replace h : p.val = _ := h
    after_reads_at
    blk_ext []

end Cert.Vq

end
-- ==== Proof.Val.Reg0.lean ====
/- Region 0, the first convolution's product: what its output array holds at every index. -/
module

public import proofs.«01_k».proof.Proof.Gen.KernelIdeal.Frame
public import Idealize.ShloMosaic.Lib.Pipeline.ValueKit
public import proofs.«01_k».proof.Proof.Val.Math
public import Idealize.ShloMosaic.PureOps.Ideal

@[expose] public section

set_option maxRecDepth 16384

noncomputable section

namespace Cert.Vq

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- Region 0's window indices at a point: the row windows move with the point, the weights and the bias stay. -/
theorem idx0 : ∀ t : Fin cfg0.N, win0_0.index t = ![t.val, 0] ∧ win0_1.index t = ![0, 0] ∧ win0_2.index t = ![0, 0]
    ∧ win0_3.index t = ![t.val, 0] := by decide +kernel

/-- The payload of region 0 at an index. -/
theorem pay0 (x : Vec Ideal S1024x48 .f32) (w : Vec Ideal S48x128 .f32) (b : Vec Ideal S1x128 .f32) (r : Fin 1024) (n : Fin 128) :
    k0_pay1 x w b (ix2 r n) = leaky (∑ k, x (ix2 r k) * w (ix2 k n) + b (ix2 0 n)) := by
  pointwise [k0_pay1, leaky]

/-- A block of the row operand at an index. -/
theorem blk0_0 (c : Dev nD) (t : Fin cfg0.N) (r : Fin 1024) (k : Fin 48) (R : Fin 100352) (hR : R.val = t.val * 1024 + r.val) :
    iblk0 V c 0 t (ix2 r k) = V c main_v46 (ix2 R k) := by
  blk_ext [iblk0, idx0 t]

/-- A block of the weights at an index. -/
theorem blk0_1 (c : Dev nD) (t : Fin cfg0.N) (k : Fin 48) (n : Fin 128) :
    iblk0 V c 1 t (ix2 k n) = V c main_v47 (ix2 k n) := by
  blk_ext [iblk0, idx0 t]

/-- A block of the bias at an index. -/
theorem blk0_2 (c : Dev nD) (t : Fin cfg0.N) (n : Fin 128) :
    iblk0 V c 2 t (ix2 0 n) = V c main_v48 (ix2 0 n) := by
  blk_ext [iblk0, idx0 t]

/-- What region 0's output array holds. -/
theorem final0 (c : Dev nD) : (dat0 V c).arrAt 3 cfg0.N = fun i : S100352x128.Idx =>
    leaky (mm (M := 100352) (K := 48) (N := 128) (V c main_v46) (V c main_v47) (V c main_v48) (i 0) (i 1)) := by
  refine (dat0 V c).arrAt_eq_of_covers 3 _ (by decide +kernel) fun t hf y => ?_
  blk_simp
  rw [after0_3]
  frame_out
  obtain ⟨r, n, rfl⟩ : ∃ (a : Fin 1024) (b : Fin 128), y = ix2 a b := ⟨y 0, y 1, eq_ix2 y⟩
  have hR : t.val * 1024 + r.val < 100352 := by
    have := t.isLt; have : cfg0.grid.N = 98 := by decide +kernel
    omega
  have e : ((View.whole main_v49).slice (win0_3.rect t)).emb (ix2 r n)
      = ix2 (n0 := 100352) (n1 := 128) ⟨t.val * 1024 + r.val, hR⟩ n := by
    blk_ext [idx0 t]
  simp only [e, pay0, mm, ix2_0, ix2_1]
  congr 2
  · refine Finset.sum_congr rfl fun k _ => ?_
    rw [blk0_0 V c t r k ⟨t.val * 1024 + r.val, hR⟩ rfl, blk0_1]
  · rw [blk0_2]

end Cert.Vq

end
-- ==== Proof.Val.Reg1.lean ====
/- Region 1, the second convolution's product: what its output array holds at every index. -/
module

public import proofs.«01_k».proof.Proof.Gen.KernelIdeal.Frame
public import Idealize.ShloMosaic.Lib.Pipeline.ValueKit
public import proofs.«01_k».proof.Proof.Val.Math
public import Idealize.ShloMosaic.PureOps.Ideal

@[expose] public section

set_option maxRecDepth 16384
set_option maxHeartbeats 2000000

noncomputable section

namespace Cert.Vq

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- Region 1's window indices at a point: the row windows move with the point, the weights and the bias stay. -/
theorem idx1 : ∀ t : Fin cfg1.N, win1_0.index t = ![t.val, 0] ∧ win1_1.index t = ![0, 0] ∧ win1_2.index t = ![0, 0]
    ∧ win1_3.index t = ![t.val, 0] := by decide +kernel

/-- The payload of region 1 at an index. -/
theorem pay1 (x : Vec Ideal S512x2048 .f32) (w : Vec Ideal S2048x256 .f32) (b : Vec Ideal S1x256 .f32) (r : Fin 512) (n : Fin 256) :
    k1_pay1 x w b (ix2 r n) = leaky (∑ k, x (ix2 r k) * w (ix2 k n) + b (ix2 0 n)) := by
  pointwise [k1_pay1, leaky]

/-- A block of the row operand at an index. -/
theorem blk1_0 (c : Dev nD) (t : Fin cfg1.N) (r : Fin 512) (k : Fin 2048) (R : Fin 25088) (hR : R.val = t.val * 512 + r.val) :
    iblk1 V c 0 t (ix2 r k) = V c main_v97 (ix2 R k) := by
  blk_ext [iblk1, idx1 t]

/-- A block of the weights at an index. -/
theorem blk1_1 (c : Dev nD) (t : Fin cfg1.N) (k : Fin 2048) (n : Fin 256) :
    iblk1 V c 1 t (ix2 k n) = V c main_v98 (ix2 k n) := by
  blk_ext [iblk1, idx1 t]

/-- A block of the bias at an index. -/
theorem blk1_2 (c : Dev nD) (t : Fin cfg1.N) (n : Fin 256) :
    iblk1 V c 2 t (ix2 0 n) = V c main_v99 (ix2 0 n) := by
  blk_ext [iblk1, idx1 t]

/-- What region 1's output array holds. -/
theorem final1 (c : Dev nD) : (dat1 V c).arrAt 3 cfg1.N = fun i : S25088x256.Idx =>
    leaky (mm (M := 25088) (K := 2048) (N := 256) (V c main_v97) (V c main_v98) (V c main_v99) (i 0) (i 1)) := by
  refine (dat1 V c).arrAt_eq_of_covers 3 _ (by decide +kernel) fun t hf y => ?_
  blk_simp
  rw [after1_3]
  frame_out
  obtain ⟨r, n, rfl⟩ : ∃ (a : Fin 512) (b : Fin 256), y = ix2 a b := ⟨y 0, y 1, eq_ix2 y⟩
  have hR : t.val * 512 + r.val < 25088 := by
    have := t.isLt; have : cfg1.grid.N = 49 := by decide +kernel
    omega
  have e : ((View.whole main_v100).slice (win1_3.rect t)).emb (ix2 r n)
      = ix2 (n0 := 25088) (n1 := 256) ⟨t.val * 512 + r.val, hR⟩ n := by
    blk_ext [idx1 t]
  simp only [e, pay1, mm, ix2_0, ix2_1]
  congr 2
  · refine Finset.sum_congr rfl fun k _ => ?_
    rw [blk1_0 V c t r k ⟨t.val * 512 + r.val, hR⟩ rfl, blk1_1]
  · rw [blk1_2]

end Cert.Vq

end
-- ==== Proof.Val.Reg2.lean ====
/- Region 2, the one-by-one convolution's product: what its output array holds at every index. -/
module

public import proofs.«01_k».proof.Proof.Gen.KernelIdeal.Frame
public import Idealize.ShloMosaic.Lib.Pipeline.ValueKit
public import proofs.«01_k».proof.Proof.Val.Math
public import Idealize.ShloMosaic.PureOps.Ideal

@[expose] public section

set_option maxRecDepth 16384
set_option maxHeartbeats 2000000

noncomputable section

namespace Cert.Vq

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- Region 2's window indices at a point: the row windows move with the point, the weights and the bias stay. -/
theorem idx2 : ∀ t : Fin cfg2.N, win2_0.index t = ![t.val, 0] ∧ win2_1.index t = ![0, 0] ∧ win2_2.index t = ![0, 0]
    ∧ win2_3.index t = ![t.val, 0] := by decide +kernel

/-- The payload of region 2 at an index. -/
theorem pay2 (x : Vec Ideal S3584x256 .f32) (w : Vec Ideal S256x64 .f32) (b : Vec Ideal S1x64 .f32) (r : Fin 3584) (n : Fin 64) :
    k2_pay1 x w b (ix2 r n) = (∑ k, x (ix2 r k) * w (ix2 k n) + b (ix2 0 n)) := by
  pointwise [k2_pay1]

/-- A block of the row operand at an index. -/
theorem blk2_0 (c : Dev nD) (t : Fin cfg2.N) (r : Fin 3584) (k : Fin 256) (R : Fin 25088) (hR : R.val = t.val * 3584 + r.val) :
    iblk2 V c 0 t (ix2 r k) = V c main_v100 (ix2 R k) := by
  blk_ext [iblk2, idx2 t]

/-- A block of the weights at an index. -/
theorem blk2_1 (c : Dev nD) (t : Fin cfg2.N) (k : Fin 256) (n : Fin 64) :
    iblk2 V c 1 t (ix2 k n) = V c main_v101 (ix2 k n) := by
  blk_ext [iblk2, idx2 t]

/-- A block of the bias at an index. -/
theorem blk2_2 (c : Dev nD) (t : Fin cfg2.N) (n : Fin 64) :
    iblk2 V c 2 t (ix2 0 n) = V c main_v102 (ix2 0 n) := by
  blk_ext [iblk2, idx2 t]

/-- What region 2's output array holds. -/
theorem final2 (c : Dev nD) : (dat2 V c).arrAt 3 cfg2.N = fun i : S25088x64.Idx =>
    (mm (M := 25088) (K := 256) (N := 64) (V c main_v100) (V c main_v101) (V c main_v102) (i 0) (i 1)) := by
  refine (dat2 V c).arrAt_eq_of_covers 3 _ (by decide +kernel) fun t hf y => ?_
  blk_simp
  rw [after2_3]
  frame_out
  obtain ⟨r, n, rfl⟩ : ∃ (a : Fin 3584) (b : Fin 64), y = ix2 a b := ⟨y 0, y 1, eq_ix2 y⟩
  have hR : t.val * 3584 + r.val < 25088 := by
    have := t.isLt; have : cfg2.grid.N = 7 := by decide +kernel
    omega
  have e : ((View.whole main_v103).slice (win2_3.rect t)).emb (ix2 r n)
      = ix2 (n0 := 25088) (n1 := 64) ⟨t.val * 3584 + r.val, hR⟩ n := by
    blk_ext [idx2 t]
  simp only [e, pay2, mm, ix2_0, ix2_1]
  congr 1
  · refine Finset.sum_congr rfl fun k _ => ?_
    rw [blk2_0 V c t r k ⟨t.val * 3584 + r.val, hR⟩ rfl, blk2_1]
  · rw [blk2_2]

end Cert.Vq

end
-- ==== Proof.Val.Near.lean ====
/- The nearest code: the first index at which a function of 512 codes is least, as the kernel's minima compute it
   and as the reference's arg-min computes it. -/
module

public import Idealize.ShloMosaic.Lib.Pointwise
public import Idealize.ShloMosaic.PureOps.Ideal
public import Idealize.ShloMosaic.PureOps.Ideal.Laws
public import proofs.«01_k».proof.ReferenceIdeal

@[expose] public section

set_option maxRecDepth 16384

noncomputable section

namespace Cert.Vq

open Idealize.ShloMosaic

/-- `k` is the first code at which `d` is least. -/
def IsNear (d : Fin 512 → EReal) (k : Fin 512) : Prop := ∀ j, d k ≤ d j ∧ (j < k → d k < d j)

/-- There is such a code. -/
theorem exists_near (d : Fin 512 → EReal) : ∃ k, IsNear d k := by
  obtain ⟨m, -, hm⟩ := Finset.exists_min_image Finset.univ d ⟨0, Finset.mem_univ _⟩
  obtain ⟨k, hk, hk'⟩ := Finset.exists_min_image (Finset.univ.filter fun k => d k = d m) id ⟨m, by simp⟩
  simp only [Finset.mem_filter, Finset.mem_univ, true_and, id] at hk hk'
  refine ⟨k, fun j => ⟨hk ▸ hm j (Finset.mem_univ _), fun hj => ?_⟩⟩
  rcases (hm j (Finset.mem_univ _)).lt_or_eq with h | h
  · rwa [hk]
  · exact absurd (hk' j h.symm) (not_le.2 hj)

/-- There is only one. -/
theorem IsNear.unique {d : Fin 512 → EReal} {k k' : Fin 512} (h : IsNear d k) (h' : IsNear d k') : k = k' := by
  rcases lt_trichotomy k k' with hlt | rfl | hlt
  · exact absurd ((h' k).2 hlt) (not_lt.2 (h k').1)
  · rfl
  · exact absurd ((h k').2 hlt) (not_lt.2 (h' k).1)

/-- The nearest code. -/
def near (d : Fin 512 → EReal) : Fin 512 := (exists_near d).choose

/-- The chosen index is a nearest one. -/
theorem near_spec (d : Fin 512 → EReal) : IsNear d (near d) := (exists_near d).choose_spec

/-- The word of the format's positive infinity is the greatest value. -/
theorem ofBits_inf : Ideal.ofBits .f32 2139095040#32 = (⊤ : EReal) := by simp [Ideal.ofBits, Ideal.ieee]

/-- The least of the values, folded from infinity. -/
theorem fold_min_eq (d : Fin 512 → EReal) :
    Finset.fold min (Ideal.ofBits .f32 2139095040#32) d Finset.univ = d (near d) := by
  rw [ofBits_inf]
  refine le_antisymm (Finset.fold_min_le _ |>.2 (.inr ⟨near d, Finset.mem_univ _, le_rfl⟩)) ?_
  exact Finset.le_fold_min _ |>.2 ⟨le_top, fun x _ => (near_spec d x).1⟩

/-- A code's word reads back as the code. -/
theorem toInt_code (k : Fin 512) : (BitVec.ofNat 32 k.val).toInt = k.val := by
  have := k.isLt
  have hk : (BitVec.ofNat 32 k.val).toNat = k.val := by
    rw [BitVec.toNat_ofNat]; exact Nat.mod_eq_of_lt (by omega)
  rw [BitVec.toInt_eq_toNat_of_lt (by omega), hk]

/-- The signed minimum of words, read as integers. -/
theorem toInt_minsi (a b : BitVec 32) : (IntOp.minsi a b).toInt = min a.toInt b.toInt := by
  unfold IntOp.minsi
  rw [BitVec.slt_eq_decide]
  split <;> simp_all <;> omega

/-- The least code among those attaining the minimum, as the kernel folds it, is the nearest. -/
theorem fold_minsi_eq (d : Fin 512 → EReal) :
    Finset.fold IntOp.minsi 2147483647#32 (fun k : Fin 512 =>
      if d k = d (near d) then BitVec.ofNat 32 k.val else 512#32) Finset.univ = BitVec.ofNat 32 (near d).val := by
  apply BitVec.eq_of_toInt_eq
  rw [← Finset.fold_hom (op := IntOp.minsi) (op' := min) (m := BitVec.toInt) (fun x y => toInt_minsi x y), toInt_code]
  refine le_antisymm (Finset.fold_min_le _ |>.2 (.inr ⟨near d, Finset.mem_univ _, ?_⟩)) ?_
  · rw [if_pos rfl, toInt_code]
  · refine Finset.le_fold_min _ |>.2 ⟨?_, fun x _ => ?_⟩
    · have := (near d).isLt
      simp only [BitVec.reduceToInt]; omega
    · split
      · rename_i h
        rw [toInt_code]
        by_contra hx
        have hx' : x < near d := by rw [Fin.lt_def]; omega
        exact absurd h ((near_spec d x).2 hx').ne'
      · have := (near d).isLt
        simp only [BitVec.reduceToInt]; omega

/-- Two codes' words are equal just where the codes are. -/
theorem code_eq_iff (j k : Fin 512) : BitVec.ofNat 32 j.val = BitVec.ofNat 32 k.val ↔ j = k := by
  constructor
  · intro h
    have := congrArg BitVec.toInt h
    rw [toInt_code, toInt_code] at this
    exact Fin.ext (by exact_mod_cast this)
  · rintro rfl; rfl

/-! ## The reference's arg-min -/

/-- One pair comes before another: a smaller value, or an equal one at an index no greater. -/
def Before (p q : EReal × BitVec 32) : Prop := p.1 < q.1 ∨ p.1 = q.1 ∧ p.2.toInt ≤ q.2.toInt

/-- Every pair comes before itself. -/
theorem Before.refl (p : EReal × BitVec 32) : Before p p := .inr ⟨rfl, le_rfl⟩

/-- The order on pairs is transitive. -/
theorem Before.trans {p q r : EReal × BitVec 32} (h : Before p q) (h' : Before q r) : Before p r := by
  rcases h with h | ⟨h, h2⟩ <;> rcases h' with h' | ⟨h', h2'⟩
  · exact .inl (h.trans h')
  · exact .inl (h' ▸ h)
  · exact .inl (h ▸ h')
  · exact .inr ⟨h.trans h', h2.trans h2'⟩

/-- The arg-min's step keeps one of its two pairs, one that comes before both. -/
theorem argmin_step (a b : EReal × BitVec 32) :
    (Cert.ReferenceIdeal.reducer_argmin_f32_i32 (F := Ideal) a b = a ∨ Cert.ReferenceIdeal.reducer_argmin_f32_i32 (F := Ideal) a b = b)
      ∧ Before (Cert.ReferenceIdeal.reducer_argmin_f32_i32 (F := Ideal) a b) a
      ∧ Before (Cert.ReferenceIdeal.reducer_argmin_f32_i32 (F := Ideal) a b) b := by
  obtain ⟨x, i⟩ := a
  obtain ⟨y, j⟩ := b
  rcases lt_trichotomy x y with h | rfl | h
  · have e : Cert.ReferenceIdeal.reducer_argmin_f32_i32 (F := Ideal) (x, i) (y, j) = (x, i) := by
      simp [Cert.ReferenceIdeal.reducer_argmin_f32_i32, Ideal.cmpf_def, Ideal.cmp, IntOp.ori, IntOp.andi, Scalar.select, h, h.ne]
    rw [e]
    exact ⟨.inl rfl, .refl _, .inl h⟩
  · by_cases hij : i.toInt < j.toInt
    · have e : Cert.ReferenceIdeal.reducer_argmin_f32_i32 (F := Ideal) (x, i) (x, j) = (x, i) := by
        simp [Cert.ReferenceIdeal.reducer_argmin_f32_i32, Ideal.cmpf_def, Ideal.cmp, IntOp.ori, IntOp.andi, IntOp.cmpi, Scalar.select, BitVec.slt_eq_decide, hij]
      rw [e]
      exact ⟨.inl rfl, .refl _, .inr ⟨rfl, hij.le⟩⟩
    · have e : Cert.ReferenceIdeal.reducer_argmin_f32_i32 (F := Ideal) (x, i) (x, j) = (x, j) := by
        simp [Cert.ReferenceIdeal.reducer_argmin_f32_i32, Ideal.cmpf_def, Ideal.cmp, IntOp.ori, IntOp.andi, IntOp.cmpi, Scalar.select, BitVec.slt_eq_decide, hij]
      rw [e]
      exact ⟨.inr rfl, .inr ⟨rfl, not_lt.1 hij⟩, .refl _⟩
  · have e : Cert.ReferenceIdeal.reducer_argmin_f32_i32 (F := Ideal) (x, i) (y, j) = (y, j) := by
      simp [Cert.ReferenceIdeal.reducer_argmin_f32_i32, Ideal.cmpf_def, Ideal.cmp, IntOp.ori, IntOp.andi, Scalar.select, h.ne', not_lt.2 h.le]
    rw [e]
    exact ⟨.inr rfl, .inl h, .refl _⟩

/-- The arg-min of a list keeps one of its pairs, one that comes before all. -/
theorem argmin_foldl (L : List (EReal × BitVec 32)) : ∀ a : EReal × BitVec 32,
    (L.foldl (Cert.ReferenceIdeal.reducer_argmin_f32_i32 (F := Ideal)) a = a ∨ L.foldl (Cert.ReferenceIdeal.reducer_argmin_f32_i32 (F := Ideal)) a ∈ L)
      ∧ Before (L.foldl (Cert.ReferenceIdeal.reducer_argmin_f32_i32 (F := Ideal)) a) a
      ∧ ∀ p ∈ L, Before (L.foldl (Cert.ReferenceIdeal.reducer_argmin_f32_i32 (F := Ideal)) a) p := by
  induction L with
  | nil => exact fun a => ⟨.inl rfl, .refl _, fun p hp => absurd hp List.not_mem_nil⟩
  | cons b L ih =>
    intro a
    obtain ⟨hs, ha, hb⟩ := argmin_step a b
    obtain ⟨h1, h2, h3⟩ := ih (Cert.ReferenceIdeal.reducer_argmin_f32_i32 (F := Ideal) a b)
    refine ⟨?_, h2.trans ha, fun p hp => ?_⟩
    · rcases h1 with h1 | h1
      · rcases hs with hs | hs
        · exact .inl (h1.trans hs)
        · exact .inr (List.mem_cons.2 (.inl (h1.trans hs)))
      · exact .inr (List.mem_cons_of_mem _ h1)
    · rcases List.mem_cons.1 hp with rfl | hp
      · exact h2.trans hb
      · exact h3 p hp

/-- The reference's arg-min over the codes is the nearest code. -/
theorem argmin_eq (h : Cert.ReferenceIdeal.S25088x512.ReducesTo [1] Cert.ReferenceIdeal.S25088) (hu : 0 < Cert.ReferenceIdeal.S_.numel)
    (x : Cert.ReferenceIdeal.S25088x512.Idx → EReal) (r : Fin 25088) :
    (Host.argReduce (Cert.ReferenceIdeal.reducer_argmin_f32_i32 (F := Ideal)) x (iotaInDim Cert.ReferenceIdeal.S25088x512 32 1)
        (constant (F := Ideal) Cert.ReferenceIdeal.S_ .f32 0x7F800000#32) (constantI Cert.ReferenceIdeal.S_ 32 0#32)
        h hu (ix1 r)).2
      = BitVec.ofNat 32 (near fun k => x (ix2 r k)).val := by
  rw [Ideal.argReduce_eq_reduce2, Host.reduce2_eq_foldl_fiber]
  set d : Fin 512 → EReal := fun k => x (ix2 r k) with hd
  have hmem : ∀ p, p ∈ Host.argReduceFiber x (iotaInDim Cert.ReferenceIdeal.S25088x512 32 1)
      h (ix1 r) ↔ ∃ k : Fin 512, p = (d k, BitVec.ofNat 32 k.val) := by
    intro p
    simp only [Host.argReduceFiber, List.mem_map, List.mem_filter, List.mem_finRange, true_and, decide_eq_true_eq]
    constructor
    · rintro ⟨n, hn, rfl⟩
      generalize Cert.ReferenceIdeal.S25088x512.rowMajor.symm n = i at hn
      obtain ⟨i0, i1, rfl⟩ : ∃ (a : Fin 25088) (b : Fin 512), i = ix2 a b := ⟨i 0, i 1, eq_ix2 i⟩
      have h0 := congrFun hn 0
      have h1 := h.drop_apply_val_of_eq (ix2 i0 i1) 0 0
      rw [h0] at h1
      obtain rfl : r = i0 := Fin.ext h1
      exact ⟨i1, rfl⟩
    · rintro ⟨k, rfl⟩
      refine ⟨Cert.ReferenceIdeal.S25088x512.rowMajor (ix2 r k), ?_, ?_⟩
      · rw [Equiv.symm_apply_apply]
        funext a
        obtain rfl : a = 0 := Subsingleton.elim _ _
        exact Fin.ext (h.drop_apply_val_of_eq (ix2 r k) 0 0)
      · rw [Equiv.symm_apply_apply]; rfl
  obtain ⟨h1, -, h3⟩ := argmin_foldl (Host.argReduceFiber x (iotaInDim Cert.ReferenceIdeal.S25088x512 32 1)
      h (ix1 r)) (⊤, 0#32)
  have hinit : (constant (F := Ideal) Cert.ReferenceIdeal.S_ .f32 0x7F800000#32 (Shape.Idx.first hu),
      constantI Cert.ReferenceIdeal.S_ 32 0#32 (Shape.Idx.first hu)) = ((⊤ : EReal), 0#32) :=
    Prod.ext ofBits_inf rfl
  rw [hinit]
  generalize List.foldl _ _ _ = R at h1 h3 ⊢
  have hb : ∀ k, Before R (d k, BitVec.ofNat 32 k.val) := fun k => h3 _ ((hmem _).2 ⟨k, rfl⟩)
  rcases h1 with rfl | h1
  · have ht : ∀ k, d k = ⊤ := fun k => by
      rcases hb k with h' | ⟨h', -⟩
      · exact absurd h' not_top_lt
      · exact h'.symm
    have : near d = 0 := (near_spec d).unique fun j => ⟨by rw [ht, ht], fun h' => absurd h' (Fin.not_lt_zero j)⟩
    rw [this]; rfl
  · obtain ⟨k, rfl⟩ := (hmem R).1 h1
    have : near d = k := (near_spec d).unique fun j => by
      rcases hb j with h₁ | ⟨h₁, h'⟩
      · exact ⟨h₁.le, fun _ => h₁⟩
      · refine ⟨h₁.le, fun hj => ?_⟩
        simp only [toInt_code] at h'
        rw [Fin.lt_def] at hj
        omega
    rw [this]

end Cert.Vq

end
-- ==== Proof.Val.Vq.lean ====
/- Region 3, the vector quantization: the payload at an index. -/
module

public import proofs.«01_k».proof.Proof.Gen.KernelIdeal.Frame
public import Idealize.ShloMosaic.Lib.Pipeline.ValueKit
public import proofs.«01_k».proof.Proof.Val.Math
public import proofs.«01_k».proof.Proof.Val.Near
public import Idealize.ShloMosaic.PureOps.Ideal

@[expose] public section

set_option maxRecDepth 16384
set_option maxHeartbeats 1000000

noncomputable section

namespace Cert.Vq

open Cert.KernelIdeal Cert.KernelIdeal.Gen Idealize.ShloMosaic Idealize.ShloMosaic.TcCoe Idealize.SL.Sem
open Idealize.ShloMosaic.Pipeline (Dat)

/-- The squared distances of a row to the codes, as `|x|² + |w|² - 2 x·w`. -/
def dist {M : Nat} (x : (⟨2, ![M, 64]⟩ : Shape).Idx → EReal) (w : (⟨2, ![512, 64]⟩ : Shape).Idx → EReal) (r : Fin M) (k : Fin 512) : EReal :=
  ∑ n : Fin 64, x (ix2 r n) * x (ix2 r n) + ∑ n : Fin 64, w (ix2 k n) * w (ix2 k n)
    - Ideal.ofBits .f32 1073741824#32 * ∑ n : Fin 64, x (ix2 r n) * w (ix2 k n)

/-- A row's nearest code, at a column. -/
def quant {M : Nat} (x : (⟨2, ![M, 64]⟩ : Shape).Idx → EReal) (w : (⟨2, ![512, 64]⟩ : Shape).Idx → EReal) (r : Fin M) (n : Fin 64) : EReal :=
  w (ix2 (near (dist x w r)) n)

/-- A row's squared error. -/
def sqerr {M : Nat} (x : (⟨2, ![M, 64]⟩ : Shape).Idx → EReal) (w : (⟨2, ![512, 64]⟩ : Shape).Idx → EReal) (r : Fin M) : EReal :=
  ∑ n : Fin 64, (quant x w r n - x (ix2 r n)) * (quant x w r n - x (ix2 r n))

/-- A zero-or-one matrix row that marks one code picks that code's entry. -/
theorem sum_onehot (b : Fin 512) (g : Fin 512 → EReal) (u : Fin 512 → EReal) (hu : ∀ k, u k = if k = b then 1 else 0) :
    ∑ k, u k * g k = g b := by
  rw [Finset.sum_eq_single b (fun k _ hk => by rw [hu, if_neg hk, zero_mul]) (fun h => absurd (Finset.mem_univ b) h), hu, if_pos rfl, one_mul]

/-- The block of quantized rows at an index. -/
theorem pay3q (x w : Vec Ideal S512x64 .f32) (r : Fin 512) (n : Fin 64) :
    k3_pay4 x w (ix2 r n) = quant (M := 512) x w r n := by
  pointwise [k3_pay4, k3_pay3]
  change ∑ k : Fin 512, (FloatOps.sitofp (F := Ideal) FTy.f32 (BitVec.setWidth 32 (IntOp.cmpi CmpIPredicate.eq (BitVec.ofNat 32 k.val)
    (Finset.fold IntOp.minsi 2147483647#32 (fun k : Fin 512 => if dist (M := 512) x w r k
      = Finset.fold min (Ideal.ofBits .f32 2139095040#32) (dist (M := 512) x w r) Finset.univ then BitVec.ofNat 32 k.val else 512#32)
        Finset.univ))) : EReal) * w (ix2 k n) = _
  rw [fold_min_eq, fold_minsi_eq]
  refine sum_onehot (near (dist (M := 512) x w r)) (fun k => w (ix2 k n)) _ fun k => ?_
  by_cases h : k = near (dist (M := 512) x w r)
  · rw [if_pos h, h, show IntOp.cmpi CmpIPredicate.eq _ _ = BitVec.ofBool _ from rfl, beq_self_eq_true]
    change (((1 : Int) : ℝ) : EReal) = 1
    norm_num
  · have := mt (code_eq_iff k _).1 h
    rw [if_neg h, show IntOp.cmpi CmpIPredicate.eq _ _ = BitVec.ofBool _ from rfl, beq_false_of_ne this]
    change (((0 : Int) : ℝ) : EReal) = 0
    norm_num

/-- The block's squared error. -/
theorem pay3s (x w : Vec Ideal S512x64 .f32) :
    k3_pay5 x w = ∑ r : Fin 512, sqerr (M := 512) x w r := by
  have e : k3_pay5 x w = ∑ r : Fin 512, ∑ n : Fin 64, (k3_pay4 x w (ix2 r n) - x (ix2 r n)) * (k3_pay4 x w (ix2 r n) - x (ix2 r n)) := by
    pointwise [k3_pay5, k3_pay3]
  rw [e]; simp only [pay3q, sqerr]

/-- The accumulator's first contents. -/
theorem pay3z (l : Fin 128) : k3_pay1 (F := Ideal) (ix2 0 l) = 0 := by
  pointwise [k3_pay1]

/-- The accumulator's step. -/
theorem pay3a (s : EReal) (a : Vec Ideal S1x128 .f32) (l : Fin 128) : k3_pay2 (F := Ideal) s a (ix2 0 l) = a (ix2 0 l) + s := by
  pointwise [k3_pay2]

variable (V : (c : Dev nD) → (b : Ref sig .tc) → Buf (Elt Ideal) ((c : Thread nD τ).loc b))

/-- Region 3's window indices at a point. -/
theorem idx3 : ∀ t : Fin cfg3.N, win3_0.index t = ![t.val, 0] ∧ win3_1.index t = ![0, 0] ∧ win3_2.index t = ![t.val, 0]
    ∧ win3_3.index t = ![0, 0] := by decide +kernel

/-- A block of the rows at an index. -/
theorem blk3_0 (c : Dev nD) (t : Fin cfg3.N) (r : Fin 512) (k : Fin 64) (R : Fin 25088) (hR : R.val = t.val * 512 + r.val) :
    iblk3 V c 0 t (ix2 r k) = V c main_v106 (ix2 R k) := by
  blk_ext [iblk3, idx3 t]

/-- A block of the codes at an index. -/
theorem blk3_1 (c : Dev nD) (t : Fin cfg3.N) (k : Fin 512) (n : Fin 64) :
    iblk3 V c 1 t (ix2 k n) = V c main_arg7 (ix2 k n) := by
  blk_ext [iblk3, idx3 t]

/-- The distances of a block's row are the distances of the array's row. -/
theorem dist_blk (c : Dev nD) (t : Fin cfg3.N) (r : Fin 512) (R : Fin 25088) (hR : R.val = t.val * 512 + r.val) :
    dist (M := 512) (iblk3 V c 0 t) (iblk3 V c 1 t) r = dist (M := 25088) (V c main_v106) (V c main_arg7) R := by
  funext k
  unfold dist
  simp only [blk3_1 V c t]
  simp only [fun n => blk3_0 V c t r n R hR]

/-- The quantized block's row is the quantized array's row. -/
theorem quant_blk (c : Dev nD) (t : Fin cfg3.N) (r : Fin 512) (R : Fin 25088) (hR : R.val = t.val * 512 + r.val) (n : Fin 64) :
    quant (M := 512) (iblk3 V c 0 t) (iblk3 V c 1 t) r n = quant (M := 25088) (V c main_v106) (V c main_arg7) R n := by
  unfold quant
  rw [dist_blk V c t r R hR, blk3_1 V c t]

/-- The block's squared errors are the array's. -/
theorem sqerr_blk (c : Dev nD) (t : Fin cfg3.N) (r : Fin 512) (R : Fin 25088) (hR : R.val = t.val * 512 + r.val) :
    sqerr (M := 512) (iblk3 V c 0 t) (iblk3 V c 1 t) r = sqerr (M := 25088) (V c main_v106) (V c main_arg7) R := by
  unfold sqerr
  refine Finset.sum_congr rfl fun n _ => ?_
  rw [quant_blk V c t r R hR, blk3_0 V c t r n R hR]

/-- What region 3's first output array holds: every row's nearest code. -/
theorem final3q (c : Dev nD) : (dat3 V c).arrAt 2 cfg3.N = fun i : S25088x64.Idx =>
    quant (M := 25088) (V c main_v106) (V c main_arg7) (i 0) (i 1) := by
  refine (dat3 V c).arrAt_eq_of_covers 2 _ (by decide +kernel) fun t hf y => ?_
  blk_simp
  rw [after3_2]
  have hp : (outsAt3 V c t.val t.isLt).1 = k3_pay4 (iblk3 V c 0 t) (iblk3 V c 1 t) := by
    by_cases h0 : t.val % 49 = 0
    · rw [outsAt3_A V c t h0]; frame_out
    · rw [outsAt3_B V c t h0]; frame_out
  rw [hp]
  obtain ⟨r, n, rfl⟩ : ∃ (a : Fin 512) (b : Fin 64), y = ix2 a b := ⟨y 0, y 1, eq_ix2 y⟩
  have hR : t.val * 512 + r.val < 25088 := by
    have := t.isLt; have : cfg3.grid.N = 49 := by decide +kernel
    omega
  have e : ((View.whole main_v107_0).slice (win3_2.rect t)).emb (ix2 r n)
      = ix2 (n0 := 25088) (n1 := 64) ⟨t.val * 512 + r.val, hR⟩ n := by
    blk_ext [idx3 t]
  simp only [e, pay3q, ix2_0, ix2_1]
  exact quant_blk V c t r _ rfl n

/-- What region 3's second output array holds: the whole sum of squared errors, in every lane. -/
theorem final3l (c : Dev nD) (l : Fin 128) : (dat3 V c).arrAt 3 cfg3.N (ix2 (n0 := 1) (n1 := 128) 0 l)
    = ∑ R : Fin 25088, sqerr (M := 25088) (V c main_v106) (V c main_arg7) R := by
  have hN : cfg3.N = 49 := by decide +kernel
  have hacc : ∀ (t : Fin cfg3.N) (ht : t.val + 1 = cfg3.N) (l : Fin 128), (outsAt3 V c t.val t.isLt).2 (ix2 0 l)
      = (fun _ => 0) l + ∑ t : Fin cfg3.N, ∑ r : Fin 512, sqerr (M := 512) (iblk3 V c 0 t) (iblk3 V c 1 t) r := fun t ht l =>
    Pipeline.eq_sum_fin_of_reset_step_apply_last (fun n h (l : Fin 128) => ((outsAt3 V c n h).2 (ix2 0 l) : EReal)) 49 (fun _ => 0)
      (fun t _ => ∑ r : Fin 512, sqerr (M := 512) (iblk3 V c 0 t) (iblk3 V c 1 t) r)
      (fun t h0 l => by
        rw [outsAt3_A V c t h0]
        frame_out
        rw [pay3a, pay3s, pay3z])
      (fun t h0 l => by
        rw [outsAt3_B V c t h0]
        frame_out
        rw [pay3a, pay3s])
      (by rw [hN]) t ht l
  have h : (dat3 V c).arrAt 3 cfg3.N = fun _ : S1x128.Idx => ∑ R : Fin 25088, sqerr (M := 25088) (V c main_v106) (V c main_arg7) R := by
    refine (dat3 V c).arrAt_eq_of_covers 3 _ (by decide +kernel) fun t hf y => ?_
    blk_simp
    rw [after3_3]
    obtain ⟨z, n, rfl⟩ : ∃ (a : Fin 1) (b : Fin 128), y = ix2 a b := ⟨y 0, y 1, eq_ix2 y⟩
    obtain rfl : z = 0 := Fin.eq_zero z
    have ht : ∀ t : Fin cfg3.N, (cfg3.win 3).flush t = true → t.val + 1 = cfg3.N := by decide +kernel
    refine (hacc t (ht t hf) n).trans ?_
    rw [zero_add]
    refine Eq.trans ?_ (Fin.sum_mul_add_fin 49 512 fun R : Fin 25088 => sqerr (M := 25088) (V c main_v106) (V c main_arg7) R)
    refine Fintype.sum_equiv (finCongr hN) _ _ fun p => Finset.sum_congr rfl fun r _ => ?_
    exact sqerr_blk V c p r _ rfl
  rw [h]

end Cert.Vq

end
-- ==== Proof.Val.Reg4.lean ====
/- Region 4, the first transposed convolution's products: what its output array holds at every index. -/
module

public import proofs.«01_k».proof.Proof.Gen.KernelIdeal.Frame
public import Idealize.ShloMosaic.Lib.Pipeline.ValueKit
public import proofs.«01_k».proof.Proof.Val.Math
public import Idealize.ShloMosaic.PureOps.Ideal

@[expose] public section

set_option maxRecDepth 16384
set_option maxHeartbeats 2000000

noncomputable section

namespace Cert.Vq

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- Region 4's window indices at a point: the class and the row block move with the point, the weights with the class. -/
theorem idx4 : ∀ t : Fin cfg4.N, win4_0.index t = ![t.val / 49, t.val % 49, 0] ∧ win4_1.index t = ![t.val / 49, 0, 0]
    ∧ win4_2.index t = ![0, 0] ∧ win4_3.index t = ![t.val / 49, t.val % 49, 0] := by decide +kernel

/-- The payload of region 4 at an index. -/
theorem pay4 (x : Vec Ideal S1x512x256 .f32) (w : Vec Ideal S1x256x256 .f32) (b : Vec Ideal S1x256 .f32) (r : Fin 512) (n : Fin 256) :
    k4_pay1 x w b (ix3 0 r n) = leaky (∑ k, x (ix3 0 r k) * w (ix3 0 k n) + b (ix2 0 n)) := by
  pointwise [k4_pay1, leaky]

/-- A block of the row operand at an index. -/
theorem blk4_0 (c : Dev nD) (t : Fin cfg4.N) (r : Fin 512) (k : Fin 256) (p : Fin 4) (R : Fin 25088) (hp : p.val = t.val / 49)
    (hR : R.val = t.val % 49 * 512 + r.val) : iblk4 V c 0 t (ix3 0 r k) = V c main_v159 (ix3 p R k) := by
  blk_ext [iblk4, idx4 t]

/-- A block of the weights at an index. -/
theorem blk4_1 (c : Dev nD) (t : Fin cfg4.N) (k : Fin 256) (n : Fin 256) (p : Fin 4) (hp : p.val = t.val / 49) :
    iblk4 V c 1 t (ix3 0 k n) = V c main_v172 (ix3 p k n) := by
  blk_ext [iblk4, idx4 t]

/-- A block of the bias at an index. -/
theorem blk4_2 (c : Dev nD) (t : Fin cfg4.N) (n : Fin 256) :
    iblk4 V c 2 t (ix2 0 n) = V c main_v173 (ix2 0 n) := by
  blk_ext [iblk4, idx4 t]

/-- What region 4's output array holds. -/
theorem final4 (c : Dev nD) : (dat4 V c).arrAt 3 cfg4.N = fun i : S4x25088x256.Idx => leaky (mmb (P := 4) (M := 25088) (K := 256) (N := 256) (V c main_v159) (V c main_v172) (V c main_v173) (i 0) (i 1) (i 2)) := by
  refine (dat4 V c).arrAt_eq_of_covers 3 _ (by decide +kernel) fun t hf y => ?_
  blk_simp
  rw [after4_3]
  frame_out
  obtain ⟨q, r, n, rfl⟩ : ∃ (q : Fin 1) (a : Fin 512) (b : Fin 256), y = ix3 q a b := ⟨y 0, y 1, y 2, eq_ix3 y⟩
  obtain rfl : q = 0 := Fin.eq_zero q
  have hN : t.val < 196 := by
    have := t.isLt; have : cfg4.grid.N = 196 := by decide +kernel
    omega
  have hp : t.val / 49 < 4 := by omega
  have hR : t.val % 49 * 512 + r.val < 25088 := by omega
  have e : ((View.whole main_v174).slice (win4_3.rect t)).emb (ix3 0 r n)
      = ix3 (n0 := 4) (n1 := 25088) (n2 := 256) ⟨t.val / 49, hp⟩ ⟨t.val % 49 * 512 + r.val, hR⟩ n := by
    blk_ext [idx4 t]
  simp only [e, pay4, mmb, ix3_0, ix3_1, ix3_2]
  congr 2
  · refine Finset.sum_congr rfl fun k _ => ?_
    rw [blk4_0 V c t r k ⟨t.val / 49, hp⟩ ⟨t.val % 49 * 512 + r.val, hR⟩ rfl rfl, blk4_1 V c t k n ⟨t.val / 49, hp⟩ rfl]
  · rw [blk4_2]

end Cert.Vq

end
-- ==== Proof.Val.Reg5.lean ====
/- Region 5, the second transposed convolution's products: what its output array holds at every index. -/
module

public import proofs.«01_k».proof.Proof.Gen.KernelIdeal.Frame
public import Idealize.ShloMosaic.Lib.Pipeline.ValueKit
public import proofs.«01_k».proof.Proof.Val.Math
public import Idealize.ShloMosaic.PureOps.Ideal

@[expose] public section

set_option maxRecDepth 16384
set_option maxHeartbeats 2000000

noncomputable section

namespace Cert.Vq

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- Region 5's window indices at a point: the class and the row block move with the point, the weights with the class. -/
theorem idx5 : ∀ t : Fin cfg5.N, win5_0.index t = ![t.val / 196, t.val % 196, 0] ∧ win5_1.index t = ![t.val / 196, 0, 0]
    ∧ win5_2.index t = ![0, 0] ∧ win5_3.index t = ![t.val / 196, t.val % 196, 0] := by decide +kernel

/-- The payload of region 5 at an index. -/
theorem pay5 (x : Vec Ideal S1x512x1024 .f32) (w : Vec Ideal S1x1024x128 .f32) (b : Vec Ideal S1x128 .f32) (r : Fin 512) (n : Fin 128) :
    k5_pay1 x w b (ix3 0 r n) = Ideal.tanh (∑ k, x (ix3 0 r k) * w (ix3 0 k n) + b (ix2 0 n)) := by
  pointwise [k5_pay1]

/-- A block of the row operand at an index. -/
theorem blk5_0 (c : Dev nD) (t : Fin cfg5.N) (r : Fin 512) (k : Fin 1024) (p : Fin 4) (R : Fin 100352) (hp : p.val = t.val / 196)
    (hR : R.val = t.val % 196 * 512 + r.val) : iblk5 V c 0 t (ix3 0 r k) = V c main_v223 (ix3 p R k) := by
  blk_ext [iblk5, idx5 t]

/-- A block of the weights at an index. -/
theorem blk5_1 (c : Dev nD) (t : Fin cfg5.N) (k : Fin 1024) (n : Fin 128) (p : Fin 4) (hp : p.val = t.val / 196) :
    iblk5 V c 1 t (ix3 0 k n) = V c main_v237 (ix3 p k n) := by
  blk_ext [iblk5, idx5 t]

/-- A block of the bias at an index. -/
theorem blk5_2 (c : Dev nD) (t : Fin cfg5.N) (n : Fin 128) :
    iblk5 V c 2 t (ix2 0 n) = V c main_v239 (ix2 0 n) := by
  blk_ext [iblk5, idx5 t]

/-- What region 5's output array holds. -/
theorem final5 (c : Dev nD) : (dat5 V c).arrAt 3 cfg5.N = fun i : S4x100352x128.Idx => Ideal.tanh (mmb (P := 4) (M := 100352) (K := 1024) (N := 128) (V c main_v223) (V c main_v237) (V c main_v239) (i 0) (i 1) (i 2)) := by
  refine (dat5 V c).arrAt_eq_of_covers 3 _ (by decide +kernel) fun t hf y => ?_
  blk_simp
  rw [after5_3]
  frame_out
  obtain ⟨q, r, n, rfl⟩ : ∃ (q : Fin 1) (a : Fin 512) (b : Fin 128), y = ix3 q a b := ⟨y 0, y 1, y 2, eq_ix3 y⟩
  obtain rfl : q = 0 := Fin.eq_zero q
  have hN : t.val < 784 := by
    have := t.isLt; have : cfg5.grid.N = 784 := by decide +kernel
    omega
  have hp : t.val / 196 < 4 := by omega
  have hR : t.val % 196 * 512 + r.val < 100352 := by omega
  have e : ((View.whole main_v240).slice (win5_3.rect t)).emb (ix3 0 r n)
      = ix3 (n0 := 4) (n1 := 100352) (n2 := 128) ⟨t.val / 196, hp⟩ ⟨t.val % 196 * 512 + r.val, hR⟩ n := by
    blk_ext [idx5 t]
  simp only [e, pay5, mmb, ix3_0, ix3_1, ix3_2]
  congr 2
  · refine Finset.sum_congr rfl fun k _ => ?_
    rw [blk5_0 V c t r k ⟨t.val / 196, hp⟩ ⟨t.val % 196 * 512 + r.val, hR⟩ rfl rfl, blk5_1 V c t k n ⟨t.val / 196, hp⟩ rfl]
  · rw [blk5_2]

end Cert.Vq

end
-- ==== Proof.Val.KVal.lean ====
/- The kernel's arrays from region to region, as the network's layers of its arguments. -/
module

public import proofs.«01_k».proof.Proof.Val.Spec
public import proofs.«01_k».proof.Proof.Val.Small
public import proofs.«01_k».proof.Proof.Val.Patch0
public import proofs.«01_k».proof.Proof.Val.Patch1
public import proofs.«01_k».proof.Proof.Val.Patch4
public import proofs.«01_k».proof.Proof.Val.Patch5
public import proofs.«01_k».proof.Proof.Val.Reg0
public import proofs.«01_k».proof.Proof.Val.Reg1
public import proofs.«01_k».proof.Proof.Val.Reg2
public import proofs.«01_k».proof.Proof.Val.Vq
public import proofs.«01_k».proof.Proof.Val.Reg4
public import proofs.«01_k».proof.Proof.Val.Reg5

@[expose] public section

set_option maxRecDepth 16384
set_option maxHeartbeats 2000000

noncomputable section

namespace Cert.Vq

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- An argument's contents at launch. -/
abbrev ar (r : Ref sig .tc) : Buf (Elt Ideal) ((c : Thread nD τ).loc r) := m ((c : Thread nD τ).loc r)

/-- The first activation. -/
def kH1 : S8x112x112x128.Idx → EReal := fun i =>
  leaky (conv (H := 224) (ar m c main_arg0) (ar m c main_arg1) (ar m c main_arg2) (i 0) (i 1).val (i 2).val (i 3))
/-- The second activation. -/
def kH2 : (⟨4, ![8, 56, 56, 256]⟩ : Shape).Idx → EReal := fun i =>
  leaky (conv (H := 112) (kH1 m c) (ar m c main_arg3) (ar m c main_arg4) (i 0) (i 1).val (i 2).val (i 3))

/-- Region 0 leaves the first activation. -/
theorem k_v49 (b : Fin 8) (y x : Fin 112) (n : Fin 128) (R : Fin 100352) (hR : R.val = (b.val * 112 + y.val) * 112 + x.val) :
    W4 m ρ c (Proc.devRef .tc main_v49) (ix2 R n) = kH1 m c (ix4 b y x n) := by
  have e := congrFun ((W4_arr m ρ c 3).trans (final0 (V3 m ρ) c)) (ix2 R n)
  refine e.trans ?_
  refine congrArg leaky ?_
  refine mm_conv _ _ _ _ _ _ b y.val x.val n R rfl (fun q r k j hj => ?_) (fun q r k j hj => ?_) ?_
  · exact (patch0 (W2 m ρ c) b y x ⟨q.val * 4 + r.val, by omega⟩ k R j ⟨2 * y.val + q.val, by omega⟩ ⟨2 * x.val + r.val, by omega⟩ hR hj
      (by simp only []; omega) (by simp only []; omega)).trans (pad0 (W0 m ρ c) b _ _ k)
  · exact (wmat0 (W2 m ρ c) ⟨q.val * 4 + r.val, by omega⟩ k n j q r hj (by simp only []; omega) (by simp only []; omega)).trans
      (congrFun (W2_args m ρ c main_arg1 (by decide)) _)
  · exact (brow0 (W2 m ρ c) n).trans (congrFun (W2_args m ρ c main_arg2 (by decide)) _)

/-- The first activation as an image. -/
theorem k_v50 : W5 m ρ c (Proc.devRef .tc main_v50) = kH1 m c := by
  funext i
  obtain ⟨b, y, x, n, rfl⟩ : ∃ (b : Fin 8) (y x : Fin 112) (n : Fin 128), i = ix4 b y x n := ⟨i 0, i 1, i 2, i 3, eq_ix4 i⟩
  have hR : (⟨(b.val * 112 + y.val) * 112 + x.val, by omega⟩ : Fin 100352).val = (b.val * 112 + y.val) * 112 + x.val := rfl
  exact (resh1 (W4 m ρ c) b y x n _ hR).trans (k_v49 m ρ c b y x n _ hR)

/-- Region 1 leaves the second activation. -/
theorem k_v100 (b : Fin 8) (y x : Fin 56) (n : Fin 256) (R : Fin 25088) (hR : R.val = (b.val * 56 + y.val) * 56 + x.val) :
    W8 m ρ c (Proc.devRef .tc main_v100) (ix2 R n) = kH2 m c (ix4 b y x n) := by
  refine (congrFun ((W8_arr m ρ c 3).trans (final1 (V7 m ρ) c)) (ix2 R n)).trans ?_
  refine congrArg leaky ?_
  refine mm_conv _ _ _ _ _ _ b y.val x.val n R rfl (fun q r k j hj => ?_) (fun q r k j hj => ?_) ?_
  · exact ((patch1 (W6 m ρ c) b y x ⟨q.val * 4 + r.val, by omega⟩ k R j ⟨2 * y.val + q.val, by omega⟩ ⟨2 * x.val + r.val, by omega⟩ hR hj
      (by simp only []; omega) (by simp only []; omega)).trans (pad1 (W4 m ρ c) b _ _ k)).trans
      (by rw [show after hostOps1 (W4 m ρ c) (Proc.devRef .tc main_v50) = kH1 m c from k_v50 m ρ c])
  · exact (wmat1 (W6 m ρ c) ⟨q.val * 4 + r.val, by omega⟩ k n j q r hj (by simp only []; omega) (by simp only []; omega)).trans
      (congrFun (W6_args m ρ c main_arg3 (by decide)) _)
  · exact (brow1 (W6 m ρ c) n).trans (congrFun (W6_args m ρ c main_arg4 (by decide)) _)

/-- The latent. -/
def kL : S8x56x56x64.Idx → EReal := fun i =>
  ∑ k : Fin 256, kH2 m c (ix4 (i 0) (i 1) (i 2) k) * (ar m c main_arg5 : S1x1x256x64.Idx → EReal) (ix4 0 0 k (i 3))
    + (ar m c main_arg6 : S64.Idx → EReal) (ix1 (i 3))

/-- Region 2 leaves the latent. -/
theorem k_v103 (b : Fin 8) (y x : Fin 56) (n : Fin 64) (R : Fin 25088) (hR : R.val = (b.val * 56 + y.val) * 56 + x.val) :
    W10 m ρ c (Proc.devRef .tc main_v103) (ix2 R n) = kL m c (ix4 b y x n) := by
  refine (congrFun ((W10_arr m ρ c 3).trans (final2 (V9 m ρ) c)) (ix2 R n)).trans ?_
  unfold kL mm
  refine congrArg₂ (· + ·) (Finset.sum_congr rfl fun k _ => congrArg₂ (· * ·) ?_ ?_) ?_
  · exact (congrFun (W9_of m ρ c main_v100 (by decide)) _).trans (k_v100 m ρ c b y x k R hR)
  · exact (wmat2 (W8 m ρ c) k n).trans (congrFun (W8_args m ρ c main_arg5 (by decide)) _)
  · exact (brow2 (W8 m ρ c) n).trans (congrFun (W8_args m ρ c main_arg6 (by decide)) _)

/-- A matrix read as an image of rows. -/
theorem image2 (X : S25088x64.Idx → EReal) (b : Fin 8) (y x : Fin 56) (n : Fin 64) (R : Fin 25088)
    (hR : R.val = (b.val * 56 + y.val) * 56 + x.val) :
    shapeCast S8x56x56x64 X shapeCasts_S25088x64_S8x56x56x64 (ix4 b y x n) = X (ix2 R n) := by
  pointwise
  blk_ext []

/-- The latent's rows, as the quantizer takes them. -/
def kZ : S25088x64.Idx → EReal := shapeCast S25088x64 (transpose S8x56x64x56 [0, 2, 3, 1] (kL m c)
    transposes_S8x56x56x64_S8x56x64x56_0_2_3_1) shapeCasts_S8x56x64x56_S25088x64

/-- Region 3 reads the latent's rows. -/
theorem k_v106 : W11 m ρ c (Proc.devRef .tc main_v106) = kZ m c := by
  refine (st3 (W10 m ρ c)).trans ?_
  unfold kZ
  congr 2
  funext i
  obtain ⟨b, y, x, n, rfl⟩ : ∃ (b : Fin 8) (y x : Fin 56) (n : Fin 64), i = ix4 b y x n := ⟨i 0, i 1, i 2, i 3, eq_ix4 i⟩
  have hR : (⟨(b.val * 56 + y.val) * 56 + x.val, by omega⟩ : Fin 25088).val = (b.val * 56 + y.val) * 56 + x.val := rfl
  exact (image2 _ b y x n _ hR).trans (k_v103 m ρ c b y x n _ hR)

/-- Region 3 leaves the nearest codes. -/
theorem k_v107 : W12 m ρ c (Proc.devRef .tc main_v107_0) = fun i : S25088x64.Idx =>
    quant (M := 25088) (kZ m c) (ar m c main_arg7) (i 0) (i 1) := by
  refine ((W12_arr m ρ c 2).trans (final3q (V11 m ρ) c)).trans ?_
  rw [show V11 m ρ c main_v106 = kZ m c from k_v106 m ρ c, show V11 m ρ c main_arg7 = ar m c main_arg7 from W11_args m ρ c main_arg7 (by decide)]

/-- Region 3 leaves the sum of the squared errors. -/
theorem k_v107l : W12 m ρ c (Proc.devRef .tc main_v107_1) (ix2 (n0 := 1) (n1 := 128) 0 0) =
    ∑ R : Fin 25088, sqerr (M := 25088) (kZ m c) (ar m c main_arg7) R := by
  refine ((congrFun (W12_arr m ρ c 3) _).trans (final3l (V11 m ρ) c 0)).trans ?_
  rw [show V11 m ρ c main_v106 = kZ m c from k_v106 m ρ c, show V11 m ρ c main_arg7 = ar m c main_arg7 from W11_args m ρ c main_arg7 (by decide)]

/-- The kernel's loss. -/
theorem k_loss : W25 m ρ c (Proc.devRef .tc main_v111) = fun _ => Ideal.div (Ideal.ofBits .f32 1067450368#32 *
    ∑ R : Fin 25088, sqerr (M := 25088) (kZ m c) (ar m c main_arg7) R) (Ideal.ofBits .f32 1237581824#32) := by
  rw [W25_of m ρ c main_v111 (by decide), W24_of m ρ c main_v111 (by decide), W23_of m ρ c main_v111 (by decide), W22_of m ρ c main_v111 (by decide),
    W21_of m ρ c main_v111 (by decide), W20_of m ρ c main_v111 (by decide), W19_of m ρ c main_v111 (by decide), W18_of m ρ c main_v111 (by decide),
    W17_of m ρ c main_v111 (by decide), W16_of m ρ c main_v111 (by decide), W15_of m ρ c main_v111 (by decide), W14_of m ρ c main_v111 (by decide)]
  refine (loss4 (W12 m ρ c)).trans ?_
  rw [← k_v107l m ρ c]

/-- The quantized latent as an image. -/
def kQ : S8x56x56x64.Idx → EReal := transpose S8x56x56x64 [0, 3, 1, 2] (shapeCast S8x56x64x56
    (fun i : S25088x64.Idx => quant (M := 25088) (kZ m c) (ar m c main_arg7) (i 0) (i 1)) shapeCasts_S25088x64_S8x56x64x56)
    transposes_S8x56x64x56_S8x56x56x64_0_3_1_2

/-- The array that enters the decoder is the quantised image in the decoder's layout. -/
theorem k_v113 : W13 m ρ c (Proc.devRef .tc main_v113) = kQ m c := by
  refine (q4 (W12 m ρ c)).trans ?_
  unfold kQ
  congr 2
  exact k_v107 m ρ c

/-- The decoder's first activation. -/
def kD : S8x112x112x256.Idx → EReal := fun i =>
  leaky (tconv (H := 56) (kQ m c) (ar m c main_arg8) (ar m c main_arg9) (i 0) (i 1).val (i 2).val (i 3))

/-- Region 4 leaves the decoder's first activation, by parity classes. -/
theorem k_v174 (b : Fin 8) (Y X : Fin 112) (n : Fin 256) (p : Fin 4) (R : Fin 25088) (hp : p.val = Y.val % 2 * 2 + X.val % 2)
    (hR : R.val = (b.val * 56 + Y.val / 2) * 56 + X.val / 2) :
    W16 m ρ c (Proc.devRef .tc main_v174) (ix3 p R n) = kD m c (ix4 b Y X n) := by
  refine (congrFun ((W16_arr m ρ c 3).trans (final4 (V15 m ρ) c)) (ix3 p R n)).trans ?_
  refine congrArg leaky ?_
  refine mmb_tconv _ _ _ _ _ _ b Y.val X.val n n p R rfl (fun q r k j hj => ?_) (fun q r k j hj => ?_) ?_
  · exact ((patch4 (W14 m ρ c) p b ⟨Y.val / 2, by omega⟩ ⟨X.val / 2, by omega⟩ ⟨q.val * 2 + r.val, by omega⟩ k R j
      ⟨Y.val / 2 + Y.val % 2 + q.val, by omega⟩ ⟨X.val / 2 + X.val % 2 + r.val, by omega⟩ hR hj
      (by simp only []; omega) (by simp only []; omega)).trans (pad4 (W12 m ρ c) b _ _ k)).trans
      (by rw [show after hostOps4 (W12 m ρ c) (Proc.devRef .tc main_v113) = kQ m c from k_v113 m ρ c])
  · exact (wmat4 (W14 m ρ c) p ⟨q.val * 2 + r.val, by omega⟩ k n j (tap Y.val q) (tap X.val r) hj
      (by simp only [tap]; omega) (by simp only [tap]; omega)).trans (congrFun (W14_args m ρ c main_arg8 (by decide)) _)
  · exact (brow4 (W14 m ρ c) n).trans (congrFun (W14_args m ρ c main_arg9 (by decide)) _)

/-- The decoder's first activation as an image. -/
theorem k_v177 : W17 m ρ c (Proc.devRef .tc main_v177) = kD m c := by
  funext i
  obtain ⟨b, Y, X, n, rfl⟩ : ∃ (b : Fin 8) (y x : Fin 112) (n : Fin 256), i = ix4 b y x n := ⟨i 0, i 1, i 2, i 3, eq_ix4 i⟩
  have hp : (⟨Y.val % 2 * 2 + X.val % 2, by omega⟩ : Fin 4).val = Y.val % 2 * 2 + X.val % 2 := rfl
  have hR : (⟨(b.val * 56 + Y.val / 2) * 56 + X.val / 2, by omega⟩ : Fin 25088).val = (b.val * 56 + Y.val / 2) * 56 + X.val / 2 := rfl
  exact (up5 (W16 m ρ c) b Y X n _ _ hp hR).trans (k_v174 m ρ c b Y X n _ _ hp hR)

/-- Region 5 leaves the reconstruction, by parity classes, in its first three columns. -/
theorem k_v240 (b : Fin 8) (Y X : Fin 224) (n : Fin 3) (p : Fin 4) (R : Fin 100352) (hp : p.val = Y.val % 2 * 2 + X.val % 2)
    (hR : R.val = (b.val * 112 + Y.val / 2) * 112 + X.val / 2) :
    W24 m ρ c (Proc.devRef .tc main_v240) (ix3 p R ⟨n.val, by omega⟩) =
      Ideal.tanh (tconv (H := 112) (kD m c) (ar m c main_arg10) (ar m c main_arg11) b Y.val X.val n) := by
  refine (congrFun ((W24_arr m ρ c 3).trans (final5 (V23 m ρ) c)) (ix3 p R ⟨n.val, by omega⟩)).trans ?_
  refine congrArg Ideal.tanh ?_
  refine mmb_tconv _ _ _ _ _ _ b Y.val X.val n _ p R rfl (fun q r k j hj => ?_) (fun q r k j hj => ?_) ?_
  · refine (congrFun ((W23_of m ρ c main_v223 (by decide)).trans ((W22_of m ρ c main_v223 (by decide)).trans
      ((W21_of m ρ c main_v223 (by decide)).trans (W20_of m ρ c main_v223 (by decide))))) _).trans ?_
    exact ((patch5 (W18 m ρ c) p b ⟨Y.val / 2, by omega⟩ ⟨X.val / 2, by omega⟩ ⟨q.val * 2 + r.val, by omega⟩ k R j
      ⟨Y.val / 2 + Y.val % 2 + q.val, by omega⟩ ⟨X.val / 2 + X.val % 2 + r.val, by omega⟩ hR hj
      (by simp only []; omega) (by simp only []; omega)).trans (pad5 (W16 m ρ c) b _ _ k)).trans
      (by rw [show after hostOps5 (W16 m ρ c) (Proc.devRef .tc main_v177) = kD m c from k_v177 m ρ c])
  · refine (congrFun ((W23_of m ρ c main_v237 (by decide)).trans ((W22_of m ρ c main_v237 (by decide)).trans
      (W21_of m ρ c main_v237 (by decide)))) _).trans ?_
    exact ((wpad5 (W19 m ρ c) p j n).trans (wmat5 (W18 m ρ c) p ⟨q.val * 2 + r.val, by omega⟩ k n j (tap Y.val q) (tap X.val r) hj
      (by simp only [tap]; omega) (by simp only [tap]; omega))).trans (congrFun (W18_args m ρ c main_arg10 (by decide)) _)
  · exact (bpad5 (W21 m ρ c) n).trans (congrFun (W21_args m ρ c main_arg11 (by decide)) _)

/-- The kernel's reconstruction. -/
theorem k_out : W25 m ρ c (Proc.devRef .tc main_v244) = fun i : S8x224x224x3.Idx =>
    Ideal.tanh (tconv (H := 112) (kD m c) (ar m c main_arg10) (ar m c main_arg11) (i 0) (i 1).val (i 2).val (i 3)) := by
  funext i
  obtain ⟨b, Y, X, n, rfl⟩ : ∃ (b : Fin 8) (y x : Fin 224) (n : Fin 3), i = ix4 b y x n := ⟨i 0, i 1, i 2, i 3, eq_ix4 i⟩
  have hp : (⟨Y.val % 2 * 2 + X.val % 2, by omega⟩ : Fin 4).val = Y.val % 2 * 2 + X.val % 2 := rfl
  have hR : (⟨(b.val * 112 + Y.val / 2) * 112 + X.val / 2, by omega⟩ : Fin 100352).val = (b.val * 112 + Y.val / 2) * 112 + X.val / 2 := rfl
  exact (up6 (W24 m ρ c) b Y X n _ _ hp hR).trans (k_v240 m ρ c b Y X n _ _ hp hR)

end Cert.Vq

end
-- ==== Proof.Ref.Enc.lean ====
/- The reference's encoder, as the layers the kernel computes. -/
module

public import proofs.«01_k».proof.Proof.Ref.Win0
public import proofs.«01_k».proof.Proof.Ref.Act
public import proofs.«01_k».proof.Proof.Val.KVal

@[expose] public section

set_option maxRecDepth 16384
set_option maxHeartbeats 4000000

noncomputable section

namespace Cert.Vq.Ref

open Cert.ReferenceIdeal Cert.ReferenceIdeal.Gen Idealize.ShloMosaic Idealize.ShloMosaic.TcCoe Idealize.SL.Sem Idealize.ShloMosaic.StableHlo

/-- A buffer no operation writes keeps its contents up to each of the steps that read an argument. -/
theorem keep_args (V : Valuation τ sig (Elt Ideal)) (r : Ref sig .tc) (h : r ∉ allW) : w3 V (rd r) = V (rd r) ∧ w8 V (rd r) = V (rd r) ∧ w9 V (rd r) = V (rd r) ∧ w10 V (rd r) = V (rd r) ∧ w13 V (rd r) = V (rd r) ∧ w20 V (rd r) = V (rd r) ∧ w25 V (rd r) = V (rd r) := by
  simp only [allW, List.mem_append, not_or] at h
  obtain ⟨⟨⟨⟨⟨⟨⟨⟨⟨⟨⟨⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩, h16⟩, h17⟩, h18⟩, h19⟩, h20⟩, h21⟩, h22⟩, h23⟩, h24⟩, h25⟩, h26⟩ := h
  have e3 : w3 V (rd r) = V (rd r) := (w3_keep V r h3).trans <| (w2_keep V r h2).trans <| (w1_keep V r h1).trans <| w0_keep V r h0
  have e8 : w8 V (rd r) = V (rd r) := (w8_keep V r h8).trans <| (w7_keep V r h7).trans <| (w6_keep V r h6).trans <| (w5_keep V r h5).trans <| (w4_keep V r h4).trans <| e3
  have e9 : w9 V (rd r) = V (rd r) := (w9_keep V r h9).trans <| e8
  have e10 : w10 V (rd r) = V (rd r) := (w10_keep V r h10).trans <| e9
  have e13 : w13 V (rd r) = V (rd r) := (w13_keep V r h13).trans <| (w12_keep V r h12).trans <| (w11_keep V r h11).trans <| e10
  have e20 : w20 V (rd r) = V (rd r) := (w20_keep V r h20).trans <| (w19_keep V r h19).trans <| (w18_keep V r h18).trans <| (w17_keep V r h17).trans <| (w16_keep V r h16).trans <| (w15_keep V r h15).trans <| (w14_keep V r h14).trans <| e13
  have e25 : w25 V (rd r) = V (rd r) := (w25_keep V r h25).trans <| (w24_keep V r h24).trans <| (w23_keep V r h23).trans <| (w22_keep V r h22).trans <| (w21_keep V r h21).trans <| e20
  exact ⟨e3, e8, e9, e10, e13, e20, e25⟩

variable (V : Valuation τ sig (Elt Ideal))
variable (m : (ℓ : Loc Cert.KernelIdeal.nD Cert.KernelIdeal.τ Cert.KernelIdeal.sig) → Buf (Elt Ideal) ℓ) (c : Dev Cert.KernelIdeal.nD)

/-- The reference starts on the arguments the kernel starts on. -/
structure Agree : Prop where
  a0 : (V (rd main_arg0) : S8x224x224x3.Idx → EReal) = ar m c Cert.KernelIdeal.main_arg0
  a1 : (V (rd main_arg1) : S4x4x3x128.Idx → EReal) = ar m c Cert.KernelIdeal.main_arg1
  a2 : (V (rd main_arg2) : S128.Idx → EReal) = ar m c Cert.KernelIdeal.main_arg2
  a3 : (V (rd main_arg3) : S4x4x128x256.Idx → EReal) = ar m c Cert.KernelIdeal.main_arg3
  a4 : (V (rd main_arg4) : S256.Idx → EReal) = ar m c Cert.KernelIdeal.main_arg4
  a5 : (V (rd main_arg5) : S1x1x256x64.Idx → EReal) = ar m c Cert.KernelIdeal.main_arg5
  a6 : (V (rd main_arg6) : S64.Idx → EReal) = ar m c Cert.KernelIdeal.main_arg6
  a7 : (V (rd main_arg7) : S512x64.Idx → EReal) = ar m c Cert.KernelIdeal.main_arg7
  a8 : (V (rd main_arg8) : S4x4x64x256.Idx → EReal) = ar m c Cert.KernelIdeal.main_arg8
  a9 : (V (rd main_arg9) : S256.Idx → EReal) = ar m c Cert.KernelIdeal.main_arg9
  a10 : (V (rd main_arg10) : S4x4x256x3.Idx → EReal) = ar m c Cert.KernelIdeal.main_arg10
  a11 : (V (rd main_arg11) : S3.Idx → EReal) = ar m c Cert.KernelIdeal.main_arg11

variable {V m c} (g : Agree V m c)

include g

/-- The layer that leaves `main_v17`. -/
theorem r_v17 : (w4 V (Proc.devRef .tc main_v17) : S8x112x112x128.Idx → EReal) = kH1 m c := by
  have hw : (w3 V (rd main_arg1) : S4x4x3x128.Idx → EReal) = ar m c Cert.KernelIdeal.main_arg1 :=
    ((keep_args V main_arg1 (by decide)).1).trans g.a1
  have hb : (w3 V (rd main_arg2) : S128.Idx → EReal) = ar m c Cert.KernelIdeal.main_arg2 :=
    ((keep_args V main_arg2 (by decide)).1).trans g.a2
  show after c4 (w3 V) (Proc.devRef .tc main_v17) = _
  rw [c4_main_v17, hw, hb]
  refine act1 _ _ _ _ fun b q r Y X k => (win0 (V) b q r Y X k).trans ?_
  rw [g.a0]

/-- The layer that leaves `main_v35`. -/
theorem r_v35 : (w9 V (Proc.devRef .tc main_v35) : S8x56x56x256.Idx → EReal) = kH2 m c := by
  have hw : (w8 V (rd main_arg3) : S4x4x128x256.Idx → EReal) = ar m c Cert.KernelIdeal.main_arg3 :=
    ((keep_args V main_arg3 (by decide)).2.1).trans g.a3
  have hb : (w8 V (rd main_arg4) : S256.Idx → EReal) = ar m c Cert.KernelIdeal.main_arg4 :=
    ((keep_args V main_arg4 (by decide)).2.1).trans g.a4
  show after c9 (w8 V) (Proc.devRef .tc main_v35) = _
  rw [c9_main_v35, hw, hb]
  refine act2 _ _ _ _ fun b q r Y X k => (win5 (w4 V) b q r Y X k).trans ?_
  rw [show w4 V (rd main_v17) = _ from r_v17 g]

omit g in
/-- The latent before its transpose. -/
theorem r_lat (x : S8x56x56x256.Idx → EReal) (w : S1x1x256x64.Idx → EReal) (v : S64.Idx → EReal) (i : S8x56x56x64.Idx) :
    addf (F := Ideal) (φ := .f32) (Host.dotGeneral (F := Ideal) (φ₁ := .f32) (φ₂ := .f32) dot_S8x56x56x256_S256x64_S8x56x56x64_3_0_012_1_n_n none x (shapeCast _ w shapeCasts_S1x1x256x64_S256x64))
      (broadcastInDim S8x56x56x64 ![3] bcast_S64_S8x56x56x64_3 v) i =
      ∑ k : Fin 256, x (ix4 (i 0) (i 1) (i 2) k) * w (ix4 0 0 k (i 3)) + v (ix1 (i 3)) := by
  pointwise

/-- The latent, with its channels before its columns. -/
theorem r_v40 : (w10 V (Proc.devRef .tc main_v40) : S8x56x64x56.Idx → EReal) =
    transpose S8x56x64x56 [0, 2, 3, 1] (kL m c) transposes_S8x56x56x64_S8x56x64x56_0_2_3_1 := by
  have hw : (w9 V (rd main_arg5) : S1x1x256x64.Idx → EReal) = ar m c Cert.KernelIdeal.main_arg5 :=
    ((keep_args V main_arg5 (by decide)).2.2.1).trans g.a5
  have hb : (w9 V (rd main_arg6) : S64.Idx → EReal) = ar m c Cert.KernelIdeal.main_arg6 :=
    ((keep_args V main_arg6 (by decide)).2.2.1).trans g.a6
  show after c10 (w9 V) (Proc.devRef .tc main_v40) = _
  rw [c10_main_v40, hw, hb, show w9 V (rd main_v35) = _ from r_v35 g]
  refine congrArg (fun t => transpose S8x56x64x56 [0, 2, 3, 1] t transposes_S8x56x56x64_S8x56x64x56_0_2_3_1) ?_
  funext i
  exact r_lat _ _ _ i

/-- The latent's rows. -/
theorem r_v41 : (w10 V (Proc.devRef .tc main_v41) : S25088x64.Idx → EReal) = kZ m c := by
  have e : w10 V (Proc.devRef .tc main_v41) = shapeCast S25088x64 (w10 V (Proc.devRef .tc main_v40) : S8x56x64x56.Idx → EReal) shapeCasts_S8x56x64x56_S25088x64 := by
    show after c10 (w9 V) (Proc.devRef .tc main_v41) = shapeCast S25088x64 (after c10 (w9 V) (Proc.devRef .tc main_v40) : S8x56x64x56.Idx → EReal) shapeCasts_S8x56x64x56_S25088x64
    rw [c10_main_v41, c10_main_v40]
    rfl
  rw [e, r_v40 g]
  rfl

end Cert.Vq.Ref

end
-- ==== Proof.Ref.Quant.lean ====
/- The reference's quantizer over plain arrays. -/
module

public import proofs.«01_k».proof.Proof.Ref.Run
public import proofs.«01_k».proof.Proof.Val.Vq
public import proofs.«01_k».proof.Proof.Val.Arith
public import proofs.«01_k».proof.Proof.Val.Window
public import Idealize.ShloMosaic.Lib.Pipeline.ValueKit
public import Idealize.ShloMosaic.Lib.Pointwise

@[expose] public section

set_option maxRecDepth 16384
set_option maxHeartbeats 4000000

noncomputable section

namespace Cert.Vq.Ref

open Cert.ReferenceIdeal Cert.ReferenceIdeal.Gen Idealize.ShloMosaic Idealize.ShloMosaic.TcCoe Idealize.SL.Sem Idealize.ShloMosaic.StableHlo

/-- The distances. -/
theorem dist_at (z : S25088x64.Idx → EReal) (w : S512x64.Idx → EReal) (R : Fin 25088) (k : Fin 512) :
    subf (F := Ideal) (φ := .f32) (addf (broadcastInDim S25088x512 ![0] bcast_S25088_S25088x512_0 (Host.dotGeneral (F := Ideal) (φ₁ := .f32) (φ₂ := .f32) dot_S25088x64_S25088x64_S25088_1_1_n_n_0_0 none z z))
      (broadcastInDim S25088x512 ![1] bcast_S512_S25088x512_1 (Host.dotGeneral (F := Ideal) (φ₁ := .f32) (φ₂ := .f32) dot_S512x64_S512x64_S512_1_1_n_n_0_0 none w w)))
      (mulf (broadcastInDim S25088x512 ![] bcast_S_S25088x512 (constant S_ .f32 0x40000000#32))
        (Host.dotGeneral (F := Ideal) (φ₁ := .f32) (φ₂ := .f32) dot_S25088x64_S512x64_S25088x512_1_1_0_0_n_n none z w)) (ix2 R k) = dist (M := 25088) z w R k := by
  pointwise
  rfl

/-- The product of the marks of the nearest codes with the codes. -/
theorem quant_at (u : IVec S25088 32) (z : S25088x64.Idx → EReal) (w : S512x64.Idx → EReal)
    (hu : ∀ R : Fin 25088, u (ix1 R) = BitVec.ofNat 32 (near (dist (M := 25088) z w R)).val) :
    Host.dotGeneral (F := Ideal) (φ₁ := .f32) (φ₂ := .f32) dot_S25088x512_S512x64_S25088x64_1_0_0_1_n_n none
      (uitofp .f32 (cmpi .eq (iotaInDim S25088x512 32 1) (broadcastInDim S25088x512 ![0] bcast_S25088_S25088x512_0 u))) w =
      fun i : S25088x64.Idx => quant (M := 25088) z w (i 0) (i 1) := by
  funext i
  obtain ⟨R, n, rfl⟩ : ∃ (R : Fin 25088) (n : Fin 64), i = ix2 R n := ⟨i 0, i 1, eq_ix2 i⟩
  pointwise
  refine sum_onehot (near (dist (M := 25088) z w R)) (fun k => w (ix2 k n)) _ fun k => ?_
  rw [hu]
  by_cases h : k = near (dist (M := 25088) z w R)
  · rw [if_pos h, h, show IntOp.cmpi CmpIPredicate.eq _ _ = BitVec.ofBool _ from rfl, beq_self_eq_true]
    change (((1 : Nat) : ℝ) : EReal) = 1
    norm_num
  · have := mt (code_eq_iff k _).1 h
    rw [if_neg h, show IntOp.cmpi CmpIPredicate.eq _ _ = BitVec.ofBool _ from rfl, beq_false_of_ne this]
    change (((0 : Nat) : ℝ) : EReal) = 0
    norm_num

/-- A sum over an image is the sum over the matrix it is a reshape of. -/
theorem sum_image (f : S25088x64.Idx → EReal) (h : S25088x64.ShapeCasts S8x56x64x56) :
    ∑ i, shapeCast S8x56x64x56 f h i = ∑ R : Fin 25088, ∑ n : Fin 64, f (ix2 R n) :=
  (Equiv.sum_comp (Shape.reshapeEquiv h) f).trans (sum_idx2 f)

/-- The sum over all indices. -/
theorem sum_all (x : S8x56x64x56.Idx → EReal) (i : S_.Idx) :
    Host.reduceAdd (F := Ideal) (φ := .f32) x (constant (F := Ideal) S_ .f32 0x00000000#32) reducesTo_S8x56x64x56_S_d0_1_2_3 h_S_ i = ∑ j, x j := by
  show constant (F := Ideal) S_ .f32 0x00000000#32 _ + ∑ j ∈ Finset.univ.filter (fun j => reducesTo_S8x56x64x56_S_d0_1_2_3.drop j = i), x j = _
  rw [zero_at, zero_add, Finset.filter_true_of_mem fun j _ => funext fun a => Fin.elim0 a]

/-- A square of extended reals is not negative. -/
theorem sq_nonneg' (t : EReal) : 0 ≤ t * t := by
  rcases le_total 0 t with h | h
  · exact mul_nonneg h h
  · rw [← neg_mul_neg]
    have h' : 0 ≤ -t := by rw [EReal.le_neg]; simpa using h
    exact mul_nonneg h' h'

/-- The loss: five quarters of the mean of the squared errors. -/
theorem loss_at (q z : S25088x64.Idx → EReal) (w : S512x64.Idx → EReal) (l : S8x56x64x56.Idx → EReal) (h : S25088x64.ShapeCasts S8x56x64x56)
    (hq : q = fun i : S25088x64.Idx => quant (M := 25088) z w (i 0) (i 1)) (hl : l = shapeCast S8x56x64x56 z h) :
    (addf (F := Ideal) (φ := .f32) (Host.divf (Host.reduceAdd (mulf (F := Ideal) (φ := .f32) (subf (shapeCast S8x56x64x56 q h) l) (subf (shapeCast S8x56x64x56 q h) l)) (constant S_ .f32 0x00000000#32) reducesTo_S8x56x64x56_S_d0_1_2_3 h_S_) (constant S_ .f32 0x49C40000#32))
      (mulf (constant S_ .f32 0x3E800000#32) (Host.divf (Host.reduceAdd (mulf (F := Ideal) (φ := .f32) (subf (shapeCast S8x56x64x56 q h) l) (subf (shapeCast S8x56x64x56 q h) l)) (constant S_ .f32 0x00000000#32) reducesTo_S8x56x64x56_S_d0_1_2_3 h_S_) (constant S_ .f32 0x49C40000#32)))) =
      fun _ => Ideal.div (Ideal.ofBits .f32 1067450368#32 * ∑ R : Fin 25088, sqerr (M := 25088) z w R) (Ideal.ofBits .f32 1237581824#32) := by
  subst hl
  have hs : mulf (F := Ideal) (φ := .f32) (subf (shapeCast S8x56x64x56 q h) (shapeCast S8x56x64x56 z h)) (subf (shapeCast S8x56x64x56 q h) (shapeCast S8x56x64x56 z h)) =
      shapeCast S8x56x64x56 (fun i => (q i - z i) * (q i - z i)) h := rfl
  rw [hs]
  funext i
  rw [loss_eq (∑ R : Fin 25088, sqerr (M := 25088) z w R) (Finset.sum_nonneg fun R _ => Finset.sum_nonneg fun n _ => sq_nonneg' _)]
  have e : Host.reduceAdd (F := Ideal) (φ := .f32) (shapeCast S8x56x64x56 (fun i => (q i - z i) * (q i - z i)) h) (constant (F := Ideal) S_ .f32 0x00000000#32)
      reducesTo_S8x56x64x56_S_d0_1_2_3 h_S_ i = ∑ R : Fin 25088, sqerr (M := 25088) z w R := by
    rw [sum_all, sum_image, hq]
    rfl
  show Ideal.div (Host.reduceAdd (F := Ideal) (φ := .f32) _ _ _ _ i) _ + _ * Ideal.div (Host.reduceAdd (F := Ideal) (φ := .f32) _ _ _ _ i) _ = _
  rw [e]
  rfl

end Cert.Vq.Ref

end
-- ==== Proof.Ref.Dec.lean ====
/- The reference's quantizer and decoder, as the layers the kernel computes. -/
module

public import proofs.«01_k».proof.Proof.Ref.Win17
public import proofs.«01_k».proof.Proof.Ref.Enc
public import proofs.«01_k».proof.Proof.Ref.Quant

@[expose] public section

set_option maxRecDepth 16384
set_option maxHeartbeats 4000000

noncomputable section

namespace Cert.Vq.Ref

open Cert.ReferenceIdeal Cert.ReferenceIdeal.Gen Idealize.ShloMosaic Idealize.ShloMosaic.TcCoe Idealize.SL.Sem Idealize.ShloMosaic.StableHlo

variable (V : Valuation τ sig (Elt Ideal))
variable (m : (ℓ : Loc Cert.KernelIdeal.nD Cert.KernelIdeal.τ Cert.KernelIdeal.sig) → Buf (Elt Ideal) ℓ) (c : Dev Cert.KernelIdeal.nD)

variable {V m c} (g : Agree V m c)

include g

/-- The nearest codes' numbers. -/
theorem r_v51 (R : Fin 25088) : (w12 V (Proc.devRef .tc main_v51) : S25088.Idx → BitVec 32) (ix1 R) =
    BitVec.ofNat 32 (near (dist (M := 25088) (kZ m c) (ar m c Cert.KernelIdeal.main_arg7) R)).val := by
  have hw : (w10 V (rd main_arg7) : S512x64.Idx → EReal) = ar m c Cert.KernelIdeal.main_arg7 :=
    ((keep_args V main_arg7 (by decide)).2.2.2.1).trans g.a7
  have e : (w11 V (rd main_v50) : S25088x512.Idx → EReal) = fun i => dist (M := 25088) (kZ m c) (ar m c Cert.KernelIdeal.main_arg7) (i 0) (i 1) := by
    show after c11 (w10 V) (Proc.devRef .tc main_v50) = _
    rw [c11_main_v50, hw, show w10 V (rd main_v41) = _ from r_v41 g]
    funext i
    obtain ⟨R, k, rfl⟩ : ∃ (R : Fin 25088) (k : Fin 512), i = ix2 R k := ⟨i 0, i 1, eq_ix2 i⟩
    exact dist_at _ _ R k
  show after c12 (w11 V) (Proc.devRef .tc main_v51) (ix1 R) = _
  rw [c12_main_v51, e]
  exact argmin_eq _ _ _ R

/-- The quantized rows, as the reference's image. -/
theorem r_v57 : (w14 V (Proc.devRef .tc main_v57) : S8x56x64x56.Idx → EReal) = shapeCast S8x56x64x56
    (fun i : S25088x64.Idx => quant (M := 25088) (kZ m c) (ar m c Cert.KernelIdeal.main_arg7) (i 0) (i 1)) shapeCasts_S25088x64_S8x56x64x56 := by
  have hw : (w13 V (rd main_arg7) : S512x64.Idx → EReal) = ar m c Cert.KernelIdeal.main_arg7 :=
    ((keep_args V main_arg7 (by decide)).2.2.2.2.1).trans g.a7
  have e : w13 V (rd main_v54) = cmpi .eq (iotaInDim S25088x512 32 1) (broadcastInDim S25088x512 ![0] bcast_S25088_S25088x512_0 (w12 V (rd main_v51))) :=
    c13_main_v54 (w12 V)
  show after c14 (w13 V) (Proc.devRef .tc main_v57) = _
  rw [c14_main_v57, hw, e]
  exact congrArg (fun t => shapeCast S8x56x64x56 t shapeCasts_S25088x64_S8x56x64x56) (quant_at _ _ _ (r_v51 g))

/-- The latent, after the quantizer. -/
theorem r_v40' : (w14 V (Proc.devRef .tc main_v40) : S8x56x64x56.Idx → EReal) =
    transpose S8x56x64x56 [0, 2, 3, 1] (kL m c) transposes_S8x56x56x64_S8x56x64x56_0_2_3_1 := by
  rw [w14_keep V main_v40 (by decide), w13_keep V main_v40 (by decide), w12_keep V main_v40 (by decide), w11_keep V main_v40 (by decide)]
  exact r_v40 g

/-- The loss. -/
theorem r_v63 : (w15 V (Proc.devRef .tc main_v63) : S_.Idx → EReal) = fun _ => Ideal.div (Ideal.ofBits .f32 1067450368#32 *
    ∑ R : Fin 25088, sqerr (M := 25088) (kZ m c) (ar m c Cert.KernelIdeal.main_arg7) R) (Ideal.ofBits .f32 1237581824#32) := by
  show after c15 (w14 V) (Proc.devRef .tc main_v63) = _
  rw [c15_main_v63, show w14 V (rd main_v57) = _ from r_v57 g, show w14 V (rd main_v40) = _ from r_v40' g]
  refine loss_at _ (kZ m c) (ar m c Cert.KernelIdeal.main_arg7) _ _ rfl ?_
  exact (shapeCast_shapeCast _ _ _).symm

/-- The quantized latent as an image, where the latent is real. -/
theorem r_v65 (hL : ∀ i, IsReal (kL m c i)) : (w16 V (Proc.devRef .tc main_v65) : S8x56x56x64.Idx → EReal) = kQ m c := by
  have e58 : (w15 V (rd main_v58) : S8x56x64x56.Idx → EReal) = subf (F := Ideal) (φ := .f32) (s := S8x56x64x56) (w14 V (rd main_v57)) (w14 V (rd main_v40)) :=
    c15_main_v58 (w14 V)
  have e40 : w15 V (rd main_v40) = w14 V (rd main_v40) := w15_keep V main_v40 (by decide)
  show after c16 (w15 V) (Proc.devRef .tc main_v65) = _
  rw [c16_main_v65, e58, e40, show w14 V (rd main_v57) = _ from r_v57 g, show w14 V (rd main_v40) = _ from r_v40' g]
  refine congrArg (fun t => transpose S8x56x56x64 [0, 3, 1, 2] t transposes_S8x56x64x56_S8x56x56x64_0_3_1_2) ?_
  funext i
  exact add_sub_back (hL _)

/-- The loss, at the end. -/
theorem r_loss : (w26 V (Proc.devRef .tc main_v63) : S_.Idx → EReal) = fun _ => Ideal.div (Ideal.ofBits .f32 1067450368#32 *
    ∑ R : Fin 25088, sqerr (M := 25088) (kZ m c) (ar m c Cert.KernelIdeal.main_arg7) R) (Ideal.ofBits .f32 1237581824#32) := by
  rw [w26_keep V main_v63 (by decide), w25_keep V main_v63 (by decide), w24_keep V main_v63 (by decide), w23_keep V main_v63 (by decide), w22_keep V main_v63 (by decide), w21_keep V main_v63 (by decide), w20_keep V main_v63 (by decide), w19_keep V main_v63 (by decide), w18_keep V main_v63 (by decide), w17_keep V main_v63 (by decide), w16_keep V main_v63 (by decide)]
  exact r_v63 g

end Cert.Vq.Ref

end
-- ==== Proof.Ref.Out.lean ====
/- The reference's decoder, as the layers the kernel computes. -/
module

public import proofs.«01_k».proof.Proof.Ref.Win17
public import proofs.«01_k».proof.Proof.Ref.Dec

@[expose] public section

set_option maxRecDepth 16384
set_option maxHeartbeats 4000000

noncomputable section

namespace Cert.Vq.Ref

open Cert.ReferenceIdeal Cert.ReferenceIdeal.Gen Idealize.ShloMosaic Idealize.ShloMosaic.TcCoe Idealize.SL.Sem Idealize.ShloMosaic.StableHlo

variable (V : Valuation τ sig (Elt Ideal))
variable (m : (ℓ : Loc Cert.KernelIdeal.nD Cert.KernelIdeal.τ Cert.KernelIdeal.sig) → Buf (Elt Ideal) ℓ) (c : Dev Cert.KernelIdeal.nD)

variable {V m c} (g : Agree V m c)

include g

/-- The layer that leaves `main_v83`. -/
theorem r_v83 (hL : ∀ i, IsReal (kL m c i)) : (w21 V (Proc.devRef .tc main_v83) : S8x112x112x256.Idx → EReal) = kD m c := by
  have hw : (w20 V (rd main_arg8) : S4x4x64x256.Idx → EReal) = ar m c Cert.KernelIdeal.main_arg8 :=
    ((keep_args V main_arg8 (by decide)).2.2.2.2.2.1).trans g.a8
  have hb : (w20 V (rd main_arg9) : S256.Idx → EReal) = ar m c Cert.KernelIdeal.main_arg9 :=
    ((keep_args V main_arg9 (by decide)).2.2.2.2.2.1).trans g.a9
  show after c21 (w20 V) (Proc.devRef .tc main_v83) = _
  rw [c21_main_v83, hw, hb]
  refine act3 _ _ _ _ fun b q r Y X k => (win17 (w16 V) b q r Y X k).trans ?_
  rw [show w16 V (rd main_v65) = _ from r_v65 g hL]

/-- The layer that leaves `main_v99`. -/
theorem r_v99 (hL : ∀ i, IsReal (kL m c i)) : (w26 V (Proc.devRef .tc main_v99) : S8x224x224x3.Idx → EReal) = fun i =>
    Ideal.tanh (tconv (H := 112) (kD m c) (ar m c Cert.KernelIdeal.main_arg10) (ar m c Cert.KernelIdeal.main_arg11) (i 0) (i 1).val (i 2).val (i 3)) := by
  have hw : (w25 V (rd main_arg10) : S4x4x256x3.Idx → EReal) = ar m c Cert.KernelIdeal.main_arg10 :=
    ((keep_args V main_arg10 (by decide)).2.2.2.2.2.2).trans g.a10
  have hb : (w25 V (rd main_arg11) : S3.Idx → EReal) = ar m c Cert.KernelIdeal.main_arg11 :=
    ((keep_args V main_arg11 (by decide)).2.2.2.2.2.2).trans g.a11
  show after c26 (w25 V) (Proc.devRef .tc main_v99) = _
  rw [c26_main_v99, hw, hb]
  refine act4 _ _ _ _ fun b q r Y X k => (win22 (w21 V) b q r Y X k).trans ?_
  rw [show w21 V (rd main_v83) = _ from r_v83 g hL]

end Cert.Vq.Ref

end
-- ==== Proof.Val.KRun.lean ====
/- The kernel's run: every unscoped buffer ends at what the last boundary's contents say. -/
module

public import proofs.«01_k».proof.Proof.Gen.KernelIdeal.Frame

@[expose] public section

set_option maxRecDepth 16384

noncomputable section

namespace Cert.Vq

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every fair execution of the kernel ends, and each unscoped buffer then holds the contents of the last boundary. -/
theorem run : θ_run defs (onTc (τ := τ) (main (F := F))) ⟨m, fun _ => 0, ρ⟩ (fun r =>
    ∀ c : Dev nD, ∀ b ∈ Pipeline.ucRefs τ sig, r.2.mem (((c : Thread nD τ)).1, b) = W25 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W25 m ρ c b)
    (hfin := fun c s' => by
      iintro ⟨⟨Hh, -⟩, HSI⟩
      unfold StableHlo.held
      imodintro
      iapply (pointsTo_read_all (Pipeline.ucRefs τ sig) (fun b => (((c : Thread nD τ)).1, b)) (W25 m ρ c) s')
      isplitl [Hh] <;> iassumption)
    (hQ := fun s h _ => h)

/-- The kernel's run at its two results and its arguments. -/
theorem run_results : θ_run defs (onTc (τ := τ) (main (F := F))) ⟨m, fun _ => 0, ρ⟩ (fun r => ∀ c : Dev nD,
      r.2.mem ((c.tc : Thread nD τ).loc main_v244) = W25 m ρ c (Proc.devRef .tc main_v244)
      ∧ r.2.mem ((c.tc : Thread nD τ).loc main_v111) = W25 m ρ c (Proc.devRef .tc main_v111)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨h c _ (mem_uc main_v244 (by decide)), h c _ (mem_uc main_v111 (by decide)),
     (h c _ (mem_uc main_arg0 (by decide))).trans (W25_main_arg0 m ρ c),
     (h c _ (mem_uc main_arg1 (by decide))).trans (W25_main_arg1 m ρ c),
     (h c _ (mem_uc main_arg2 (by decide))).trans (W25_main_arg2 m ρ c),
     (h c _ (mem_uc main_arg3 (by decide))).trans (W25_main_arg3 m ρ c),
     (h c _ (mem_uc main_arg4 (by decide))).trans (W25_main_arg4 m ρ c),
     (h c _ (mem_uc main_arg5 (by decide))).trans (W25_main_arg5 m ρ c),
     (h c _ (mem_uc main_arg6 (by decide))).trans (W25_main_arg6 m ρ c),
     (h c _ (mem_uc main_arg7 (by decide))).trans (W25_main_arg7 m ρ c),
     (h c _ (mem_uc main_arg8 (by decide))).trans (W25_main_arg8 m ρ c),
     (h c _ (mem_uc main_arg9 (by decide))).trans (W25_main_arg9 m ρ c),
     (h c _ (mem_uc main_arg10 (by decide))).trans (W25_main_arg10 m ρ c),
     (h c _ (mem_uc main_arg11 (by decide))).trans (W25_main_arg11 m ρ c)⟩) (run m ρ)

end Cert.Vq

end
-- ==== Proof.Val.Alg.lean ====
/- The two programs leave the same results. -/
module

public import proofs.«01_k».proof.Defs
public import proofs.«01_k».proof.Proof.Gen.Pre_encoder_inputs_finite
public import proofs.«01_k».proof.Proof.Ref.Out
public import proofs.«01_k».proof.Proof.Val.KRun

@[expose] public section

set_option maxRecDepth 16384
set_option maxHeartbeats 4000000

noncomputable section

namespace Cert.Vq

open Idealize.ShloMosaic Idealize.ShloMosaic.TcCoe Idealize.SL.Sem Idealize.ShloMosaic.StableHlo

/-- An extended real whose absolute value is below infinity is a real number. -/
theorem real_of_mask (t : EReal)
    (h : FloatOps.cmpf (F := Ideal) (φ := .f32) .olt (FloatOps.hostAbsf (F := Ideal) (φ := .f32) t) (FloatOps.ofBits (F := Ideal) .f32 0x7F800000#32) = 1#1) :
    IsReal t := by
  have htop : Ideal.ofBits .f32 0x7F800000#32 = ⊤ := by simp [Ideal.ofBits, Ideal.ieee]
  replace h : BitVec.ofBool (decide (max t (-t) < Ideal.ofBits .f32 0x7F800000#32)) = 1#1 := h
  rw [htop] at h
  have hlt : max t (-t) < ⊤ := by
    by_contra hn
    simp [hn] at h
  rw [max_lt_iff] at hlt
  induction t with
  | bot => simp at hlt
  | top => simp at hlt
  | coe r => exact ⟨r, rfl⟩

/-- The precondition: the image and the encoder's weights and biases are real numbers. -/
theorem inputs_real (m : (ℓ : Loc Cert.KernelIdeal.nD Cert.KernelIdeal.τ Cert.KernelIdeal.sig) → Buf (Elt Ideal) ℓ)
    (h : Cert.Pre_KernelIdeal_encoder_inputs_finite m) (c : Dev Cert.KernelIdeal.nD) :
    (∀ i, IsReal ((ar m c Cert.KernelIdeal.main_arg0 : Cert.KernelIdeal.S8x224x224x3.Idx → EReal) i))
    ∧ (∀ i, IsReal ((ar m c Cert.KernelIdeal.main_arg1 : Cert.KernelIdeal.S4x4x3x128.Idx → EReal) i))
    ∧ (∀ i, IsReal ((ar m c Cert.KernelIdeal.main_arg2 : Cert.KernelIdeal.S128.Idx → EReal) i))
    ∧ (∀ i, IsReal ((ar m c Cert.KernelIdeal.main_arg3 : Cert.KernelIdeal.S4x4x128x256.Idx → EReal) i))
    ∧ (∀ i, IsReal ((ar m c Cert.KernelIdeal.main_arg4 : Cert.KernelIdeal.S256.Idx → EReal) i))
    ∧ (∀ i, IsReal ((ar m c Cert.KernelIdeal.main_arg5 : Cert.KernelIdeal.S1x1x256x64.Idx → EReal) i))
    ∧ (∀ i, IsReal ((ar m c Cert.KernelIdeal.main_arg6 : Cert.KernelIdeal.S64.Idx → EReal) i)) := by
  obtain ⟨h0, h1, h2, h3, h4, h5, h6⟩ := h c
  exact ⟨fun i => real_of_mask _ (congrFun h0 i), fun i => real_of_mask _ (congrFun h1 i), fun i => real_of_mask _ (congrFun h2 i),
    fun i => real_of_mask _ (congrFun h3 i), fun i => real_of_mask _ (congrFun h4 i), fun i => real_of_mask _ (congrFun h5 i),
    fun i => real_of_mask _ (congrFun h6 i)⟩

/-- Under the precondition the latent is real. -/
theorem latent_real (m : (ℓ : Loc Cert.KernelIdeal.nD Cert.KernelIdeal.τ Cert.KernelIdeal.sig) → Buf (Elt Ideal) ℓ)
    (h : Cert.Pre_KernelIdeal_encoder_inputs_finite m) (c : Dev Cert.KernelIdeal.nD) (i : Cert.KernelIdeal.S8x56x56x64.Idx) : IsReal (kL m c i) := by
  obtain ⟨h0, h1, h2, h3, h4, h5, h6⟩ := inputs_real m h c
  have r1 : ∀ i, IsReal (kH1 m c i) := fun i => IsReal.leaky (.conv h0 h1 h2 _ _ _ _)
  have r2 : ∀ i, IsReal (kH2 m c i) := fun i => IsReal.leaky (.conv r1 h3 h4 _ _ _ _)
  exact .add (.sum _ _ fun k => .mul (r2 _) (h5 _)) (h6 _)

/-- From equal arguments, the image and the encoder's weights and biases being finite, both programs end with equal
    results: the reconstruction and the loss. -/
theorem algebraic : Cert.algebraic_KernelIdeal_ReferenceIdeal_pre_encoder_inputs_finite := by
  intro m g m' g' hpre hargs
  have ha : ∀ c : Dev Cert.KernelIdeal.nD, Ref.Agree (launchContents m' c) m c := fun c =>
    let ⟨a0, a1, a2, a3, a4, a5, a6, a7, a8, a9, a10, a11⟩ := hargs c
    ⟨a0, a1, a2, a3, a4, a5, a6, a7, a8, a9, a10, a11⟩
  refine ⟨fun c => fun i : Cert.KernelIdeal.S8x224x224x3.Idx =>
      Ideal.tanh (tconv (H := 112) (kD m c) (ar m c Cert.KernelIdeal.main_arg10) (ar m c Cert.KernelIdeal.main_arg11) (i 0) (i 1).val (i 2).val (i 3)),
    fun c => fun _ => Ideal.div (Ideal.ofBits .f32 1067450368#32 *
      ∑ R : Fin 25088, sqerr (M := 25088) (kZ m c) (ar m c Cert.KernelIdeal.main_arg7) R) (Ideal.ofBits .f32 1237581824#32), ?_, ?_⟩
  · exact (θ_run _ _ _).mono (fun r h c => ⟨(h c).1.trans (k_out m g c), (h c).2.1.trans (k_loss m g c), (h c).2.2⟩) (run_results m g)
  · exact (θ_run _ _ _).mono (fun r h c => ⟨(h c).1.trans (Ref.r_v99 (ha c) (latent_real m hpre c)), (h c).2.1.trans (Ref.r_loss (ha c)), (h c).2.2⟩)
      (Ref.run_args m' g')

end Cert.Vq

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_encoder_inputs_finite
public import proofs.«01_k».proof.Proof.Ref.Run
public import proofs.«01_k».proof.Proof.Val.Alg
public import Idealize.ShloMosaic.Adequacy
public import Idealize.ShloMosaic.Init

@[expose] public section

noncomputable section

namespace Cert.Proof

/-- The certificate's claim. -/
theorem claim : Cert.Claim := ⟨Cert.Kernel.Gen.facts, Cert.KernelIdeal.Gen.facts, Cert.ReferenceIdeal.Gen.facts, Cert.Pre_encoder_inputs_finite.Gen.facts,
  fun m ρ _ => Cert.Kernel.Gen.frame m ρ, fun m ρ _ => Cert.KernelIdeal.Gen.frame m ρ, fun m ρ _ => Cert.KernelIdeal.Gen.frame m ρ,
  Cert.Vq.Ref.frame, fun m ρ _ => Cert.Vq.Ref.frame m ρ trivial, trivial, Cert.Vq.algebraic⟩

end Cert.Proof

end
